-- ==== Defs.lean ====
def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixIdeal_prompt_pool_finite [hPre_prompt_pool_finite : Cert.Pre_prompt_pool_finite.Facts] (m : (ℓ : Loc Cert.MixIdeal.nD Cert.MixIdeal.τ Cert.MixIdeal.sig) → Buf (Elt Ideal) ℓ) : Prop :=
  ∀ c : Dev Cert.MixIdeal.nD,
    (Cert.Pre_prompt_pool_finite.fn (F := Ideal) (m ((c.tc : Thread Cert.MixIdeal.nD Cert.MixIdeal.τ).loc Cert.MixIdeal.main_arg0)) (m ((c.tc : Thread Cert.MixIdeal.nD Cert.MixIdeal.τ).loc Cert.MixIdeal.main_arg1)) (m ((c.tc : Thread Cert.MixIdeal.nD Cert.MixIdeal.τ).loc Cert.MixIdeal.main_arg2)) (m ((c.tc : Thread Cert.MixIdeal.nD Cert.MixIdeal.τ).loc Cert.MixIdeal.main_arg3)) (m ((c.tc : Thread Cert.MixIdeal.nD Cert.MixIdeal.τ).loc Cert.MixIdeal.main_arg4)) (m ((c.tc : Thread Cert.MixIdeal.nD Cert.MixIdeal.τ).loc Cert.MixIdeal.main_arg5)) (m ((c.tc : Thread Cert.MixIdeal.nD Cert.MixIdeal.τ).loc Cert.MixIdeal.main_arg6))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_prompt_pool_finite [hPre_prompt_pool_finite : Cert.Pre_prompt_pool_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_prompt_pool_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5)) (m ((c.tc : Thread Cert.MixRefIdeal.nD Cert.MixRefIdeal.τ).loc Cert.MixRefIdeal.main_arg6))) = (fun _ => 1#1)

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSIdeal_sample_pool_finite [hPre_sample_pool_finite : Cert.Pre_sample_pool_finite.Facts] (m : (ℓ : Loc Cert.MixSIdeal.nD Cert.MixSIdeal.τ Cert.MixSIdeal.sig) → Buf (Elt Ideal) ℓ) : Prop :=
  ∀ c : Dev Cert.MixSIdeal.nD,
    (Cert.Pre_sample_pool_finite.fn (F := Ideal) (m ((c.tc : Thread Cert.MixSIdeal.nD Cert.MixSIdeal.τ).loc Cert.MixSIdeal.main_arg0)) (m ((c.tc : Thread Cert.MixSIdeal.nD Cert.MixSIdeal.τ).loc Cert.MixSIdeal.main_arg1)) (m ((c.tc : Thread Cert.MixSIdeal.nD Cert.MixSIdeal.τ).loc Cert.MixSIdeal.main_arg2)) (m ((c.tc : Thread Cert.MixSIdeal.nD Cert.MixSIdeal.τ).loc Cert.MixSIdeal.main_arg3)) (m ((c.tc : Thread Cert.MixSIdeal.nD Cert.MixSIdeal.τ).loc Cert.MixSIdeal.main_arg4)) (m ((c.tc : Thread Cert.MixSIdeal.nD Cert.MixSIdeal.τ).loc Cert.MixSIdeal.main_arg5)) (m ((c.tc : Thread Cert.MixSIdeal.nD Cert.MixSIdeal.τ).loc Cert.MixSIdeal.main_arg6)) (m ((c.tc : Thread Cert.MixSIdeal.nD Cert.MixSIdeal.τ).loc Cert.MixSIdeal.main_arg7))) = (fun _ => 1#1)

def Pre_MixSRefIdeal (m : (ℓ : Loc Cert.MixSRefIdeal.nD Cert.MixSRefIdeal.τ Cert.MixSRefIdeal.sig) → Buf (Elt Ideal) ℓ) : Prop :=
  True

def Pre_MixSRefIdeal_sample_pool_finite [hPre_sample_pool_finite : Cert.Pre_sample_pool_finite.Facts] (m : (ℓ : Loc Cert.MixSRefIdeal.nD Cert.MixSRefIdeal.τ Cert.MixSRefIdeal.sig) → Buf (Elt Ideal) ℓ) : Prop :=
  ∀ c : Dev Cert.MixSRefIdeal.nD,
    (Cert.Pre_sample_pool_finite.fn (F := Ideal) (m ((c.tc : Thread Cert.MixSRefIdeal.nD Cert.MixSRefIdeal.τ).loc Cert.MixSRefIdeal.main_arg0)) (m ((c.tc : Thread Cert.MixSRefIdeal.nD Cert.MixSRefIdeal.τ).loc Cert.MixSRefIdeal.main_arg1)) (m ((c.tc : Thread Cert.MixSRefIdeal.nD Cert.MixSRefIdeal.τ).loc Cert.MixSRefIdeal.main_arg2)) (m ((c.tc : Thread Cert.MixSRefIdeal.nD Cert.MixSRefIdeal.τ).loc Cert.MixSRefIdeal.main_arg3)) (m ((c.tc : Thread Cert.MixSRefIdeal.nD Cert.MixSRefIdeal.τ).loc Cert.MixSRefIdeal.main_arg4)) (m ((c.tc : Thread Cert.MixSRefIdeal.nD Cert.MixSRefIdeal.τ).loc Cert.MixSRefIdeal.main_arg5)) (m ((c.tc : Thread Cert.MixSRefIdeal.nD Cert.MixSRefIdeal.τ).loc Cert.MixSRefIdeal.main_arg6)) (m ((c.tc : Thread Cert.MixSRefIdeal.nD Cert.MixSRefIdeal.τ).loc Cert.MixSRefIdeal.main_arg7))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FinalP (m : (ℓ : Loc Cert.FinalP.nD Cert.FinalP.τ Cert.FinalP.sig) → Buf (Elt Bits) ℓ) : Prop :=
  True

def Pre_FinalPIdeal (m : (ℓ : Loc Cert.FinalPIdeal.nD Cert.FinalPIdeal.τ Cert.FinalPIdeal.sig) → Buf (Elt Ideal) ℓ) : Prop :=
  True

def Pre_FinalPRefIdeal (m : (ℓ : Loc Cert.FinalPRefIdeal.nD Cert.FinalPRefIdeal.τ Cert.FinalPRefIdeal.sig) → Buf (Elt Ideal) ℓ) : Prop :=
  True

def Pre_FinalS (m : (ℓ : Loc Cert.FinalS.nD Cert.FinalS.τ Cert.FinalS.sig) → Buf (Elt Bits) ℓ) : Prop :=
  True

def Pre_FinalSIdeal (m : (ℓ : Loc Cert.FinalSIdeal.nD Cert.FinalSIdeal.τ Cert.FinalSIdeal.sig) → Buf (Elt Ideal) ℓ) : Prop :=
  True

def Pre_FinalSRefIdeal (m : (ℓ : Loc Cert.FinalSRefIdeal.nD Cert.FinalSRefIdeal.τ Cert.FinalSRefIdeal.sig) → Buf (Elt Ideal) ℓ) : Prop :=
  True

def Pre_Route (m : (ℓ : Loc Cert.Route.nD Cert.Route.τ Cert.Route.sig) → Buf (Elt Bits) ℓ) : Prop :=
  True

def Pre_RouteIdeal (m : (ℓ : Loc Cert.RouteIdeal.nD Cert.RouteIdeal.τ Cert.RouteIdeal.sig) → Buf (Elt Ideal) ℓ) : Prop :=
  True

def Pre_RouteIdeal_route_finite [hPre_route_finite : Cert.Pre_route_finite.Facts] (m : (ℓ : Loc Cert.RouteIdeal.nD Cert.RouteIdeal.τ Cert.RouteIdeal.sig) → Buf (Elt Ideal) ℓ) : Prop :=
  ∀ c : Dev Cert.RouteIdeal.nD,
    (Cert.Pre_route_finite.fn (F := Ideal) (m ((c.tc : Thread Cert.RouteIdeal.nD Cert.RouteIdeal.τ).loc Cert.RouteIdeal.main_arg0)) (m ((c.tc : Thread Cert.RouteIdeal.nD Cert.RouteIdeal.τ).loc Cert.RouteIdeal.main_arg1)) (m ((c.tc : Thread Cert.RouteIdeal.nD Cert.RouteIdeal.τ).loc Cert.RouteIdeal.main_arg2)) (m ((c.tc : Thread Cert.RouteIdeal.nD Cert.RouteIdeal.τ).loc Cert.RouteIdeal.main_arg3)) (m ((c.tc : Thread Cert.RouteIdeal.nD Cert.RouteIdeal.τ).loc Cert.RouteIdeal.main_arg4)) (m ((c.tc : Thread Cert.RouteIdeal.nD Cert.RouteIdeal.τ).loc Cert.RouteIdeal.main_arg5))) = (fun _ => 1#1)

def Pre_RouteRefIdeal (m : (ℓ : Loc Cert.RouteRefIdeal.nD Cert.RouteRefIdeal.τ Cert.RouteRefIdeal.sig) → Buf (Elt Ideal) ℓ) : Prop :=
  True

def Pre_RouteRefIdeal_route_finite [hPre_route_finite : Cert.Pre_route_finite.Facts] (m : (ℓ : Loc Cert.RouteRefIdeal.nD Cert.RouteRefIdeal.τ Cert.RouteRefIdeal.sig) → Buf (Elt Ideal) ℓ) : Prop :=
  ∀ c : Dev Cert.RouteRefIdeal.nD,
    (Cert.Pre_route_finite.fn (F := Ideal) (m ((c.tc : Thread Cert.RouteRefIdeal.nD Cert.RouteRefIdeal.τ).loc Cert.RouteRefIdeal.main_arg0)) (m ((c.tc : Thread Cert.RouteRefIdeal.nD Cert.RouteRefIdeal.τ).loc Cert.RouteRefIdeal.main_arg1)) (m ((c.tc : Thread Cert.RouteRefIdeal.nD Cert.RouteRefIdeal.τ).loc Cert.RouteRefIdeal.main_arg2)) (m ((c.tc : Thread Cert.RouteRefIdeal.nD Cert.RouteRefIdeal.τ).loc Cert.RouteRefIdeal.main_arg3)) (m ((c.tc : Thread Cert.RouteRefIdeal.nD Cert.RouteRefIdeal.τ).loc Cert.RouteRefIdeal.main_arg4)) (m ((c.tc : Thread Cert.RouteRefIdeal.nD Cert.RouteRefIdeal.τ).loc Cert.RouteRefIdeal.main_arg5))) = (fun _ => 1#1)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixIdeal_pre_prompt_pool_finite [hMixIdeal : Cert.MixIdeal.Facts] [hPre_prompt_pool_finite : Cert.Pre_prompt_pool_finite.Facts] : Prop :=
  ∀ (m : (ℓ : Loc Cert.MixIdeal.nD Cert.MixIdeal.τ Cert.MixIdeal.sig) → Buf (Elt Ideal) ℓ) (g : Dev Cert.MixIdeal.nD → PrngReg), Pre_MixIdeal_prompt_pool_finite m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_MixRefIdeal_pre_prompt_pool_finite [hMixRefIdeal : Cert.MixRefIdeal.Facts] [hPre_prompt_pool_finite : Cert.Pre_prompt_pool_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_prompt_pool_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7))
      ∧ r.2.sem = fun _ => 0)

def quiescent_MixSIdeal_pre_sample_pool_finite [hMixSIdeal : Cert.MixSIdeal.Facts] [hPre_sample_pool_finite : Cert.Pre_sample_pool_finite.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal_sample_pool_finite m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7))
      ∧ r.2.sem = fun _ => 0)

def quiescent_MixSRefIdeal_pre_sample_pool_finite [hMixSRefIdeal : Cert.MixSRefIdeal.Facts] [hPre_sample_pool_finite : Cert.Pre_sample_pool_finite.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal_sample_pool_finite m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_FinalP [hFinalP : Cert.FinalP.Facts] : Prop :=
  ∀ (m : (ℓ : Loc Cert.FinalP.nD Cert.FinalP.τ Cert.FinalP.sig) → Buf (Elt Bits) ℓ) (g : Dev Cert.FinalP.nD → PrngReg), Pre_FinalP m →
    θ_run (Cert.FinalP.defs (F := Bits)) (onTc (τ := Cert.FinalP.τ) (Cert.FinalP.main (F := Bits))) ⟨m, fun _ => 0, g⟩ (fun r => (∀ c : Dev Cert.FinalP.nD,
      r.2.mem ((c.tc : Thread Cert.FinalP.nD Cert.FinalP.τ).loc Cert.FinalP.main_arg0) = m ((c.tc : Thread Cert.FinalP.nD Cert.FinalP.τ).loc Cert.FinalP.main_arg0)
      ∧ r.2.mem ((c.tc : Thread Cert.FinalP.nD Cert.FinalP.τ).loc Cert.FinalP.main_arg1) = m ((c.tc : Thread Cert.FinalP.nD Cert.FinalP.τ).loc Cert.FinalP.main_arg1))
      ∧ r.2.sem = fun _ => 0)

def quiescent_FinalPIdeal [hFinalPIdeal : Cert.FinalPIdeal.Facts] : Prop :=
  ∀ (m : (ℓ : Loc Cert.FinalPIdeal.nD Cert.FinalPIdeal.τ Cert.FinalPIdeal.sig) → Buf (Elt Ideal) ℓ) (g : Dev Cert.FinalPIdeal.nD → PrngReg), Pre_FinalPIdeal m →
    θ_run (Cert.FinalPIdeal.defs (F := Ideal)) (onTc (τ := Cert.FinalPIdeal.τ) (Cert.FinalPIdeal.main (F := Ideal))) ⟨m, fun _ => 0, g⟩ (fun r => (∀ c : Dev Cert.FinalPIdeal.nD,
      r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
      ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1))
      ∧ r.2.sem = fun _ => 0)

def quiescent_FinalPRefIdeal [hFinalPRefIdeal : Cert.FinalPRefIdeal.Facts] : Prop :=
  ∀ (m : (ℓ : Loc Cert.FinalPRefIdeal.nD Cert.FinalPRefIdeal.τ Cert.FinalPRefIdeal.sig) → Buf (Elt Ideal) ℓ) (g : Dev Cert.FinalPRefIdeal.nD → PrngReg), Pre_FinalPRefIdeal m →
    θ_run (Cert.FinalPRefIdeal.defs (F := Ideal)) (onTc (τ := Cert.FinalPRefIdeal.τ) (Cert.FinalPRefIdeal.main (F := Ideal))) ⟨m, fun _ => 0, g⟩ (fun r => (∀ c : Dev Cert.FinalPRefIdeal.nD,
      r.2.mem ((c.tc : Thread Cert.FinalPRefIdeal.nD Cert.FinalPRefIdeal.τ).loc Cert.FinalPRefIdeal.main_arg0) = m ((c.tc : Thread Cert.FinalPRefIdeal.nD Cert.FinalPRefIdeal.τ).loc Cert.FinalPRefIdeal.main_arg0)
      ∧ r.2.mem ((c.tc : Thread Cert.FinalPRefIdeal.nD Cert.FinalPRefIdeal.τ).loc Cert.FinalPRefIdeal.main_arg1) = m ((c.tc : Thread Cert.FinalPRefIdeal.nD Cert.FinalPRefIdeal.τ).loc Cert.FinalPRefIdeal.main_arg1))
      ∧ r.2.sem = fun _ => 0)

def quiescent_FinalS [hFinalS : Cert.FinalS.Facts] : Prop :=
  ∀ (m : (ℓ : Loc Cert.FinalS.nD Cert.FinalS.τ Cert.FinalS.sig) → Buf (Elt Bits) ℓ) (g : Dev Cert.FinalS.nD → PrngReg), Pre_FinalS m →
    θ_run (Cert.FinalS.defs (F := Bits)) (onTc (τ := Cert.FinalS.τ) (Cert.FinalS.main (F := Bits))) ⟨m, fun _ => 0, g⟩ (fun r => (∀ c : Dev Cert.FinalS.nD,
      r.2.mem ((c.tc : Thread Cert.FinalS.nD Cert.FinalS.τ).loc Cert.FinalS.main_arg0) = m ((c.tc : Thread Cert.FinalS.nD Cert.FinalS.τ).loc Cert.FinalS.main_arg0)
      ∧ r.2.mem ((c.tc : Thread Cert.FinalS.nD Cert.FinalS.τ).loc Cert.FinalS.main_arg1) = m ((c.tc : Thread Cert.FinalS.nD Cert.FinalS.τ).loc Cert.FinalS.main_arg1))
      ∧ r.2.sem = fun _ => 0)

def quiescent_FinalSIdeal [hFinalSIdeal : Cert.FinalSIdeal.Facts] : Prop :=
  ∀ (m : (ℓ : Loc Cert.FinalSIdeal.nD Cert.FinalSIdeal.τ Cert.FinalSIdeal.sig) → Buf (Elt Ideal) ℓ) (g : Dev Cert.FinalSIdeal.nD → PrngReg), Pre_FinalSIdeal m →
    θ_run (Cert.FinalSIdeal.defs (F := Ideal)) (onTc (τ := Cert.FinalSIdeal.τ) (Cert.FinalSIdeal.main (F := Ideal))) ⟨m, fun _ => 0, g⟩ (fun r => (∀ c : Dev Cert.FinalSIdeal.nD,
      r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
      ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ r.2.sem = fun _ => 0)

def quiescent_FinalSRefIdeal [hFinalSRefIdeal : Cert.FinalSRefIdeal.Facts] : Prop :=
  ∀ (m : (ℓ : Loc Cert.FinalSRefIdeal.nD Cert.FinalSRefIdeal.τ Cert.FinalSRefIdeal.sig) → Buf (Elt Ideal) ℓ) (g : Dev Cert.FinalSRefIdeal.nD → PrngReg), Pre_FinalSRefIdeal m →
    θ_run (Cert.FinalSRefIdeal.defs (F := Ideal)) (onTc (τ := Cert.FinalSRefIdeal.τ) (Cert.FinalSRefIdeal.main (F := Ideal))) ⟨m, fun _ => 0, g⟩ (fun r => (∀ c : Dev Cert.FinalSRefIdeal.nD,
      r.2.mem ((c.tc : Thread Cert.FinalSRefIdeal.nD Cert.FinalSRefIdeal.τ).loc Cert.FinalSRefIdeal.main_arg0) = m ((c.tc : Thread Cert.FinalSRefIdeal.nD Cert.FinalSRefIdeal.τ).loc Cert.FinalSRefIdeal.main_arg0)
      ∧ r.2.mem ((c.tc : Thread Cert.FinalSRefIdeal.nD Cert.FinalSRefIdeal.τ).loc Cert.FinalSRefIdeal.main_arg1) = m ((c.tc : Thread Cert.FinalSRefIdeal.nD Cert.FinalSRefIdeal.τ).loc Cert.FinalSRefIdeal.main_arg1))
      ∧ r.2.sem = fun _ => 0)

def quiescent_Route [hRoute : Cert.Route.Facts] : Prop :=
  ∀ (m : (ℓ : Loc Cert.Route.nD Cert.Route.τ Cert.Route.sig) → Buf (Elt Bits) ℓ) (g : Dev Cert.Route.nD → PrngReg), Pre_Route m →
    θ_run (Cert.Route.defs (F := Bits)) (onTc (τ := Cert.Route.τ) (Cert.Route.main (F := Bits))) ⟨m, fun _ => 0, g⟩ (fun r => (∀ c : Dev Cert.Route.nD,
      r.2.mem ((c.tc : Thread Cert.Route.nD Cert.Route.τ).loc Cert.Route.main_arg0) = m ((c.tc : Thread Cert.Route.nD Cert.Route.τ).loc Cert.Route.main_arg0)
      ∧ r.2.mem ((c.tc : Thread Cert.Route.nD Cert.Route.τ).loc Cert.Route.main_arg1) = m ((c.tc : Thread Cert.Route.nD Cert.Route.τ).loc Cert.Route.main_arg1)
      ∧ r.2.mem ((c.tc : Thread Cert.Route.nD Cert.Route.τ).loc Cert.Route.main_arg2) = m ((c.tc : Thread Cert.Route.nD Cert.Route.τ).loc Cert.Route.main_arg2)
      ∧ r.2.mem ((c.tc : Thread Cert.Route.nD Cert.Route.τ).loc Cert.Route.main_arg3) = m ((c.tc : Thread Cert.Route.nD Cert.Route.τ).loc Cert.Route.main_arg3)
      ∧ r.2.mem ((c.tc : Thread Cert.Route.nD Cert.Route.τ).loc Cert.Route.main_arg4) = m ((c.tc : Thread Cert.Route.nD Cert.Route.τ).loc Cert.Route.main_arg4)
      ∧ r.2.mem ((c.tc : Thread Cert.Route.nD Cert.Route.τ).loc Cert.Route.main_arg5) = m ((c.tc : Thread Cert.Route.nD Cert.Route.τ).loc Cert.Route.main_arg5))
      ∧ r.2.sem = fun _ => 0)

def quiescent_RouteIdeal [hRouteIdeal : Cert.RouteIdeal.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ r.2.sem = fun _ => 0)

def quiescent_RouteIdeal_pre_route_finite [hRouteIdeal : Cert.RouteIdeal.Facts] [hPre_route_finite : Cert.Pre_route_finite.Facts] : Prop :=
  ∀ (m : (ℓ : Loc Cert.RouteIdeal.nD Cert.RouteIdeal.τ Cert.RouteIdeal.sig) → Buf (Elt Ideal) ℓ) (g : Dev Cert.RouteIdeal.nD → PrngReg), Pre_RouteIdeal_route_finite m →
    θ_run (Cert.RouteIdeal.defs (F := Ideal)) (onTc (τ := Cert.RouteIdeal.τ) (Cert.RouteIdeal.main (F := Ideal))) ⟨m, fun _ => 0, g⟩ (fun r => (∀ c : Dev Cert.RouteIdeal.nD,
      r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
      ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
      ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
      ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
      ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
      ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ r.2.sem = fun _ => 0)

def quiescent_RouteRefIdeal [hRouteRefIdeal : Cert.RouteRefIdeal.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5))
      ∧ r.2.sem = fun _ => 0)

def quiescent_RouteRefIdeal_pre_route_finite [hRouteRefIdeal : Cert.RouteRefIdeal.Facts] [hPre_route_finite : Cert.Pre_route_finite.Facts] : Prop :=
  ∀ (m : (ℓ : Loc Cert.RouteRefIdeal.nD Cert.RouteRefIdeal.τ Cert.RouteRefIdeal.sig) → Buf (Elt Ideal) ℓ) (g : Dev Cert.RouteRefIdeal.nD → PrngReg), Pre_RouteRefIdeal_route_finite m →
    θ_run (Cert.RouteRefIdeal.defs (F := Ideal)) (onTc (τ := Cert.RouteRefIdeal.τ) (Cert.RouteRefIdeal.main (F := Ideal))) ⟨m, fun _ => 0, g⟩ (fun r => (∀ c : Dev Cert.RouteRefIdeal.nD,
      r.2.mem ((c.tc : Thread Cert.RouteRefIdeal.nD Cert.RouteRefIdeal.τ).loc Cert.RouteRefIdeal.main_arg0) = m ((c.tc : Thread Cert.RouteRefIdeal.nD Cert.RouteRefIdeal.τ).loc Cert.RouteRefIdeal.main_arg0)
      ∧ r.2.mem ((c.tc : Thread Cert.RouteRefIdeal.nD Cert.RouteRefIdeal.τ).loc Cert.RouteRefIdeal.main_arg1) = m ((c.tc : Thread Cert.RouteRefIdeal.nD Cert.RouteRefIdeal.τ).loc Cert.RouteRefIdeal.main_arg1)
      ∧ r.2.mem ((c.tc : Thread Cert.RouteRefIdeal.nD Cert.RouteRefIdeal.τ).loc Cert.RouteRefIdeal.main_arg2) = m ((c.tc : Thread Cert.RouteRefIdeal.nD Cert.RouteRefIdeal.τ).loc Cert.RouteRefIdeal.main_arg2)
      ∧ r.2.mem ((c.tc : Thread Cert.RouteRefIdeal.nD Cert.RouteRefIdeal.τ).loc Cert.RouteRefIdeal.main_arg3) = m ((c.tc : Thread Cert.RouteRefIdeal.nD Cert.RouteRefIdeal.τ).loc Cert.RouteRefIdeal.main_arg3)
      ∧ r.2.mem ((c.tc : Thread Cert.RouteRefIdeal.nD Cert.RouteRefIdeal.τ).loc Cert.RouteRefIdeal.main_arg4) = m ((c.tc : Thread Cert.RouteRefIdeal.nD Cert.RouteRefIdeal.τ).loc Cert.RouteRefIdeal.main_arg4)
      ∧ r.2.mem ((c.tc : Thread Cert.RouteRefIdeal.nD Cert.RouteRefIdeal.τ).loc Cert.RouteRefIdeal.main_arg5) = m ((c.tc : Thread Cert.RouteRefIdeal.nD Cert.RouteRefIdeal.τ).loc Cert.RouteRefIdeal.main_arg5))
      ∧ r.2.sem = fun _ => 0)

def preserves_Mix_MixIdeal : Prop :=
  True

def algebraic_MixIdeal_MixRefIdeal_pre_prompt_pool_finite [hMixIdeal : Cert.MixIdeal.Facts] [hMixRefIdeal : Cert.MixRefIdeal.Facts] [hPre_prompt_pool_finite : Cert.Pre_prompt_pool_finite.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal_prompt_pool_finite m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_1)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_1) = v1 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v106) = v0 c
          ∧ r.2.mem ((c.tc : Thread Cert.MixRefIdeal.nD Cert.MixRefIdeal.τ).loc Cert.MixRefIdeal.main_v68) = v1 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6))

def preserves_MixS_MixSIdeal : Prop :=
  True

def algebraic_MixSIdeal_MixSRefIdeal_pre_sample_pool_finite [hMixSIdeal : Cert.MixSIdeal.Facts] [hMixSRefIdeal : Cert.MixSRefIdeal.Facts] [hPre_sample_pool_finite : Cert.Pre_sample_pool_finite.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal_sample_pool_finite m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)
      ∧ m' ((c.tc : Thread Cert.MixSRefIdeal.nD Cert.MixSRefIdeal.τ).loc Cert.MixSRefIdeal.main_arg7) = m ((c.tc : Thread Cert.MixSIdeal.nD Cert.MixSIdeal.τ).loc Cert.MixSIdeal.main_arg7)) →
    ∃ (v0 : (c : Dev Cert.MixSIdeal.nD) → Buf (Elt Ideal) ((c.tc : Thread Cert.MixSIdeal.nD Cert.MixSIdeal.τ).loc Cert.MixSIdeal.main_v5_0)) (v1 : (c : Dev Cert.MixSIdeal.nD) → Buf (Elt Ideal) ((c.tc : Thread Cert.MixSIdeal.nD Cert.MixSIdeal.τ).loc Cert.MixSIdeal.main_v5_1)) (v2 : (c : Dev Cert.MixSIdeal.nD) → Buf (Elt Ideal) ((c.tc : Thread Cert.MixSIdeal.nD Cert.MixSIdeal.τ).loc Cert.MixSIdeal.main_v5_2)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v5_0) = v0 c
          ∧ r.2.mem ((c.tc : Thread Cert.MixSIdeal.nD Cert.MixSIdeal.τ).loc Cert.MixSIdeal.main_v5_1) = v1 c
          ∧ r.2.mem ((c.tc : Thread Cert.MixSIdeal.nD Cert.MixSIdeal.τ).loc Cert.MixSIdeal.main_v5_2) = v2 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v109) = v0 c
          ∧ r.2.mem ((c.tc : Thread Cert.MixSRefIdeal.nD Cert.MixSRefIdeal.τ).loc Cert.MixSRefIdeal.main_v69) = v1 c
          ∧ r.2.mem ((c.tc : Thread Cert.MixSRefIdeal.nD Cert.MixSRefIdeal.τ).loc Cert.MixSRefIdeal.main_v93) = v2 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6)
          ∧ r.2.mem ((c.tc : Thread Cert.MixSRefIdeal.nD Cert.MixSRefIdeal.τ).loc Cert.MixSRefIdeal.main_arg7) = m' ((c.tc : Thread Cert.MixSRefIdeal.nD Cert.MixSRefIdeal.τ).loc Cert.MixSRefIdeal.main_arg7))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v23) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v1) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_FinalP_FinalPIdeal : Prop :=
  True

def algebraic_FinalPIdeal_FinalPRefIdeal [hFinalPIdeal : Cert.FinalPIdeal.Facts] [hFinalPRefIdeal : Cert.FinalPRefIdeal.Facts] : Prop :=
  ∀ (m : (ℓ : Loc Cert.FinalPIdeal.nD Cert.FinalPIdeal.τ Cert.FinalPIdeal.sig) → Buf (Elt Ideal) ℓ) (g : Dev Cert.FinalPIdeal.nD → PrngReg)
    (m' : (ℓ : Loc Cert.FinalPRefIdeal.nD Cert.FinalPRefIdeal.τ Cert.FinalPRefIdeal.sig) → Buf (Elt Ideal) ℓ) (g' : Dev Cert.FinalPRefIdeal.nD → PrngReg), Pre_FinalPIdeal m →
    (∀ c : Dev Cert.FinalPIdeal.nD,
      m' ((c.tc : Thread Cert.FinalPRefIdeal.nD Cert.FinalPRefIdeal.τ).loc Cert.FinalPRefIdeal.main_arg0) = m ((c.tc : Thread Cert.FinalPIdeal.nD Cert.FinalPIdeal.τ).loc Cert.FinalPIdeal.main_arg0)
      ∧ m' ((c.tc : Thread Cert.FinalPRefIdeal.nD Cert.FinalPRefIdeal.τ).loc Cert.FinalPRefIdeal.main_arg1) = m ((c.tc : Thread Cert.FinalPIdeal.nD Cert.FinalPIdeal.τ).loc Cert.FinalPIdeal.main_arg1)) →
    ∃ (v0 : (c : Dev Cert.FinalPIdeal.nD) → Buf (Elt Ideal) ((c.tc : Thread Cert.FinalPIdeal.nD Cert.FinalPIdeal.τ).loc Cert.FinalPIdeal.main_v1)),
      θ_run (Cert.FinalPIdeal.defs (F := Ideal)) (onTc (τ := Cert.FinalPIdeal.τ) (Cert.FinalPIdeal.main (F := Ideal))) ⟨m, fun _ => 0, g⟩ (fun r => ∀ c : Dev Cert.FinalPIdeal.nD,
          r.2.mem ((c.tc : Thread Cert.FinalPIdeal.nD Cert.FinalPIdeal.τ).loc Cert.FinalPIdeal.main_v1) = v0 c
          ∧ r.2.mem ((c.tc : Thread Cert.FinalPIdeal.nD Cert.FinalPIdeal.τ).loc Cert.FinalPIdeal.main_arg0) = m ((c.tc : Thread Cert.FinalPIdeal.nD Cert.FinalPIdeal.τ).loc Cert.FinalPIdeal.main_arg0)
          ∧ r.2.mem ((c.tc : Thread Cert.FinalPIdeal.nD Cert.FinalPIdeal.τ).loc Cert.FinalPIdeal.main_arg1) = m ((c.tc : Thread Cert.FinalPIdeal.nD Cert.FinalPIdeal.τ).loc Cert.FinalPIdeal.main_arg1))
      ∧ θ_run (Cert.FinalPRefIdeal.defs (F := Ideal)) (onTc (τ := Cert.FinalPRefIdeal.τ) (Cert.FinalPRefIdeal.main (F := Ideal))) ⟨m', fun _ => 0, g'⟩ (fun r => ∀ c : Dev Cert.FinalPRefIdeal.nD,
          r.2.mem ((c.tc : Thread Cert.FinalPRefIdeal.nD Cert.FinalPRefIdeal.τ).loc Cert.FinalPRefIdeal.main_v13) = v0 c
          ∧ r.2.mem ((c.tc : Thread Cert.FinalPRefIdeal.nD Cert.FinalPRefIdeal.τ).loc Cert.FinalPRefIdeal.main_arg0) = m' ((c.tc : Thread Cert.FinalPRefIdeal.nD Cert.FinalPRefIdeal.τ).loc Cert.FinalPRefIdeal.main_arg0)
          ∧ r.2.mem ((c.tc : Thread Cert.FinalPRefIdeal.nD Cert.FinalPRefIdeal.τ).loc Cert.FinalPRefIdeal.main_arg1) = m' ((c.tc : Thread Cert.FinalPRefIdeal.nD Cert.FinalPRefIdeal.τ).loc Cert.FinalPRefIdeal.main_arg1))

def preserves_FinalS_FinalSIdeal : Prop :=
  True

def algebraic_FinalSIdeal_FinalSRefIdeal [hFinalSIdeal : Cert.FinalSIdeal.Facts] [hFinalSRefIdeal : Cert.FinalSRefIdeal.Facts] : Prop :=
  ∀ (m : (ℓ : Loc Cert.FinalSIdeal.nD Cert.FinalSIdeal.τ Cert.FinalSIdeal.sig) → Buf (Elt Ideal) ℓ) (g : Dev Cert.FinalSIdeal.nD → PrngReg)
    (m' : (ℓ : Loc Cert.FinalSRefIdeal.nD Cert.FinalSRefIdeal.τ Cert.FinalSRefIdeal.sig) → Buf (Elt Ideal) ℓ) (g' : Dev Cert.FinalSRefIdeal.nD → PrngReg), Pre_FinalSIdeal m →
    (∀ c : Dev Cert.FinalSIdeal.nD,
      m' ((c.tc : Thread Cert.FinalSRefIdeal.nD Cert.FinalSRefIdeal.τ).loc Cert.FinalSRefIdeal.main_arg0) = m ((c.tc : Thread Cert.FinalSIdeal.nD Cert.FinalSIdeal.τ).loc Cert.FinalSIdeal.main_arg0)
      ∧ m' ((c.tc : Thread Cert.FinalSRefIdeal.nD Cert.FinalSRefIdeal.τ).loc Cert.FinalSRefIdeal.main_arg1) = m ((c.tc : Thread Cert.FinalSIdeal.nD Cert.FinalSIdeal.τ).loc Cert.FinalSIdeal.main_arg1)) →
    ∃ (v0 : (c : Dev Cert.FinalSIdeal.nD) → Buf (Elt Ideal) ((c.tc : Thread Cert.FinalSIdeal.nD Cert.FinalSIdeal.τ).loc Cert.FinalSIdeal.main_v1)),
      θ_run (Cert.FinalSIdeal.defs (F := Ideal)) (onTc (τ := Cert.FinalSIdeal.τ) (Cert.FinalSIdeal.main (F := Ideal))) ⟨m, fun _ => 0, g⟩ (fun r => ∀ c : Dev Cert.FinalSIdeal.nD,
          r.2.mem ((c.tc : Thread Cert.FinalSIdeal.nD Cert.FinalSIdeal.τ).loc Cert.FinalSIdeal.main_v1) = v0 c
          ∧ r.2.mem ((c.tc : Thread Cert.FinalSIdeal.nD Cert.FinalSIdeal.τ).loc Cert.FinalSIdeal.main_arg0) = m ((c.tc : Thread Cert.FinalSIdeal.nD Cert.FinalSIdeal.τ).loc Cert.FinalSIdeal.main_arg0)
          ∧ r.2.mem ((c.tc : Thread Cert.FinalSIdeal.nD Cert.FinalSIdeal.τ).loc Cert.FinalSIdeal.main_arg1) = m ((c.tc : Thread Cert.FinalSIdeal.nD Cert.FinalSIdeal.τ).loc Cert.FinalSIdeal.main_arg1))
      ∧ θ_run (Cert.FinalSRefIdeal.defs (F := Ideal)) (onTc (τ := Cert.FinalSRefIdeal.τ) (Cert.FinalSRefIdeal.main (F := Ideal))) ⟨m', fun _ => 0, g'⟩ (fun r => ∀ c : Dev Cert.FinalSRefIdeal.nD,
          r.2.mem ((c.tc : Thread Cert.FinalSRefIdeal.nD Cert.FinalSRefIdeal.τ).loc Cert.FinalSRefIdeal.main_v13) = v0 c
          ∧ r.2.mem ((c.tc : Thread Cert.FinalSRefIdeal.nD Cert.FinalSRefIdeal.τ).loc Cert.FinalSRefIdeal.main_arg0) = m' ((c.tc : Thread Cert.FinalSRefIdeal.nD Cert.FinalSRefIdeal.τ).loc Cert.FinalSRefIdeal.main_arg0)
          ∧ r.2.mem ((c.tc : Thread Cert.FinalSRefIdeal.nD Cert.FinalSRefIdeal.τ).loc Cert.FinalSRefIdeal.main_arg1) = m' ((c.tc : Thread Cert.FinalSRefIdeal.nD Cert.FinalSRefIdeal.τ).loc Cert.FinalSRefIdeal.main_arg1))

def preserves_Route_RouteIdeal : Prop :=
  IdealRules.bf16_pair.BufferStatement Cert.RouteIdeal.S16896x2x2048 Cert.RouteIdeal.S16896x1x2048
  ∧ IdealRules.bf16_pair.BufferStatement Cert.RouteIdeal.S512x2x2048 Cert.RouteIdeal.S512x1x2048
  ∧ IdealRules.bf16_pair.Statement Cert.RouteIdeal.S512x2x2048 Cert.RouteIdeal.S512x1x2048
  ∧ IdealRules.bf16_pack.Statement Cert.RouteIdeal.S512x2048

def algebraic_RouteIdeal_RouteRefIdeal_pre_route_finite [hRouteIdeal : Cert.RouteIdeal.Facts] [hRouteRefIdeal : Cert.RouteRefIdeal.Facts] [hPre_route_finite : Cert.Pre_route_finite.Facts] : Prop :=
  ∀ (m : (ℓ : Loc Cert.RouteIdeal.nD Cert.RouteIdeal.τ Cert.RouteIdeal.sig) → Buf (Elt Ideal) ℓ) (g : Dev Cert.RouteIdeal.nD → PrngReg)
    (m' : (ℓ : Loc Cert.RouteRefIdeal.nD Cert.RouteRefIdeal.τ Cert.RouteRefIdeal.sig) → Buf (Elt Ideal) ℓ) (g' : Dev Cert.RouteRefIdeal.nD → PrngReg), Pre_RouteIdeal_route_finite m →
    (∀ c : Dev Cert.RouteIdeal.nD,
      m' ((c.tc : Thread Cert.RouteRefIdeal.nD Cert.RouteRefIdeal.τ).loc Cert.RouteRefIdeal.main_arg0) = m ((c.tc : Thread Cert.RouteIdeal.nD Cert.RouteIdeal.τ).loc Cert.RouteIdeal.main_arg0)
      ∧ m' ((c.tc : Thread Cert.RouteRefIdeal.nD Cert.RouteRefIdeal.τ).loc Cert.RouteRefIdeal.main_arg1) = m ((c.tc : Thread Cert.RouteIdeal.nD Cert.RouteIdeal.τ).loc Cert.RouteIdeal.main_arg1)
      ∧ m' ((c.tc : Thread Cert.RouteRefIdeal.nD Cert.RouteRefIdeal.τ).loc Cert.RouteRefIdeal.main_arg2) = m ((c.tc : Thread Cert.RouteIdeal.nD Cert.RouteIdeal.τ).loc Cert.RouteIdeal.main_arg2)
      ∧ m' ((c.tc : Thread Cert.RouteRefIdeal.nD Cert.RouteRefIdeal.τ).loc Cert.RouteRefIdeal.main_arg3) = m ((c.tc : Thread Cert.RouteIdeal.nD Cert.RouteIdeal.τ).loc Cert.RouteIdeal.main_arg3)
      ∧ m' ((c.tc : Thread Cert.RouteRefIdeal.nD Cert.RouteRefIdeal.τ).loc Cert.RouteRefIdeal.main_arg4) = m ((c.tc : Thread Cert.RouteIdeal.nD Cert.RouteIdeal.τ).loc Cert.RouteIdeal.main_arg4)
      ∧ m' ((c.tc : Thread Cert.RouteRefIdeal.nD Cert.RouteRefIdeal.τ).loc Cert.RouteRefIdeal.main_arg5) = m ((c.tc : Thread Cert.RouteIdeal.nD Cert.RouteIdeal.τ).loc Cert.RouteIdeal.main_arg5)) →
    ∃ (v0 : (c : Dev Cert.RouteIdeal.nD) → Buf (Elt Ideal) ((c.tc : Thread Cert.RouteIdeal.nD Cert.RouteIdeal.τ).loc Cert.RouteIdeal.main_v12_2)),
      θ_run (Cert.RouteIdeal.defs (F := Ideal)) (onTc (τ := Cert.RouteIdeal.τ) (Cert.RouteIdeal.main (F := Ideal))) ⟨m, fun _ => 0, g⟩ (fun r => ∀ c : Dev Cert.RouteIdeal.nD,
          r.2.mem ((c.tc : Thread Cert.RouteIdeal.nD Cert.RouteIdeal.τ).loc Cert.RouteIdeal.main_v12_2) = v0 c
          ∧ r.2.mem ((c.tc : Thread Cert.RouteIdeal.nD Cert.RouteIdeal.τ).loc Cert.RouteIdeal.main_arg0) = m ((c.tc : Thread Cert.RouteIdeal.nD Cert.RouteIdeal.τ).loc Cert.RouteIdeal.main_arg0)
          ∧ r.2.mem ((c.tc : Thread Cert.RouteIdeal.nD Cert.RouteIdeal.τ).loc Cert.RouteIdeal.main_arg1) = m ((c.tc : Thread Cert.RouteIdeal.nD Cert.RouteIdeal.τ).loc Cert.RouteIdeal.main_arg1)
          ∧ r.2.mem ((c.tc : Thread Cert.RouteIdeal.nD Cert.RouteIdeal.τ).loc Cert.RouteIdeal.main_arg2) = m ((c.tc : Thread Cert.RouteIdeal.nD Cert.RouteIdeal.τ).loc Cert.RouteIdeal.main_arg2)
          ∧ r.2.mem ((c.tc : Thread Cert.RouteIdeal.nD Cert.RouteIdeal.τ).loc Cert.RouteIdeal.main_arg3) = m ((c.tc : Thread Cert.RouteIdeal.nD Cert.RouteIdeal.τ).loc Cert.RouteIdeal.main_arg3)
          ∧ r.2.mem ((c.tc : Thread Cert.RouteIdeal.nD Cert.RouteIdeal.τ).loc Cert.RouteIdeal.main_arg4) = m ((c.tc : Thread Cert.RouteIdeal.nD Cert.RouteIdeal.τ).loc Cert.RouteIdeal.main_arg4)
          ∧ r.2.mem ((c.tc : Thread Cert.RouteIdeal.nD Cert.RouteIdeal.τ).loc Cert.RouteIdeal.main_arg5) = m ((c.tc : Thread Cert.RouteIdeal.nD Cert.RouteIdeal.τ).loc Cert.RouteIdeal.main_arg5))
      ∧ θ_run (Cert.RouteRefIdeal.defs (F := Ideal)) (onTc (τ := Cert.RouteRefIdeal.τ) (Cert.RouteRefIdeal.main (F := Ideal))) ⟨m', fun _ => 0, g'⟩ (fun r => ∀ c : Dev Cert.RouteRefIdeal.nD,
          r.2.mem ((c.tc : Thread Cert.RouteRefIdeal.nD Cert.RouteRefIdeal.τ).loc Cert.RouteRefIdeal.main_v67) = v0 c
          ∧ r.2.mem ((c.tc : Thread Cert.RouteRefIdeal.nD Cert.RouteRefIdeal.τ).loc Cert.RouteRefIdeal.main_arg0) = m' ((c.tc : Thread Cert.RouteRefIdeal.nD Cert.RouteRefIdeal.τ).loc Cert.RouteRefIdeal.main_arg0)
          ∧ r.2.mem ((c.tc : Thread Cert.RouteRefIdeal.nD Cert.RouteRefIdeal.τ).loc Cert.RouteRefIdeal.main_arg1) = m' ((c.tc : Thread Cert.RouteRefIdeal.nD Cert.RouteRefIdeal.τ).loc Cert.RouteRefIdeal.main_arg1)
          ∧ r.2.mem ((c.tc : Thread Cert.RouteRefIdeal.nD Cert.RouteRefIdeal.τ).loc Cert.RouteRefIdeal.main_arg2) = m' ((c.tc : Thread Cert.RouteRefIdeal.nD Cert.RouteRefIdeal.τ).loc Cert.RouteRefIdeal.main_arg2)
          ∧ r.2.mem ((c.tc : Thread Cert.RouteRefIdeal.nD Cert.RouteRefIdeal.τ).loc Cert.RouteRefIdeal.main_arg3) = m' ((c.tc : Thread Cert.RouteRefIdeal.nD Cert.RouteRefIdeal.τ).loc Cert.RouteRefIdeal.main_arg3)
          ∧ r.2.mem ((c.tc : Thread Cert.RouteRefIdeal.nD Cert.RouteRefIdeal.τ).loc Cert.RouteRefIdeal.main_arg4) = m' ((c.tc : Thread Cert.RouteRefIdeal.nD Cert.RouteRefIdeal.τ).loc Cert.RouteRefIdeal.main_arg4)
          ∧ r.2.mem ((c.tc : Thread Cert.RouteRefIdeal.nD Cert.RouteRefIdeal.τ).loc Cert.RouteRefIdeal.main_arg5) = m' ((c.tc : Thread Cert.RouteRefIdeal.nD Cert.RouteRefIdeal.τ).loc Cert.RouteRefIdeal.main_arg5))

def Claim : Prop :=
  ∃ (hMix : Cert.Mix.Facts) (hMixIdeal : Cert.MixIdeal.Facts) (hMixRefIdeal : Cert.MixRefIdeal.Facts) (hMixS : Cert.MixS.Facts) (hMixSIdeal : Cert.MixSIdeal.Facts) (hMixSRefIdeal : Cert.MixSRefIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hFinalP : Cert.FinalP.Facts) (hFinalPIdeal : Cert.FinalPIdeal.Facts) (hFinalPRefIdeal : Cert.FinalPRefIdeal.Facts) (hFinalS : Cert.FinalS.Facts) (hFinalSIdeal : Cert.FinalSIdeal.Facts) (hFinalSRefIdeal : Cert.FinalSRefIdeal.Facts) (hRoute : Cert.Route.Facts) (hRouteIdeal : Cert.RouteIdeal.Facts) (hRouteRefIdeal : Cert.RouteRefIdeal.Facts) (hPre_prompt_pool_finite : Cert.Pre_prompt_pool_finite.Facts) (hPre_sample_pool_finite : Cert.Pre_sample_pool_finite.Facts) (hPre_route_finite : Cert.Pre_route_finite.Facts),
    quiescent_Mix (hMix := hMix)
    ∧ quiescent_MixIdeal (hMixIdeal := hMixIdeal)
    ∧ quiescent_MixIdeal_pre_prompt_pool_finite (hMixIdeal := hMixIdeal) (hPre_prompt_pool_finite := hPre_prompt_pool_finite)
    ∧ quiescent_MixRefIdeal (hMixRefIdeal := hMixRefIdeal)
    ∧ quiescent_MixRefIdeal_pre_prompt_pool_finite (hMixRefIdeal := hMixRefIdeal) (hPre_prompt_pool_finite := hPre_prompt_pool_finite)
    ∧ quiescent_MixS (hMixS := hMixS)
    ∧ quiescent_MixSIdeal (hMixSIdeal := hMixSIdeal)
    ∧ quiescent_MixSIdeal_pre_sample_pool_finite (hMixSIdeal := hMixSIdeal) (hPre_sample_pool_finite := hPre_sample_pool_finite)
    ∧ quiescent_MixSRefIdeal (hMixSRefIdeal := hMixSRefIdeal)
    ∧ quiescent_MixSRefIdeal_pre_sample_pool_finite (hMixSRefIdeal := hMixSRefIdeal) (hPre_sample_pool_finite := hPre_sample_pool_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FinalP (hFinalP := hFinalP)
    ∧ quiescent_FinalPIdeal (hFinalPIdeal := hFinalPIdeal)
    ∧ quiescent_FinalPRefIdeal (hFinalPRefIdeal := hFinalPRefIdeal)
    ∧ quiescent_FinalS (hFinalS := hFinalS)
    ∧ quiescent_FinalSIdeal (hFinalSIdeal := hFinalSIdeal)
    ∧ quiescent_FinalSRefIdeal (hFinalSRefIdeal := hFinalSRefIdeal)
    ∧ quiescent_Route (hRoute := hRoute)
    ∧ quiescent_RouteIdeal (hRouteIdeal := hRouteIdeal)
    ∧ quiescent_RouteIdeal_pre_route_finite (hRouteIdeal := hRouteIdeal) (hPre_route_finite := hPre_route_finite)
    ∧ quiescent_RouteRefIdeal (hRouteRefIdeal := hRouteRefIdeal)
    ∧ quiescent_RouteRefIdeal_pre_route_finite (hRouteRefIdeal := hRouteRefIdeal) (hPre_route_finite := hPre_route_finite)
    ∧ preserves_Mix_MixIdeal
    ∧ algebraic_MixIdeal_MixRefIdeal_pre_prompt_pool_finite (hMixIdeal := hMixIdeal) (hMixRefIdeal := hMixRefIdeal) (hPre_prompt_pool_finite := hPre_prompt_pool_finite)
    ∧ preserves_MixS_MixSIdeal
    ∧ algebraic_MixSIdeal_MixSRefIdeal_pre_sample_pool_finite (hMixSIdeal := hMixSIdeal) (hMixSRefIdeal := hMixSRefIdeal) (hPre_sample_pool_finite := hPre_sample_pool_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_FinalP_FinalPIdeal
    ∧ algebraic_FinalPIdeal_FinalPRefIdeal (hFinalPIdeal := hFinalPIdeal) (hFinalPRefIdeal := hFinalPRefIdeal)
    ∧ preserves_FinalS_FinalSIdeal
    ∧ algebraic_FinalSIdeal_FinalSRefIdeal (hFinalSIdeal := hFinalSIdeal) (hFinalSRefIdeal := hFinalSRefIdeal)
    ∧ preserves_Route_RouteIdeal
    ∧ algebraic_RouteIdeal_RouteRefIdeal_pre_route_finite (hRouteIdeal := hRouteIdeal) (hRouteRefIdeal := hRouteRefIdeal) (hPre_route_finite := hPre_route_finite)
-- ==== Pre_prompt_pool_finite.lean ====
abbrev S16896x6144 : Shape := ⟨2, ![16896, 6144]⟩
abbrev S4x512x512 : Shape := ⟨3, ![4, 512, 512]⟩
abbrev S2048 : Shape := ⟨1, ![2048]⟩
abbrev S8x128x128 : Shape := ⟨3, ![8, 128, 128]⟩
abbrev S8x128 : Shape := ⟨2, ![8, 128]⟩
abbrev S16384x2048 : Shape := ⟨2, ![16384, 2048]⟩
abbrev S_ : Shape := ⟨0, ![]⟩

class Facts : Prop where
  slices_S16896x6144_S16384x2048_0_0 : S16896x6144.Slices ![0, 0] S16384x2048
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16896x6144 .f32) (main_arg1 : FVec F S4x512x512 .f32) (main_arg2 : FVec F S2048 .f32) (main_arg3 : FVec F S2048 .f32) (main_arg4 : FVec F S2048 .f32) (main_arg5 : FVec F S8x128x128 .f32) (main_arg6 : FVec F S8x128 .f32) : IVec S_ 1 :=
  let main_v0 : FVec F S16384x2048 .f32 := (extractStridedSlice S16384x2048 ![0, 0] · slices_S16896x6144_S16384x2048_0_0) main_arg0
  let main_v1 : FVec F S16384x2048 .f32 := Host.absf main_v0
  let main_cst : FVec F S_ .f32 := constant S_ .f32 0x7F800000#32
  let main_v2 : FVec F S16384x2048 .f32 := broadcastInDim S16384x2048 ![] bcast_S_S16384x2048 main_cst
  let main_v3 : IVec S16384x2048 1 := cmpf .olt main_v1 main_v2
  let main_c : IVec S_ 1 := constantI S_ 1 1#1
  let main_v4 : IVec S_ 1 := (fun x v => Host.reduce IntOp.andi x v reducesTo_S16384x2048_S_d0_1 h_S_) main_v3 main_c
  main_v4
-- ==== Pre_route_finite.lean ====
abbrev S16896x4096 : Shape := ⟨2, ![16896, 4096]⟩
abbrev S4096 : Shape := ⟨1, ![4096]⟩
abbrev S4096x4 : Shape := ⟨2, ![4096, 4]⟩
abbrev S4 : Shape := ⟨1, ![4]⟩
abbrev S4096x16 : Shape := ⟨2, ![4096, 16]⟩
abbrev S16 : Shape := ⟨1, ![16]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x4 : S_.BroadcastsInDim S4096x4 (![] : Fin 0 → Fin S4096x4.rank)
  reducesTo_S4096x4_S_d0_1 : S4096x4.ReducesTo [0, 1] S_
  bcast_S_S4 : S_.BroadcastsInDim S4 (![] : Fin 0 → Fin S4.rank)
  reducesTo_S4_S_d0 : S4.ReducesTo [0] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S16896x4096 .f32) (main_arg1 : FVec F S4096 .f32) (main_arg2 : FVec F S4096x4 .f32) (main_arg3 : FVec F S4 .f32) (main_arg4 : FVec F S4096x16 .f32) (main_arg5 : FVec F S16 .f32) : IVec S_ 1 :=
  let main_v0 : FVec F S4096 .f32 := Host.absf main_arg1
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x4 .f32 := Host.absf main_arg2
  let main_cst_0 : FVec F S_ .f32 := constant S_ .f32 0x7F800000#32
  let main_v5 : FVec F S4096x4 .f32 := broadcastInDim S4096x4 ![] bcast_S_S4096x4 main_cst_0
  let main_v6 : IVec S4096x4 1 := cmpf .olt main_v4 main_v5
  let main_c_1 : IVec S_ 1 := constantI S_ 1 1#1
  let main_v7 : IVec S_ 1 := (fun x v => Host.reduce IntOp.andi x v reducesTo_S4096x4_S_d0_1 h_S_) main_v6 main_c_1
  let main_v8 : IVec S_ 1 := andi main_v3 main_v7
  let main_v9 : FVec F S4 .f32 := Host.absf main_arg3
  let main_cst_2 : FVec F S_ .f32 := constant S_ .f32 0x7F800000#32
  let main_v10 : FVec F S4 .f32 := broadcastInDim S4 ![] bcast_S_S4 main_cst_2
  let main_v11 : IVec S4 1 := cmpf .olt main_v9 main_v10
  let main_c_3 : IVec S_ 1 := constantI S_ 1 1#1
  let main_v12 : IVec S_ 1 := (fun x v => Host.reduce IntOp.andi x v reducesTo_S4_S_d0 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg5 main_v13 main_v16
-- ==== Pre_sample_pool_finite.lean ====
abbrev S16896x6144 : Shape := ⟨2, ![16896, 6144]⟩
abbrev S4x8x15x2048 : Shape := ⟨4, ![4, 8, 15, 2048]⟩
abbrev S4x512x512 : Shape := ⟨3, ![4, 512, 512]⟩
abbrev S2048 : Shape := ⟨1, ![2048]⟩
abbrev S8x128x128 : Shape := ⟨3, ![8, 128, 128]⟩
abbrev S8x128 : Shape := ⟨2, ![8, 128]⟩
abbrev S512x2048 : Shape := ⟨2, ![512, 2048]⟩
abbrev S_ : Shape := ⟨0, ![]⟩
abbrev S1x8x15x2048 : Shape := ⟨4, ![1, 8, 15, 2048]⟩
abbrev S8x15x2048 : Shape := ⟨3, ![8, 15, 2048]⟩

class Facts : Prop where
  slices_S16896x6144_S512x2048_16384_0 : S16896x6144.Slices ![16384, 0] S512x2048
  bcast_S_S512x2048 : S_.BroadcastsInDim S512x2048 (![] : Fin 0 → Fin S512x2048.rank)
  reducesTo_S512x2048_S_d0_1 : S512x2048.ReducesTo [0, 1] S_
  h_S_ : 0 < S_.numel
  slices_S4x8x15x2048_S1x8x15x2048_0_0_0_0 : S4x8x15x2048.Slices ![0, 0, 0, 0] S1x8x15x2048
  shapeCasts_S1x8x15x2048_S8x15x2048 : S1x8x15x2048.ShapeCasts S8x15x2048
  bcast_S_S8x15x2048 : S_.BroadcastsInDim S8x15x2048 (![] : Fin 0 → Fin S8x15x2048.rank)
  reducesTo_S8x15x2048_S_d0_1_2 : S8x15x2048.ReducesTo [0, 1, 2] S_

variable [Facts]

def fn {F : FTy → Type} [FloatOps F] (main_arg0 : FVec F S16896x6144 .f32) (main_arg1 : FVec F S4x8x15x2048 .f32) (main_arg2 : FVec F S4x512x512 .f32) (main_arg3 : FVec F S2048 .f32) (main_arg4 : FVec F S2048 .f32) (main_arg5 : FVec F S2048 .f32) (main_arg6 : FVec F S8x128x128 .f32) (main_arg7 : FVec F S8x128 .f32) : IVec S_ 1 :=
  let main_v0 : FVec F S512x2048 .f32 := (extractStridedSlice S512x2048 ![16384, 0] · slices_S16896x6144_S512x2048_16384_0) main_arg0
  let main_v1 : FVec F S512x2048 .f32 := Host.absf main_v0
  let main_cst : FVec F S_ .f32 := constant S_ .f32 0x7F800000#32
  let main_v2 : FVec F S512x2048 .f32 := broadcastInDim S512x2048 ![] bcast_S_S512x2048 main_cst
  let main_v3 : IVec S512x2048 1 := cmpf .olt main_v1 main_v2
  let main_c : IVec S_ 1 := constantI S_ 1 1#1
  let main_v4 : IVec S_ 1 := (fun x v => Host.reduce IntOp.andi x v reducesTo_S512x2048_S_d0_1 h_S_) main_v3 main_c
  let main_v5 : FVec F S1x8x15x2048 .f32 := (extractStridedSlice S1x8x15x2048 ![0, 0, 0, 0] · slices_S4x8x15x2048_S1x8x15x2048_0_0_0_0) main_arg1
  let main_v6 : FVec F S8x15x2048 .f32 := shapeCast S8x15x2048 main_v5 shapeCasts_S1x8x15x2048_S8x15x2048
  let main_v7 : FVec F S8x15x2048 .f32 := Host.absf main_v6
  let main_cst_0 : FVec F S_ .f32 := constant S_ .f32 0x7F800000#32
  let main_v8 : FVec F S8x15x2048 .f32 := broadcastInDim S8x15x2048 ![] bcast_S_S8x15x2048 main_cst_0
  let main_v9 : IVec S8x15x2048 1 := cmpf .olt main_v7 main_v8
  let main_c_1 : IVec S_ 1 := constantI S_ 1 1#1
  let main_v10 : IVec S_ 1 := (fun x v => Host.reduce IntOp.andi x v reducesTo_S8x15x2048_S_d0_1_2 h_S_) main_v9 main_c_1
  let main_v11 : IVec S_ 1 := andi main_v4 main_v10
  main_v11
-- ==== Mix.lean ====
abbrev S16896x6144 : Shape := ⟨2, ![16896, 6144]⟩
abbrev S4x512x512 : Shape := ⟨3, ![4, 512, 512]⟩
abbrev S2048 : Shape := ⟨1, ![2048]⟩
abbrev S8x128x128 : Shape := ⟨3, ![8, 128, 128]⟩
abbrev S8x128 : Shape := ⟨2, ![8, 128]⟩
abbrev S1x2048 : Shape := ⟨2, ![1, 2048]⟩
abbrev S128x8 : Shape := ⟨2, ![128, 8]⟩
abbrev S16384x4096 : Shape := ⟨2, ![16384, 4096]⟩
abbrev S4x15x2048 : Shape := ⟨3, ![4, 15, 2048]⟩
abbrev S256x2048 : Shape := ⟨2, ![256, 2048]⟩
abbrev S256x4096 : Shape := ⟨2, ![256, 4096]⟩
abbrev S1x15x2048 : Shape := ⟨3, ![1, 15, 2048]⟩
abbrev S288x2048 : Shape := ⟨2, ![288, 2048]⟩
abbrev S288x512 : Shape := ⟨2, ![288, 512]⟩
abbrev S16x512 : Shape := ⟨2, ![16, 512]⟩
abbrev S32x2048 : Shape := ⟨2, ![32, 2048]⟩
abbrev S256x1 : Shape := ⟨2, ![256, 1]⟩
abbrev S256x512 : Shape := ⟨2, ![256, 512]⟩
abbrev S1x512x512 : Shape := ⟨3, ![1, 512, 512]⟩
abbrev S512x512 : Shape := ⟨2, ![512, 512]⟩
abbrev S1x512 : Shape := ⟨2, ![1, 512]⟩
abbrev S272x512 : Shape := ⟨2, ![272, 512]⟩
abbrev S15x2048 : Shape := ⟨2, ![15, 2048]⟩
abbrev S256 : Shape := ⟨1, ![256]⟩
abbrev S128x128 : Shape := ⟨2, ![128, 128]⟩
abbrev S1x128x128 : Shape := ⟨3, ![1, 128, 128]⟩
abbrev S128x1 : Shape := ⟨2, ![128, 1]⟩
abbrev S128x256 : Shape := ⟨2, ![128, 256]⟩

abbrev nBuf : Space → Nat
  | .hbm => 14
  | .vmem => 19
  | .smem => 0
  | _ => 0

abbrev bufTy : (tb : Table) → Fin (tcTables nBuf tb) → BufTy
  | .hbm, ⟨0, _⟩ => ⟨S16896x6144, .f32⟩
  | .hbm, ⟨1, _⟩ => ⟨S4x512x512, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S8x128x128, .f32⟩
  | .hbm, ⟨6, _⟩ => ⟨S8x128, .f32⟩
  | .hbm, ⟨7, _⟩ => ⟨S4x512x512, .bf16⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S128x8, .f32⟩
  | .hbm, ⟨12, _⟩ => ⟨S16384x4096, .bf16⟩
  | .hbm, ⟨13, _⟩ => ⟨S4x15x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S4x512x512, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S8x128x128, .f32⟩
  | .local _ .vmem, ⟨11, _⟩ => ⟨S128x8, .f32⟩
  | .local _ .vmem, ⟨12, _⟩ => ⟨S256x4096, .bf16⟩
  | .local _ .vmem, ⟨13, _⟩ => ⟨S256x4096, .bf16⟩
  | .local _ .vmem, ⟨14, _⟩ => ⟨S1x15x2048, .f32⟩
  | .local _ .vmem, ⟨15, _⟩ => ⟨S1x15x2048, .f32⟩
  | .local _ .vmem, ⟨16, _⟩ => ⟨S288x2048, .f32⟩
  | .local _ .vmem, ⟨17, _⟩ => ⟨S288x512, .f32⟩
  | .local _ .vmem, ⟨18, _⟩ => ⟨S288x512, .f32⟩
  | _, _ => ⟨S16896x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c1_i32 : BitVec 32 := 1#32
  let c0_i32_0 : BitVec 32 := 0#32
  ![v2.toNat, c1_i32.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c0_i32 : BitVec 32 := 0#32
  let v1 : BitVec 32 := Scalar.addi c0_i32 v0
  let v2 : BitVec 32 := Scalar.addi v1 arg1
  let c2_i32 : BitVec 32 := 2#32
  let c0_i32_0 : BitVec 32 := 0#32
  ![v2.toNat, c2_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S256x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x15x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== MixRefIdeal.lean ====
abbrev S16896x6144 : Shape := ⟨2, ![16896, 6144]⟩
abbrev S4x512x512 : Shape := ⟨3, ![4, 512, 512]⟩
abbrev S2048 : Shape := ⟨1, ![2048]⟩
abbrev S8x128x128 : Shape := ⟨3, ![8, 128, 128]⟩
abbrev S8x128 : Shape := ⟨2, ![8, 128]⟩
abbrev S16384x6144 : Shape := ⟨2, ![16384, 6144]⟩
abbrev S4x4096x6144 : Shape := ⟨3, ![4, 4096, 6144]⟩
abbrev S_ : Shape := ⟨0, ![]⟩
abbrev S4x15x2048 : Shape := ⟨3, ![4, 15, 2048]⟩
abbrev S4x4096x2048 : Shape := ⟨3, ![4, 4096, 2048]⟩
abbrev S4x4111x2048 : Shape := ⟨3, ![4, 4111, 2048]⟩
abbrev S4x1x2048 : Shape := ⟨3, ![4, 1, 2048]⟩
abbrev S4x4112x2048 : Shape := ⟨3, ![4, 4112, 2048]⟩
abbrev S4096 : Shape := ⟨1, ![4096]⟩
abbrev S1x4096x1 : Shape := ⟨3, ![1, 4096, 1]⟩
abbrev S4x4096x512 : Shape := ⟨3, ![4, 4096, 512]⟩
abbrev S1x512x512 : Shape := ⟨3, ![1, 512, 512]⟩
abbrev S512x512 : Shape := ⟨2, ![512, 512]⟩
abbrev S1x1x2048 : Shape := ⟨3, ![1, 1, 2048]⟩
abbrev S4x4096 : Shape := ⟨2, ![4, 4096]⟩
abbrev S4x4096x1 : Shape := ⟨3, ![4, 4096, 1]⟩
abbrev S4x32x128x8x256 : Shape := ⟨5, ![4, 32, 128, 8, 256]⟩
abbrev S128x128 : Shape := ⟨2, ![128, 128]⟩
abbrev S8x4x32x256x128 : Shape := ⟨5, ![8, 4, 32, 256, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S4x4096x4096 : Shape := ⟨3, ![4, 4096, 4096]⟩
abbrev S16384x4096 : Shape := ⟨2, ![16384, 4096]⟩

abbrev nBuf : Space → Nat
  | .hbm => 137
  | .vmem => 0
  | .smem => 0
  | _ => 0

abbrev hbmTy0_0 (i : Nat) : BufTy := match i % 128 with
  | 0 => ⟨S16896x6144, .f32⟩
  | 1 => ⟨S4x512x512, .f32⟩
  | 2 => ⟨S2048, .f32⟩
  | 3 => ⟨S2048, .f32⟩
  | 4 => ⟨S2048, .f32⟩
  | 5 => ⟨S8x128x128, .f32⟩
  | 6 => ⟨S8x128, .f32⟩
  | 7 => ⟨S16384x6144, .f32⟩
  | 8 => ⟨S4x4096x6144, .f32⟩
  | 9 => ⟨S_, .f32⟩
  | 10 => ⟨S4x15x2048, .f32⟩
  | 11 => ⟨S4x4096x2048, .f32⟩
  | 12 => ⟨S4x4111x2048, .f32⟩
  | 13 => ⟨S_, .f32⟩
  | 14 => ⟨S4x1x2048, .f32⟩
  | 15 => ⟨S_, .f32⟩
  | 16 => ⟨S_, .f32⟩
  | 17 => ⟨S4x4111x2048, .f32⟩
  | 18 => ⟨S4x4112x2048, .f32⟩
  | 19 => ⟨S4096, .i32⟩
  | 20 => ⟨S_, .i32⟩
  | 21 => ⟨S4096, .i32⟩
  | 22 => ⟨S4096, .i32⟩
  | 23 => ⟨S1x4096x1, .i32⟩
  | 24 => ⟨S4x4096x512, .f32⟩
  | 25 => ⟨S4x4096x512, .f32⟩
  | 26 => ⟨S4x4096x512, .f32⟩
  | 27 => ⟨S_, .i32⟩
  | 28 => ⟨S1x4096x1, .i32⟩
  | 29 => ⟨S1x4096x1, .i32⟩
  | 30 => ⟨S1x4096x1, .f32⟩
  | 31 => ⟨S4x4096x512, .f32⟩
  | 32 => ⟨S4x4096x512, .f32⟩
  | 33 => ⟨S4x4096x512, .f32⟩
  | 34 => ⟨S4x4096x512, .f32⟩
  | 35 => ⟨S1x512x512, .f32⟩
  | 36 => ⟨S512x512, .f32⟩
  | 37 => ⟨S4x4096x512, .f32⟩
  | 38 => ⟨S4x4096x512, .f32⟩
  | 39 => ⟨S4x4096x512, .f32⟩
  | 40 => ⟨S4x4096x512, .f32⟩
  | 41 => ⟨S_, .i32⟩
  | 42 => ⟨S1x4096x1, .i32⟩
  | 43 => ⟨S1x4096x1, .i32⟩
  | 44 => ⟨S1x4096x1, .f32⟩
  | 45 => ⟨S4x4096x512, .f32⟩
  | 46 => ⟨S4x4096x512, .f32⟩
  | 47 => ⟨S4x4096x512, .f32⟩
  | 48 => ⟨S4x4096x512, .f32⟩
  | 49 => ⟨S1x512x512, .f32⟩
  | 50 => ⟨S512x512, .f32⟩
  | 51 => ⟨S4x4096x512, .f32⟩
  | 52 => ⟨S4x4096x512, .f32⟩
  | 53 => ⟨S4x4096x512, .f32⟩
  | 54 => ⟨S4x4096x512, .f32⟩
  | 55 => ⟨S_, .i32⟩
  | 56 => ⟨S1x4096x1, .i32⟩
  | 57 => ⟨S1x4096x1, .i32⟩
  | 58 => ⟨S1x4096x1, .f32⟩
  | 59 => ⟨S4x4096x512, .f32⟩
  | 60 => ⟨S4x4096x512, .f32⟩
  | 61 => ⟨S4x4096x512, .f32⟩
  | 62 => ⟨S4x4096x512, .f32⟩
  | 63 => ⟨S1x512x512, .f32⟩
  | 64 => ⟨S512x512, .f32⟩
  | 65 => ⟨S4x4096x512, .f32⟩
  | 66 => ⟨S4x4096x512, .f32⟩
  | 67 => ⟨S4x4096x512, .f32⟩
  | 68 => ⟨S4x4096x512, .f32⟩
  | 69 => ⟨S_, .i32⟩
  | 70 => ⟨S1x4096x1, .i32⟩
  | 71 => ⟨S1x4096x1, .i32⟩
  | 72 => ⟨S1x4096x1, .f32⟩
  | 73 => ⟨S4x4096x512, .f32⟩
  | 74 => ⟨S4x4096x512, .f32⟩
  | 75 => ⟨S4x4096x512, .f32⟩
  | 76 => ⟨S4x4096x512, .f32⟩
  | 77 => ⟨S1x512x512, .f32⟩
  | 78 => ⟨S512x512, .f32⟩
  | 79 => ⟨S4x4096x512, .f32⟩
  | 80 => ⟨S4x4096x2048, .f32⟩
  | 81 => ⟨S1x1x2048, .f32⟩
  | 82 => ⟨S4x4096x2048, .f32⟩
  | 83 => ⟨S4x4096x2048, .f32⟩
  | 84 => ⟨S4x15x2048, .f32⟩
  | 85 => ⟨S4x4096x2048, .f32⟩
  | 86 => ⟨S4x4096x2048, .f32⟩
  | 87 => ⟨S_, .f32⟩
  | 88 => ⟨S4x4096, .f32⟩
  | 89 => ⟨S4x4096x1, .f32⟩
  | 90 => ⟨S_, .f32⟩
  | 91 => ⟨S4x4096x1, .f32⟩
  | 92 => ⟨S4x4096x1, .f32⟩
  | 93 => ⟨S4x4096x2048, .f32⟩
  | 94 => ⟨S4x4096x2048, .f32⟩
  | 95 => ⟨S4x4096x2048, .f32⟩
  | 96 => ⟨S_, .f32⟩
  | 97 => ⟨S4x4096, .f32⟩
  | 98 => ⟨S4x4096x1, .f32⟩
  | 99 => ⟨S_, .f32⟩
  | 100 => ⟨S4x4096x1, .f32⟩
  | 101 => ⟨S4x4096x1, .f32⟩
  | 102 => ⟨S_, .f32⟩
  | 103 => ⟨S4x4096x1, .f32⟩
  | 104 => ⟨S4x4096x1, .f32⟩
  | 105 => ⟨S4x4096x1, .f32⟩
  | 106 => ⟨S4x4096x2048, .f32⟩
  | 107 => ⟨S4x4096x2048, .f32⟩
  | 108 => ⟨S1x1x2048, .f32⟩
  | 109 => ⟨S4x4096x2048, .f32⟩
  | 110 => ⟨S4x4096x2048, .f32⟩
  | 111 => ⟨S1x1x2048, .f32⟩
  | 112 => ⟨S4x4096x2048, .f32⟩
  | 113 => ⟨S4x4096x2048, .f32⟩
  | 114 => ⟨S4x32x128x8x256, .f32⟩
  | 115 => ⟨S128x128, .i32⟩
  | 116 => ⟨S_, .i32⟩
  | 117 => ⟨S128x128, .i32⟩
  | 118 => ⟨S128x128, .i32⟩
  | 119 => ⟨S128x128, .i32⟩
  | 120 => ⟨S128x128, .i1⟩
  | 121 => ⟨S8x128x128, .i1⟩
  | 122 => ⟨S_, .f32⟩
  | 123 => ⟨S8x128x128, .f32⟩
  | 124 => ⟨S8x128x128, .f32⟩
  | 125 => ⟨S8x4x32x256x128, .f32⟩
  | 126 => ⟨S4x32x128x8x256, .f32⟩
  | 127 => ⟨S128x8, .f32⟩
  | _ => ⟨S16896x6144, .f32⟩

abbrev hbmTy0_1 (i : Nat) : BufTy := match i % 128 with
  | 0 => ⟨S128x8x1, .f32⟩
  | 1 => ⟨S1x1x128x8x1, .f32⟩
  | 2 => ⟨S4x32x128x8x256, .f32⟩
  | 3 => ⟨S4x32x128x8x256, .f32⟩
  | 4 => ⟨S4x4096x2048, .f32⟩
  | 5 => ⟨S4x4096x2048, .f32⟩
  | 6 => ⟨S4x4096x4096, .f32⟩
  | 7 => ⟨S16384x4096, .f32⟩
  | 8 => ⟨S16384x4096, .bf16⟩
  | _ => ⟨S16896x6144, .f32⟩

abbrev hbmTy (i : Nat) : BufTy := match i / 128 with
  | 0 => hbmTy0_0 i
  | 1 => hbmTy0_1 i
  | _ => ⟨S16896x6144, .f32⟩

abbrev bufTy : (tb : Table) → Fin (tcTables nBuf tb) → BufTy
  | .hbm, ⟨i, _⟩ => hbmTy i
  | _, _ => ⟨S16896x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_call0_call0_cst : Ref sig .tc := ⟨.hbm, 15, rfl⟩
abbrev main_call0_call0_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_c_3 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_c_4 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_cst_5 : Ref sig .tc := ⟨.hbm, 87, rfl⟩
abbrev main_v71 : Ref sig .tc := ⟨.hbm, 88, rfl⟩
abbrev main_v72 : Ref sig .tc := ⟨.hbm, 89, rfl⟩
abbrev main_cst_6 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_7 : Ref sig .tc := ⟨.hbm, 96, rfl⟩
abbrev main_v78 : Ref sig .tc := ⟨.hbm, 97, rfl⟩
abbrev main_v79 : Ref sig .tc := ⟨.hbm, 98, rfl⟩
abbrev main_cst_8 : Ref sig .tc := ⟨.hbm, 99, rfl⟩
abbrev main_v80 : Ref sig .tc := ⟨.hbm, 100, rfl⟩
abbrev main_v81 : Ref sig .tc := ⟨.hbm, 101, rfl⟩
abbrev main_cst_9 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_call1_v0 : Ref sig .tc := ⟨.hbm, 115, rfl⟩
abbrev main_call1_c : Ref sig .tc := ⟨.hbm, 116, rfl⟩
abbrev main_call1_v1 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_call1_v5 : Ref sig .tc := ⟨.hbm, 121, rfl⟩
abbrev main_call1_cst : Ref sig .tc := ⟨.hbm, 122, rfl⟩
abbrev main_call1_v6 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩

abbrev nD : Nat := 1
abbrev τ : Topo := Topo.v7x

variable {F : FTy → Type} [FloatOps F]
-- ==== MixS.lean ====
abbrev S16896x6144 : Shape := ⟨2, ![16896, 6144]⟩
abbrev S4x8x15x2048 : Shape := ⟨4, ![4, 8, 15, 2048]⟩
abbrev S4x512x512 : Shape := ⟨3, ![4, 512, 512]⟩
abbrev S2048 : Shape := ⟨1, ![2048]⟩
abbrev S8x128x128 : Shape := ⟨3, ![8, 128, 128]⟩
abbrev S8x128 : Shape := ⟨2, ![8, 128]⟩
abbrev S1x2048 : Shape := ⟨2, ![1, 2048]⟩
abbrev S128x8 : Shape := ⟨2, ![128, 8]⟩
abbrev S512x4096 : Shape := ⟨2, ![512, 4096]⟩
abbrev S8x15x2048 : Shape := ⟨3, ![8, 15, 2048]⟩
abbrev S8x64x2048 : Shape := ⟨3, ![8, 64, 2048]⟩
abbrev S64x2048 : Shape := ⟨2, ![64, 2048]⟩
abbrev S1x1x15x2048 : Shape := ⟨4, ![1, 1, 15, 2048]⟩
abbrev S64x4096 : Shape := ⟨2, ![64, 4096]⟩
abbrev S1x15x2048 : Shape := ⟨3, ![1, 15, 2048]⟩
abbrev S1x64x2048 : Shape := ⟨3, ![1, 64, 2048]⟩
abbrev S96x2048 : Shape := ⟨2, ![96, 2048]⟩
abbrev S96x512 : Shape := ⟨2, ![96, 512]⟩
abbrev S16x512 : Shape := ⟨2, ![16, 512]⟩
abbrev S17x2048 : Shape := ⟨2, ![17, 2048]⟩
abbrev S15x2048 : Shape := ⟨2, ![15, 2048]⟩
abbrev S64x1 : Shape := ⟨2, ![64, 1]⟩
abbrev S64x512 : Shape := ⟨2, ![64, 512]⟩
abbrev S1x512x512 : Shape := ⟨3, ![1, 512, 512]⟩
abbrev S512x512 : Shape := ⟨2, ![512, 512]⟩
abbrev S1x512 : Shape := ⟨2, ![1, 512]⟩
abbrev S80x512 : Shape := ⟨2, ![80, 512]⟩
abbrev S64 : Shape := ⟨1, ![64]⟩
abbrev S64x64 : Shape := ⟨2, ![64, 64]⟩
abbrev S1x64x64 : Shape := ⟨3, ![1, 64, 64]⟩
abbrev S64x256 : Shape := ⟨2, ![64, 256]⟩

abbrev nBuf : Space → Nat
  | .hbm => 16
  | .vmem => 23
  | .smem => 0
  | _ => 0

abbrev bufTy : (tb : Table) → Fin (tcTables nBuf tb) → BufTy
  | .hbm, ⟨0, _⟩ => ⟨S16896x6144, .f32⟩
  | .hbm, ⟨1, _⟩ => ⟨S4x8x15x2048, .f32⟩
  | .hbm, ⟨2, _⟩ => ⟨S4x512x512, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S8x128x128, .f32⟩
  | .hbm, ⟨7, _⟩ => ⟨S8x128, .f32⟩
  | .hbm, ⟨8, _⟩ => ⟨S4x512x512, .bf16⟩
  | .hbm, ⟨9, _⟩ => ⟨S1x2048, .f32⟩
  | .hbm, ⟨10, _⟩ => ⟨S1x2048, .f32⟩
  | .hbm, ⟨11, _⟩ => ⟨S1x2048, .f32⟩
  | .hbm, ⟨12, _⟩ => ⟨S128x8, .f32⟩
  | .hbm, ⟨13, _⟩ => ⟨S512x4096, .bf16⟩
  | .hbm, ⟨14, _⟩ => ⟨S8x15x2048, .f32⟩
  | .hbm, ⟨15, _⟩ => ⟨S8x64x2048, .f32⟩
  | .local _ .vmem, ⟨0, _⟩ => ⟨S64x2048, .f32⟩
  | .local _ .vmem, ⟨1, _⟩ => ⟨S64x2048, .f32⟩
  | .local _ .vmem, ⟨2, _⟩ => ⟨S64x2048, .f32⟩
  | .local _ .vmem, ⟨3, _⟩ => ⟨S64x2048, .f32⟩
  | .local _ .vmem, ⟨4, _⟩ => ⟨S64x2048, .f32⟩
  | .local _ .vmem, ⟨5, _⟩ => ⟨S64x2048, .f32⟩
  | .local _ .vmem, ⟨6, _⟩ => ⟨S1x1x15x2048, .f32⟩
  | .local _ .vmem, ⟨7, _⟩ => ⟨S1x1x15x2048, .f32⟩
  | .local _ .vmem, ⟨8, _⟩ => ⟨S4x512x512, .bf16⟩
  | .local _ .vmem, ⟨9, _⟩ => ⟨S1x2048, .f32⟩
  | .local _ .vmem, ⟨10, _⟩ => ⟨S1x2048, .f32⟩
  | .local _ .vmem, ⟨11, _⟩ => ⟨S1x2048, .f32⟩
  | .local _ .vmem, ⟨12, _⟩ => ⟨S8x128x128, .f32⟩
  | .local _ .vmem, ⟨13, _⟩ => ⟨S128x8, .f32⟩
  | .local _ .vmem, ⟨14, _⟩ => ⟨S64x4096, .bf16⟩
  | .local _ .vmem, ⟨15, _⟩ => ⟨S64x4096, .bf16⟩
  | .local _ .vmem, ⟨16, _⟩ => ⟨S1x15x2048, .f32⟩
  | .local _ .vmem, ⟨17, _⟩ => ⟨S1x15x2048, .f32⟩
  | .local _ .vmem, ⟨18, _⟩ => ⟨S1x64x2048, .f32⟩
  | .local _ .vmem, ⟨19, _⟩ => ⟨S1x64x2048, .f32⟩
  | .local _ .vmem, ⟨20, _⟩ => ⟨S96x2048, .f32⟩
  | .local _ .vmem, ⟨21, _⟩ => ⟨S96x512, .f32⟩
  | .local _ .vmem, ⟨22, _⟩ => ⟨S96x512, .f32⟩
  | _, _ => ⟨S16896x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c1_i32_0 : BitVec 32 := 1#32
  let c0_i32 : BitVec 32 := 0#32
  ![v2.toNat, c1_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let c256_i32 : BitVec 32 := 256#32
  let v1 : BitVec 32 := Scalar.addi c256_i32 v0
  let v2 : BitVec 32 := Scalar.addi v1 arg1
  let c2_i32 : BitVec 32 := 2#32
  let c0_i32 : BitVec 32 := 0#32
  ![v2.toNat, c2_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.muli arg0 c1_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x15x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S4x512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x15x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x64x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== MixSRefIdeal.lean ====
abbrev S16896x6144 : Shape := ⟨2, ![16896, 6144]⟩
abbrev S4x8x15x2048 : Shape := ⟨4, ![4, 8, 15, 2048]⟩
abbrev S4x512x512 : Shape := ⟨3, ![4, 512, 512]⟩
abbrev S2048 : Shape := ⟨1, ![2048]⟩
abbrev S8x128x128 : Shape := ⟨3, ![8, 128, 128]⟩
abbrev S8x128 : Shape := ⟨2, ![8, 128]⟩
abbrev S512x6144 : Shape := ⟨2, ![512, 6144]⟩
abbrev S8x64x6144 : Shape := ⟨3, ![8, 64, 6144]⟩
abbrev S8x64x2048 : Shape := ⟨3, ![8, 64, 2048]⟩
abbrev S1x8x15x2048 : Shape := ⟨4, ![1, 8, 15, 2048]⟩
abbrev S8x15x2048 : Shape := ⟨3, ![8, 15, 2048]⟩
abbrev S8x79x2048 : Shape := ⟨3, ![8, 79, 2048]⟩
abbrev S_ : Shape := ⟨0, ![]⟩
abbrev S8x1x2048 : Shape := ⟨3, ![8, 1, 2048]⟩
abbrev S8x80x2048 : Shape := ⟨3, ![8, 80, 2048]⟩
abbrev S64 : Shape := ⟨1, ![64]⟩
abbrev S1x64x1 : Shape := ⟨3, ![1, 64, 1]⟩
abbrev S8x64x512 : Shape := ⟨3, ![8, 64, 512]⟩
abbrev S1x512x512 : Shape := ⟨3, ![1, 512, 512]⟩
abbrev S512x512 : Shape := ⟨2, ![512, 512]⟩
abbrev S1x1x2048 : Shape := ⟨3, ![1, 1, 2048]⟩
abbrev S8x64 : Shape := ⟨2, ![8, 64]⟩
abbrev S8x64x1 : Shape := ⟨3, ![8, 64, 1]⟩
abbrev S8x1x64x8x256 : Shape := ⟨5, ![8, 1, 64, 8, 256]⟩
abbrev S8x64x64 : Shape := ⟨3, ![8, 64, 64]⟩
abbrev S64x64 : Shape := ⟨2, ![64, 64]⟩
abbrev S8x8x1x256x64 : Shape := ⟨5, ![8, 8, 1, 256, 64]⟩
abbrev S64x8 : Shape := ⟨2, ![64, 8]⟩
abbrev S64x8x1 : Shape := ⟨3, ![64, 8, 1]⟩
abbrev S1x1x64x8x1 : Shape := ⟨5, ![1, 1, 64, 8, 1]⟩
abbrev S8x64x4096 : Shape := ⟨3, ![8, 64, 4096]⟩
abbrev S512x4096 : Shape := ⟨2, ![512, 4096]⟩

abbrev nBuf : Space → Nat
  | .hbm => 140
  | .vmem => 0
  | .smem => 0
  | _ => 0

abbrev hbmTy0_0 (i : Nat) : BufTy := match i % 128 with
  | 0 => ⟨S16896x6144, .f32⟩
  | 1 => ⟨S4x8x15x2048, .f32⟩
  | 2 => ⟨S4x512x512, .f32⟩
  | 3 => ⟨S2048, .f32⟩
  | 4 => ⟨S2048, .f32⟩
  | 5 => ⟨S2048, .f32⟩
  | 6 => ⟨S8x128x128, .f32⟩
  | 7 => ⟨S8x128, .f32⟩
  | 8 => ⟨S512x6144, .f32⟩
  | 9 => ⟨S8x64x6144, .f32⟩
  | 10 => ⟨S8x64x2048, .f32⟩
  | 11 => ⟨S1x8x15x2048, .f32⟩
  | 12 => ⟨S8x15x2048, .f32⟩
  | 13 => ⟨S8x79x2048, .f32⟩
  | 14 => ⟨S_, .f32⟩
  | 15 => ⟨S8x1x2048, .f32⟩
  | 16 => ⟨S_, .f32⟩
  | 17 => ⟨S_, .f32⟩
  | 18 => ⟨S8x79x2048, .f32⟩
  | 19 => ⟨S8x80x2048, .f32⟩
  | 20 => ⟨S64, .i32⟩
  | 21 => ⟨S_, .i32⟩
  | 22 => ⟨S64, .i32⟩
  | 23 => ⟨S64, .i32⟩
  | 24 => ⟨S1x64x1, .i32⟩
  | 25 => ⟨S8x64x512, .f32⟩
  | 26 => ⟨S8x64x512, .f32⟩
  | 27 => ⟨S8x64x512, .f32⟩
  | 28 => ⟨S_, .i32⟩
  | 29 => ⟨S1x64x1, .i32⟩
  | 30 => ⟨S1x64x1, .i32⟩
  | 31 => ⟨S1x64x1, .f32⟩
  | 32 => ⟨S8x64x512, .f32⟩
  | 33 => ⟨S8x64x512, .f32⟩
  | 34 => ⟨S8x64x512, .f32⟩
  | 35 => ⟨S8x64x512, .f32⟩
  | 36 => ⟨S1x512x512, .f32⟩
  | 37 => ⟨S512x512, .f32⟩
  | 38 => ⟨S8x64x512, .f32⟩
  | 39 => ⟨S8x64x512, .f32⟩
  | 40 => ⟨S8x64x512, .f32⟩
  | 41 => ⟨S8x64x512, .f32⟩
  | 42 => ⟨S_, .i32⟩
  | 43 => ⟨S1x64x1, .i32⟩
  | 44 => ⟨S1x64x1, .i32⟩
  | 45 => ⟨S1x64x1, .f32⟩
  | 46 => ⟨S8x64x512, .f32⟩
  | 47 => ⟨S8x64x512, .f32⟩
  | 48 => ⟨S8x64x512, .f32⟩
  | 49 => ⟨S8x64x512, .f32⟩
  | 50 => ⟨S1x512x512, .f32⟩
  | 51 => ⟨S512x512, .f32⟩
  | 52 => ⟨S8x64x512, .f32⟩
  | 53 => ⟨S8x64x512, .f32⟩
  | 54 => ⟨S8x64x512, .f32⟩
  | 55 => ⟨S8x64x512, .f32⟩
  | 56 => ⟨S_, .i32⟩
  | 57 => ⟨S1x64x1, .i32⟩
  | 58 => ⟨S1x64x1, .i32⟩
  | 59 => ⟨S1x64x1, .f32⟩
  | 60 => ⟨S8x64x512, .f32⟩
  | 61 => ⟨S8x64x512, .f32⟩
  | 62 => ⟨S8x64x512, .f32⟩
  | 63 => ⟨S8x64x512, .f32⟩
  | 64 => ⟨S1x512x512, .f32⟩
  | 65 => ⟨S512x512, .f32⟩
  | 66 => ⟨S8x64x512, .f32⟩
  | 67 => ⟨S8x64x512, .f32⟩
  | 68 => ⟨S8x64x512, .f32⟩
  | 69 => ⟨S8x64x512, .f32⟩
  | 70 => ⟨S_, .i32⟩
  | 71 => ⟨S1x64x1, .i32⟩
  | 72 => ⟨S1x64x1, .i32⟩
  | 73 => ⟨S1x64x1, .f32⟩
  | 74 => ⟨S8x64x512, .f32⟩
  | 75 => ⟨S8x64x512, .f32⟩
  | 76 => ⟨S8x64x512, .f32⟩
  | 77 => ⟨S8x64x512, .f32⟩
  | 78 => ⟨S1x512x512, .f32⟩
  | 79 => ⟨S512x512, .f32⟩
  | 80 => ⟨S8x64x512, .f32⟩
  | 81 => ⟨S8x64x2048, .f32⟩
  | 82 => ⟨S1x1x2048, .f32⟩
  | 83 => ⟨S8x64x2048, .f32⟩
  | 84 => ⟨S8x64x2048, .f32⟩
  | 85 => ⟨S8x15x2048, .f32⟩
  | 86 => ⟨S8x64x2048, .f32⟩
  | 87 => ⟨S8x64x2048, .f32⟩
  | 88 => ⟨S_, .f32⟩
  | 89 => ⟨S8x64, .f32⟩
  | 90 => ⟨S8x64x1, .f32⟩
  | 91 => ⟨S_, .f32⟩
  | 92 => ⟨S8x64x1, .f32⟩
  | 93 => ⟨S8x64x1, .f32⟩
  | 94 => ⟨S8x64x2048, .f32⟩
  | 95 => ⟨S8x64x2048, .f32⟩
  | 96 => ⟨S8x64x2048, .f32⟩
  | 97 => ⟨S_, .f32⟩
  | 98 => ⟨S8x64, .f32⟩
  | 99 => ⟨S8x64x1, .f32⟩
  | 100 => ⟨S_, .f32⟩
  | 101 => ⟨S8x64x1, .f32⟩
  | 102 => ⟨S8x64x1, .f32⟩
  | 103 => ⟨S_, .f32⟩
  | 104 => ⟨S8x64x1, .f32⟩
  | 105 => ⟨S8x64x1, .f32⟩
  | 106 => ⟨S8x64x1, .f32⟩
  | 107 => ⟨S8x64x2048, .f32⟩
  | 108 => ⟨S8x64x2048, .f32⟩
  | 109 => ⟨S1x1x2048, .f32⟩
  | 110 => ⟨S8x64x2048, .f32⟩
  | 111 => ⟨S8x64x2048, .f32⟩
  | 112 => ⟨S1x1x2048, .f32⟩
  | 113 => ⟨S8x64x2048, .f32⟩
  | 114 => ⟨S8x64x2048, .f32⟩
  | 115 => ⟨S8x1x64x8x256, .f32⟩
  | 116 => ⟨S8x64x64, .f32⟩
  | 117 => ⟨S64x64, .i32⟩
  | 118 => ⟨S_, .i32⟩
  | 119 => ⟨S64x64, .i32⟩
  | 120 => ⟨S64x64, .i32⟩
  | 121 => ⟨S64x64, .i32⟩
  | 122 => ⟨S64x64, .i1⟩
  | 123 => ⟨S8x64x64, .i1⟩
  | 124 => ⟨S_, .f32⟩
  | 125 => ⟨S8x64x64, .f32⟩
  | 126 => ⟨S8x64x64, .f32⟩
  | 127 => ⟨S8x8x1x256x64, .f32⟩
  | _ => ⟨S16896x6144, .f32⟩

abbrev hbmTy0_1 (i : Nat) : BufTy := match i % 128 with
  | 0 => ⟨S8x1x64x8x256, .f32⟩
  | 1 => ⟨S8x64, .f32⟩
  | 2 => ⟨S64x8, .f32⟩
  | 3 => ⟨S64x8x1, .f32⟩
  | 4 => ⟨S1x1x64x8x1, .f32⟩
  | 5 => ⟨S8x1x64x8x256, .f32⟩
  | 6 => ⟨S8x1x64x8x256, .f32⟩
  | 7 => ⟨S8x64x2048, .f32⟩
  | 8 => ⟨S8x64x2048, .f32⟩
  | 9 => ⟨S8x64x4096, .f32⟩
  | 10 => ⟨S512x4096, .f32⟩
  | 11 => ⟨S512x4096, .bf16⟩
  | _ => ⟨S16896x6144, .f32⟩

abbrev hbmTy (i : Nat) : BufTy := match i / 128 with
  | 0 => hbmTy0_0 i
  | 1 => hbmTy0_1 i
  | _ => ⟨S16896x6144, .f32⟩

abbrev bufTy : (tb : Table) → Fin (tcTables nBuf tb) → BufTy
  | .hbm, ⟨i, _⟩ => hbmTy i
  | _, _ => ⟨S16896x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_call0_call0_cst : Ref sig .tc := ⟨.hbm, 16, rfl⟩
abbrev main_call0_call0_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_c_2 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_3 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_4 : Ref sig .tc := ⟨.hbm, 88, rfl⟩
abbrev main_v72 : Ref sig .tc := ⟨.hbm, 89, rfl⟩
abbrev main_v73 : Ref sig .tc := ⟨.hbm, 90, rfl⟩
abbrev main_cst_5 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_6 : Ref sig .tc := ⟨.hbm, 97, rfl⟩
abbrev main_v79 : Ref sig .tc := ⟨.hbm, 98, rfl⟩
abbrev main_v80 : Ref sig .tc := ⟨.hbm, 99, rfl⟩
abbrev main_cst_7 : Ref sig .tc := ⟨.hbm, 100, rfl⟩
abbrev main_v81 : Ref sig .tc := ⟨.hbm, 101, rfl⟩
abbrev main_v82 : Ref sig .tc := ⟨.hbm, 102, rfl⟩
abbrev main_cst_8 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_call1_v0 : Ref sig .tc := ⟨.hbm, 117, rfl⟩
abbrev main_call1_c : Ref sig .tc := ⟨.hbm, 118, rfl⟩
abbrev main_call1_v1 : Ref sig .tc := ⟨.hbm, 119, rfl⟩
abbrev main_call1_v2 : Ref sig .tc := ⟨.hbm, 120, rfl⟩
abbrev main_call1_v3 : Ref sig .tc := ⟨.hbm, 121, rfl⟩
abbrev main_call1_v4 : Ref sig .tc := ⟨.hbm, 122, rfl⟩
abbrev main_call1_v5 : Ref sig .tc := ⟨.hbm, 123, rfl⟩
abbrev main_call1_cst : Ref sig .tc := ⟨.hbm, 124, rfl⟩
abbrev main_call1_v6 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩

abbrev nD : Nat := 1
abbrev τ : Topo := Topo.v7x

variable {F : FTy → Type} [FloatOps F]
-- ==== InProj.lean ====
abbrev S16896x4096 : Shape := ⟨2, ![16896, 4096]⟩
abbrev S4096 : Shape := ⟨1, ![4096]⟩
abbrev S4096x6144 : Shape := ⟨2, ![4096, 6144]⟩
abbrev S1x4096 : Shape := ⟨2, ![1, 4096]⟩
abbrev S16896x6144 : Shape := ⟨2, ![16896, 6144]⟩
abbrev S512x4096 : Shape := ⟨2, ![512, 4096]⟩
abbrev S4096x1024 : Shape := ⟨2, ![4096, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S4096x6144, .f32⟩
  | .hbm, ⟨3, _⟩ => ⟨S1x4096, .f32⟩
  | .hbm, ⟨4, _⟩ => ⟨S4096x6144, .bf16⟩
  | .hbm, ⟨5, _⟩ => ⟨S16896x6144, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .f32⟩
  | .local _ .vmem, ⟨6, _⟩ => ⟨S512x1024, .f32⟩
  | .local _ .vmem, ⟨7, _⟩ => ⟨S512x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![33, 6], ![false, false]⟩

def k0_cond2 (i : grid0.Coords) : BitVec 1 :=
  let arg1 : BitVec 32 := BitVec.ofNat 32 (i 1).val
  let c2_i32 : BitVec 32 := 2#32
  let v7 : BitVec 1 := Scalar.cmpi .slt arg1 c2_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c2_i32_5 : BitVec 32 := 2#32
  let v10 : BitVec 1 := Scalar.cmpi .sge arg1 c2_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S16896x4096 : Shape := ⟨2, ![16896, 4096]⟩
abbrev S4096 : Shape := ⟨1, ![4096]⟩
abbrev S4096x6144 : Shape := ⟨2, ![4096, 6144]⟩
abbrev S_ : Shape := ⟨0, ![]⟩
abbrev S16896 : Shape := ⟨1, ![16896]⟩
abbrev S16896x1 : Shape := ⟨2, ![16896, 1]⟩
abbrev S1x4096 : Shape := ⟨2, ![1, 4096]⟩
abbrev S16896x6144 : Shape := ⟨2, ![16896, 6144]⟩
abbrev S16896x2048 : Shape := ⟨2, ![16896, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S4096x6144, .f32⟩
  | .hbm, ⟨3, _⟩ => ⟨S16896x4096, .f32⟩
  | .hbm, ⟨4, _⟩ => ⟨S_, .f32⟩
  | .hbm, ⟨5, _⟩ => ⟨S16896, .f32⟩
  | .hbm, ⟨6, _⟩ => ⟨S16896x1, .f32⟩
  | .hbm, ⟨7, _⟩ => ⟨S_, .f32⟩
  | .hbm, ⟨8, _⟩ => ⟨S16896x1, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S16896x1, .f32⟩
  | .hbm, ⟨14, _⟩ => ⟨S16896x4096, .f32⟩
  | .hbm, ⟨15, _⟩ => ⟨S16896x4096, .f32⟩
  | .hbm, ⟨16, _⟩ => ⟨S1x4096, .f32⟩
  | .hbm, ⟨17, _⟩ => ⟨S16896x4096, .f32⟩
  | .hbm, ⟨18, _⟩ => ⟨S16896x4096, .f32⟩
  | .hbm, ⟨19, _⟩ => ⟨S16896x6144, .f32⟩
  | .hbm, ⟨20, _⟩ => ⟨S16896x4096, .f32⟩
  | .hbm, ⟨21, _⟩ => ⟨S_, .f32⟩
  | .hbm, ⟨22, _⟩ => ⟨S16896x4096, .f32⟩
  | .hbm, ⟨23, _⟩ => ⟨S16896x4096, .f32⟩
  | .hbm, ⟨24, _⟩ => ⟨S16896x4096, .f32⟩
  | .hbm, ⟨25, _⟩ => ⟨S_, .f32⟩
  | .hbm, ⟨26, _⟩ => ⟨S16896x4096, .f32⟩
  | .hbm, ⟨27, _⟩ => ⟨S16896x4096, .f32⟩
  | .hbm, ⟨28, _⟩ => ⟨S16896x4096, .f32⟩
  | .hbm, ⟨29, _⟩ => ⟨S16896x4096, .f32⟩
  | .hbm, ⟨30, _⟩ => ⟨S16896x2048, .f32⟩
  | .hbm, ⟨31, _⟩ => ⟨S16896x6144, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== OutProj.lean ====
abbrev S16384x4096 : Shape := ⟨2, ![16384, 4096]⟩
abbrev S512x4096 : Shape := ⟨2, ![512, 4096]⟩
abbrev S4096x4096 : Shape := ⟨2, ![4096, 4096]⟩
abbrev S16896x4096 : Shape := ⟨2, ![16896, 4096]⟩
abbrev S4096x1024 : Shape := ⟨2, ![4096, 1024]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S512x4096, .bf16⟩
  | .hbm, ⟨2, _⟩ => ⟨S4096x4096, .f32⟩
  | .hbm, ⟨3, _⟩ => ⟨S16896x4096, .f32⟩
  | .hbm, ⟨4, _⟩ => ⟨S4096x4096, .bf16⟩
  | .hbm, ⟨5, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![33, 4], ![false, false]⟩

def k0_cond1 (i : grid0.Coords) : BitVec 1 :=
  let arg0 : BitVec 32 := BitVec.ofNat 32 (i 0).val
  let c32_i32 : BitVec 32 := 32#32
  let v0 : BitVec 1 := Scalar.cmpi .slt arg0 c32_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c32_i32_0 : BitVec 32 := 32#32
  let v3 : BitVec 1 := Scalar.cmpi .sge arg0 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.subi arg0 c32_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== OutProjRefIdeal.lean ====
abbrev S16384x4096 : Shape := ⟨2, ![16384, 4096]⟩
abbrev S512x4096 : Shape := ⟨2, ![512, 4096]⟩
abbrev S4096x4096 : Shape := ⟨2, ![4096, 4096]⟩
abbrev S16896x4096 : Shape := ⟨2, ![16896, 4096]⟩

abbrev nBuf : Space → Nat
  | .hbm => 8
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S512x4096, .bf16⟩
  | .hbm, ⟨2, _⟩ => ⟨S4096x4096, .f32⟩
  | .hbm, ⟨3, _⟩ => ⟨S16896x4096, .f32⟩
  | .hbm, ⟨4, _⟩ => ⟨S16896x4096, .bf16⟩
  | .hbm, ⟨5, _⟩ => ⟨S16896x4096, .f32⟩
  | .hbm, ⟨6, _⟩ => ⟨S16896x4096, .f32⟩
  | .hbm, ⟨7, _⟩ => ⟨S16896x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== FinalP.lean ====
abbrev S16896x4096 : Shape := ⟨2, ![16896, 4096]⟩
abbrev S4096 : Shape := ⟨1, ![4096]⟩
abbrev S1x4096 : Shape := ⟨2, ![1, 4096]⟩
abbrev S16384x4096 : Shape := ⟨2, ![16384, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalPRefIdeal.lean ====
abbrev S16896x4096 : Shape := ⟨2, ![16896, 4096]⟩
abbrev S4096 : Shape := ⟨1, ![4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16384x4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x4096, .f32⟩
  | .hbm, ⟨15, _⟩ => ⟨S16384x4096, .f32⟩
  | .hbm, ⟨16, _⟩ => ⟨S1x4096, .f32⟩
  | .hbm, ⟨17, _⟩ => ⟨S16384x4096, .f32⟩
  | .hbm, ⟨18, _⟩ => ⟨S16384x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== FinalS.lean ====
abbrev S16896x4096 : Shape := ⟨2, ![16896, 4096]⟩
abbrev S4096 : Shape := ⟨1, ![4096]⟩
abbrev S1x4096 : Shape := ⟨2, ![1, 4096]⟩
abbrev S512x4096 : Shape := ⟨2, ![512, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S512x4096, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .f32⟩
  | .local _ .vmem, ⟨4, _⟩ => ⟨S256x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalSRefIdeal.lean ====
abbrev S16896x4096 : Shape := ⟨2, ![16896, 4096]⟩
abbrev S4096 : Shape := ⟨1, ![4096]⟩
abbrev S512x4096 : Shape := ⟨2, ![512, 4096]⟩
abbrev S_ : Shape := ⟨0, ![]⟩
abbrev S512 : Shape := ⟨1, ![512]⟩
abbrev S512x1 : Shape := ⟨2, ![512, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S512x4096, .f32⟩
  | .hbm, ⟨3, _⟩ => ⟨S512x4096, .f32⟩
  | .hbm, ⟨4, _⟩ => ⟨S_, .f32⟩
  | .hbm, ⟨5, _⟩ => ⟨S512, .f32⟩
  | .hbm, ⟨6, _⟩ => ⟨S512x1, .f32⟩
  | .hbm, ⟨7, _⟩ => ⟨S_, .f32⟩
  | .hbm, ⟨8, _⟩ => ⟨S512x1, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S512x1, .f32⟩
  | .hbm, ⟨14, _⟩ => ⟨S512x4096, .f32⟩
  | .hbm, ⟨15, _⟩ => ⟨S512x4096, .f32⟩
  | .hbm, ⟨16, _⟩ => ⟨S1x4096, .f32⟩
  | .hbm, ⟨17, _⟩ => ⟨S512x4096, .f32⟩
  | .hbm, ⟨18, _⟩ => ⟨S512x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Route.lean ====
abbrev S16896x4096 : Shape := ⟨2, ![16896, 4096]⟩
abbrev S4096 : Shape := ⟨1, ![4096]⟩
abbrev S4096x4 : Shape := ⟨2, ![4096, 4]⟩
abbrev S4 : Shape := ⟨1, ![4]⟩
abbrev S4096x16 : Shape := ⟨2, ![4096, 16]⟩
abbrev S16 : Shape := ⟨1, ![16]⟩
abbrev S4096x20 : Shape := ⟨2, ![4096, 20]⟩
abbrev S20x4096 : Shape := ⟨2, ![20, 4096]⟩
abbrev S_ : Shape := ⟨0, ![]⟩
abbrev S32x4096 : Shape := ⟨2, ![32, 4096]⟩
abbrev S20 : Shape := ⟨1, ![20]⟩
abbrev S32 : Shape := ⟨1, ![32]⟩
abbrev S32x1 : Shape := ⟨2, ![32, 1]⟩
abbrev S32x128 : Shape := ⟨2, ![32, 128]⟩
abbrev S1x4096 : Shape := ⟨2, ![1, 4096]⟩
abbrev S16896x2048 : Shape := ⟨2, ![16896, 2048]⟩
abbrev S8x16896 : Shape := ⟨2, ![8, 16896]⟩
abbrev S16x128 : Shape := ⟨2, ![16, 128]⟩
abbrev S512x4096 : Shape := ⟨2, ![512, 4096]⟩
abbrev S512x2048 : Shape := ⟨2, ![512, 2048]⟩
abbrev S8x512 : Shape := ⟨2, ![8, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S16x512 : Shape := ⟨2, ![16, 512]⟩
abbrev S512x512 : Shape := ⟨2, ![512, 512]⟩
abbrev S16x1 : Shape := ⟨2, ![16, 1]⟩

abbrev nBuf : Space → Nat
  | .hbm => 26
  | .vmem => 14
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S4096x4, .f32⟩
  | .hbm, ⟨3, _⟩ => ⟨S4, .f32⟩
  | .hbm, ⟨4, _⟩ => ⟨S4096x16, .f32⟩
  | .hbm, ⟨5, _⟩ => ⟨S16, .f32⟩
  | .hbm, ⟨6, _⟩ => ⟨S4096x20, .f32⟩
  | .hbm, ⟨7, _⟩ => ⟨S20x4096, .f32⟩
  | .hbm, ⟨8, _⟩ => ⟨S_, .i32⟩
  | .hbm, ⟨9, _⟩ => ⟨S_, .f32⟩
  | .hbm, ⟨10, _⟩ => ⟨S32x4096, .f32⟩
  | .hbm, ⟨11, _⟩ => ⟨S32x4096, .bf16⟩
  | .hbm, ⟨12, _⟩ => ⟨S32x4096, .f32⟩
  | .hbm, ⟨13, _⟩ => ⟨S32x4096, .f32⟩
  | .hbm, ⟨14, _⟩ => ⟨S32x4096, .bf16⟩
  | .hbm, ⟨15, _⟩ => ⟨S20, .f32⟩
  | .hbm, ⟨16, _⟩ => ⟨S_, .i32⟩
  | .hbm, ⟨17, _⟩ => ⟨S_, .f32⟩
  | .hbm, ⟨18, _⟩ => ⟨S32, .f32⟩
  | .hbm, ⟨19, _⟩ => ⟨S32x1, .f32⟩
  | .hbm, ⟨20, _⟩ => ⟨S32x128, .f32⟩
  | .hbm, ⟨21, _⟩ => ⟨S1x4096, .f32⟩
  | .hbm, ⟨22, _⟩ => ⟨S16896x2048, .i32⟩
  | .hbm, ⟨23, _⟩ => ⟨S8x16896, .i32⟩
  | .hbm, ⟨24, _⟩ => ⟨S8x16896, .f32⟩
  | .hbm, ⟨25, _⟩ => ⟨S16x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S32x4096, .bf16⟩
  | .local _ .vmem, ⟨4, _⟩ => ⟨S32x4096, .bf16⟩
  | .local _ .vmem, ⟨5, _⟩ => ⟨S32x128, .f32⟩
  | .local _ .vmem, ⟨6, _⟩ => ⟨S512x2048, .i32⟩
  | .local _ .vmem, ⟨7, _⟩ => ⟨S512x2048, .i32⟩
  | .local _ .vmem, ⟨8, _⟩ => ⟨S8x512, .i32⟩
  | .local _ .vmem, ⟨9, _⟩ => ⟨S8x512, .i32⟩
  | .local _ .vmem, ⟨10, _⟩ => ⟨S8x512, .f32⟩
  | .local _ .vmem, ⟨11, _⟩ => ⟨S8x512, .f32⟩
  | .local _ .vmem, ⟨12, _⟩ => ⟨S16x128, .f32⟩
  | .local _ .vmem, ⟨13, _⟩ => ⟨S16x128, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [BitOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RouteIdeal.lean ====
abbrev S16896x4096 : Shape := ⟨2, ![16896, 4096]⟩
abbrev S4096 : Shape := ⟨1, ![4096]⟩
abbrev S4096x4 : Shape := ⟨2, ![4096, 4]⟩
abbrev S4 : Shape := ⟨1, ![4]⟩
abbrev S4096x16 : Shape := ⟨2, ![4096, 16]⟩
abbrev S16 : Shape := ⟨1, ![16]⟩
abbrev S4096x20 : Shape := ⟨2, ![4096, 20]⟩
abbrev S20x4096 : Shape := ⟨2, ![20, 4096]⟩
abbrev S_ : Shape := ⟨0, ![]⟩
abbrev S32x4096 : Shape := ⟨2, ![32, 4096]⟩
abbrev S20 : Shape := ⟨1, ![20]⟩
abbrev S32 : Shape := ⟨1, ![32]⟩
abbrev S32x1 : Shape := ⟨2, ![32, 1]⟩
abbrev S32x128 : Shape := ⟨2, ![32, 128]⟩
abbrev S1x4096 : Shape := ⟨2, ![1, 4096]⟩
abbrev S16896x2x2048 : Shape := ⟨3, ![16896, 2, 2048]⟩
abbrev S8x16896 : Shape := ⟨2, ![8, 16896]⟩
abbrev S16x128 : Shape := ⟨2, ![16, 128]⟩
abbrev S16896x1x2048 : Shape := ⟨3, ![16896, 1, 2048]⟩
abbrev S16896x2048 : Shape := ⟨2, ![16896, 2048]⟩
abbrev S512x4096 : Shape := ⟨2, ![512, 4096]⟩
abbrev S512x2048 : Shape := ⟨2, ![512, 2048]⟩
abbrev S512x2x2048 : Shape := ⟨3, ![512, 2, 2048]⟩
abbrev S512x1x2048 : Shape := ⟨3, ![512, 1, 2048]⟩
abbrev S8x512 : Shape := ⟨2, ![8, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S16x512 : Shape := ⟨2, ![16, 512]⟩
abbrev S512x512 : Shape := ⟨2, ![512, 512]⟩
abbrev S16x1 : Shape := ⟨2, ![16, 1]⟩

abbrev nBuf : Space → Nat
  | .hbm => 26
  | .vmem => 14
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S4096x4, .f32⟩
  | .hbm, ⟨3, _⟩ => ⟨S4, .f32⟩
  | .hbm, ⟨4, _⟩ => ⟨S4096x16, .f32⟩
  | .hbm, ⟨5, _⟩ => ⟨S16, .f32⟩
  | .hbm, ⟨6, _⟩ => ⟨S4096x20, .f32⟩
  | .hbm, ⟨7, _⟩ => ⟨S20x4096, .f32⟩
  | .hbm, ⟨8, _⟩ => ⟨S_, .i32⟩
  | .hbm, ⟨9, _⟩ => ⟨S_, .f32⟩
  | .hbm, ⟨10, _⟩ => ⟨S32x4096, .f32⟩
  | .hbm, ⟨11, _⟩ => ⟨S32x4096, .bf16⟩
  | .hbm, ⟨12, _⟩ => ⟨S32x4096, .f32⟩
  | .hbm, ⟨13, _⟩ => ⟨S32x4096, .f32⟩
  | .hbm, ⟨14, _⟩ => ⟨S32x4096, .bf16⟩
  | .hbm, ⟨15, _⟩ => ⟨S20, .f32⟩
  | .hbm, ⟨16, _⟩ => ⟨S_, .i32⟩
  | .hbm, ⟨17, _⟩ => ⟨S_, .f32⟩
  | .hbm, ⟨18, _⟩ => ⟨S32, .f32⟩
  | .hbm, ⟨19, _⟩ => ⟨S32x1, .f32⟩
  | .hbm, ⟨20, _⟩ => ⟨S32x128, .f32⟩
  | .hbm, ⟨21, _⟩ => ⟨S1x4096, .f32⟩
  | .hbm, ⟨22, _⟩ => ⟨S16896x2x2048, .bf16⟩
  | .hbm, ⟨23, _⟩ => ⟨S8x16896, .i32⟩
  | .hbm, ⟨24, _⟩ => ⟨S8x16896, .f32⟩
  | .hbm, ⟨25, _⟩ => ⟨S16x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S32x4096, .bf16⟩
  | .local _ .vmem, ⟨4, _⟩ => ⟨S32x4096, .bf16⟩
  | .local _ .vmem, ⟨5, _⟩ => ⟨S32x128, .f32⟩
  | .local _ .vmem, ⟨6, _⟩ => ⟨S512x2x2048, .bf16⟩
  | .local _ .vmem, ⟨7, _⟩ => ⟨S512x2x2048, .bf16⟩
  | .local _ .vmem, ⟨8, _⟩ => ⟨S8x512, .i32⟩
  | .local _ .vmem, ⟨9, _⟩ => ⟨S8x512, .i32⟩
  | .local _ .vmem, ⟨10, _⟩ => ⟨S8x512, .f32⟩
  | .local _ .vmem, ⟨11, _⟩ => ⟨S8x512, .f32⟩
  | .local _ .vmem, ⟨12, _⟩ => ⟨S16x128, .f32⟩
  | .local _ .vmem, ⟨13, _⟩ => ⟨S16x128, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev main_v12_2 : Ref sig .tc := ⟨.hbm, 24, rfl⟩
abbrev main_v12_3 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  ![arg0.toNat, 0, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== RouteRefIdeal.lean ====
abbrev S16896x4096 : Shape := ⟨2, ![16896, 4096]⟩
abbrev S4096 : Shape := ⟨1, ![4096]⟩
abbrev S4096x4 : Shape := ⟨2, ![4096, 4]⟩
abbrev S4 : Shape := ⟨1, ![4]⟩
abbrev S4096x16 : Shape := ⟨2, ![4096, 16]⟩
abbrev S16 : Shape := ⟨1, ![16]⟩
abbrev S_ : Shape := ⟨0, ![]⟩
abbrev S16896 : Shape := ⟨1, ![16896]⟩
abbrev S16896x1 : Shape := ⟨2, ![16896, 1]⟩
abbrev S1x4096 : Shape := ⟨2, ![1, 4096]⟩
abbrev S16896x4 : Shape := ⟨2, ![16896, 4]⟩
abbrev S1x4 : Shape := ⟨2, ![1, 4]⟩
abbrev S16896x16 : Shape := ⟨2, ![16896, 16]⟩
abbrev S1x16 : Shape := ⟨2, ![1, 16]⟩
abbrev S16896x4x4 : Shape := ⟨3, ![16896, 4, 4]⟩
abbrev S16896x4x1 : Shape := ⟨3, ![16896, 4, 1]⟩
abbrev S16896x2 : Shape := ⟨2, ![16896, 2]⟩
abbrev S2x16896 : Shape := ⟨2, ![2, 16896]⟩
abbrev S6x16896 : Shape := ⟨2, ![6, 16896]⟩
abbrev S8x16896 : Shape := ⟨2, ![8, 16896]⟩

abbrev nBuf : Space → Nat
  | .hbm => 101
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S4096x4, .f32⟩
  | .hbm, ⟨3, _⟩ => ⟨S4, .f32⟩
  | .hbm, ⟨4, _⟩ => ⟨S4096x16, .f32⟩
  | .hbm, ⟨5, _⟩ => ⟨S16, .f32⟩
  | .hbm, ⟨6, _⟩ => ⟨S16896x4096, .f32⟩
  | .hbm, ⟨7, _⟩ => ⟨S_, .f32⟩
  | .hbm, ⟨8, _⟩ => ⟨S16896, .f32⟩
  | .hbm, ⟨9, _⟩ => ⟨S16896x1, .f32⟩
  | .hbm, ⟨10, _⟩ => ⟨S_, .f32⟩
  | .hbm, ⟨11, _⟩ => ⟨S16896x1, .f32⟩
  | .hbm, ⟨12, _⟩ => ⟨S16896x1, .f32⟩
  | .hbm, ⟨13, _⟩ => ⟨S_, .f32⟩
  | .hbm, ⟨14, _⟩ => ⟨S16896x1, .f32⟩
  | .hbm, ⟨15, _⟩ => ⟨S16896x1, .f32⟩
  | .hbm, ⟨16, _⟩ => ⟨S16896x1, .f32⟩
  | .hbm, ⟨17, _⟩ => ⟨S16896x4096, .f32⟩
  | .hbm, ⟨18, _⟩ => ⟨S16896x4096, .f32⟩
  | .hbm, ⟨19, _⟩ => ⟨S1x4096, .f32⟩
  | .hbm, ⟨20, _⟩ => ⟨S16896x4096, .f32⟩
  | .hbm, ⟨21, _⟩ => ⟨S16896x4096, .f32⟩
  | .hbm, ⟨22, _⟩ => ⟨S16896x4, .f32⟩
  | .hbm, ⟨23, _⟩ => ⟨S1x4, .f32⟩
  | .hbm, ⟨24, _⟩ => ⟨S16896x4, .f32⟩
  | .hbm, ⟨25, _⟩ => ⟨S16896x4, .f32⟩
  | .hbm, ⟨26, _⟩ => ⟨S_, .f32⟩
  | .hbm, ⟨27, _⟩ => ⟨S16896, .f32⟩
  | .hbm, ⟨28, _⟩ => ⟨S_, .f32⟩
  | .hbm, ⟨29, _⟩ => ⟨S16896, .f32⟩
  | .hbm, ⟨30, _⟩ => ⟨S16896, .f32⟩
  | .hbm, ⟨31, _⟩ => ⟨S16896x1, .f32⟩
  | .hbm, ⟨32, _⟩ => ⟨S16896x4, .f32⟩
  | .hbm, ⟨33, _⟩ => ⟨S16896x4, .f32⟩
  | .hbm, ⟨34, _⟩ => ⟨S16896x4, .f32⟩
  | .hbm, ⟨35, _⟩ => ⟨S_, .f32⟩
  | .hbm, ⟨36, _⟩ => ⟨S16896, .f32⟩
  | .hbm, ⟨37, _⟩ => ⟨S16896x1, .f32⟩
  | .hbm, ⟨38, _⟩ => ⟨S16896x4, .f32⟩
  | .hbm, ⟨39, _⟩ => ⟨S16896x4, .f32⟩
  | .hbm, ⟨40, _⟩ => ⟨S_, .f32⟩
  | .hbm, ⟨41, _⟩ => ⟨S16896, .f32⟩
  | .hbm, ⟨42, _⟩ => ⟨S16896x1, .f32⟩
  | .hbm, ⟨43, _⟩ => ⟨S16896x4, .f32⟩
  | .hbm, ⟨44, _⟩ => ⟨S16896x4, .i1⟩
  | .hbm, ⟨45, _⟩ => ⟨S4, .i32⟩
  | .hbm, ⟨46, _⟩ => ⟨S_, .i32⟩
  | .hbm, ⟨47, _⟩ => ⟨S_, .i32⟩
  | .hbm, ⟨48, _⟩ => ⟨S16896x4, .i32⟩
  | .hbm, ⟨49, _⟩ => ⟨S16896x4, .i32⟩
  | .hbm, ⟨50, _⟩ => ⟨S16896x4, .i32⟩
  | .hbm, ⟨51, _⟩ => ⟨S_, .i32⟩
  | .hbm, ⟨52, _⟩ => ⟨S16896, .i32⟩
  | .hbm, ⟨53, _⟩ => ⟨S16896x16, .f32⟩
  | .hbm, ⟨54, _⟩ => ⟨S1x16, .f32⟩
  | .hbm, ⟨55, _⟩ => ⟨S16896x16, .f32⟩
  | .hbm, ⟨56, _⟩ => ⟨S16896x16, .f32⟩
  | .hbm, ⟨57, _⟩ => ⟨S16896x4x4, .f32⟩
  | .hbm, ⟨58, _⟩ => ⟨S4, .i32⟩
  | .hbm, ⟨59, _⟩ => ⟨S16896x1, .i32⟩
  | .hbm, ⟨60, _⟩ => ⟨S1x4, .i32⟩
  | .hbm, ⟨61, _⟩ => ⟨S16896x4, .i32⟩
  | .hbm, ⟨62, _⟩ => ⟨S16896x4, .i32⟩
  | .hbm, ⟨63, _⟩ => ⟨S16896x4, .i1⟩
  | .hbm, ⟨64, _⟩ => ⟨S16896x4x1, .i1⟩
  | .hbm, ⟨65, _⟩ => ⟨S_, .f32⟩
  | .hbm, ⟨66, _⟩ => ⟨S_, .f32⟩
  | .hbm, ⟨67, _⟩ => ⟨S16896x4x4, .i1⟩
  | .hbm, ⟨68, _⟩ => ⟨S16896x4x4, .f32⟩
  | .hbm, ⟨69, _⟩ => ⟨S16896x4x4, .f32⟩
  | .hbm, ⟨70, _⟩ => ⟨S_, .f32⟩
  | .hbm, ⟨71, _⟩ => ⟨S16896x4, .f32⟩
  | .hbm, ⟨72, _⟩ => ⟨S16896x2, .f32⟩
  | .hbm, ⟨73, _⟩ => ⟨S16896x2, .i32⟩
  | .hbm, ⟨74, _⟩ => ⟨S_, .f32⟩
  | .hbm, ⟨75, _⟩ => ⟨S_, .f32⟩
  | .hbm, ⟨76, _⟩ => ⟨S16896x4, .f32⟩
  | .hbm, ⟨77, _⟩ => ⟨S16896x4, .f32⟩
  | .hbm, ⟨78, _⟩ => ⟨S_, .f32⟩
  | .hbm, ⟨79, _⟩ => ⟨S16896, .f32⟩
  | .hbm, ⟨80, _⟩ => ⟨S16896x1, .f32⟩
  | .hbm, ⟨81, _⟩ => ⟨S_, .f32⟩
  | .hbm, ⟨82, _⟩ => ⟨S16896, .f32⟩
  | .hbm, ⟨83, _⟩ => ⟨S_, .f32⟩
  | .hbm, ⟨84, _⟩ => ⟨S16896, .f32⟩
  | .hbm, ⟨85, _⟩ => ⟨S16896, .f32⟩
  | .hbm, ⟨86, _⟩ => ⟨S16896x1, .f32⟩
  | .hbm, ⟨87, _⟩ => ⟨S16896x2, .f32⟩
  | .hbm, ⟨88, _⟩ => ⟨S16896x2, .f32⟩
  | .hbm, ⟨89, _⟩ => ⟨S16896x2, .f32⟩
  | .hbm, ⟨90, _⟩ => ⟨S_, .f32⟩
  | .hbm, ⟨91, _⟩ => ⟨S16896, .f32⟩
  | .hbm, ⟨92, _⟩ => ⟨S16896x1, .f32⟩
  | .hbm, ⟨93, _⟩ => ⟨S16896x2, .f32⟩
  | .hbm, ⟨94, _⟩ => ⟨S16896x2, .f32⟩
  | .hbm, ⟨95, _⟩ => ⟨S16896x2, .f32⟩
  | .hbm, ⟨96, _⟩ => ⟨S16896x2, .f32⟩
  | .hbm, ⟨97, _⟩ => ⟨S2x16896, .f32⟩
  | .hbm, ⟨98, _⟩ => ⟨S_, .f32⟩
  | .hbm, ⟨99, _⟩ => ⟨S6x16896, .f32⟩
  | .hbm, ⟨100, _⟩ => ⟨S8x16896, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c : Ref sig .tc := ⟨.hbm, 46, rfl⟩
abbrev main_call0_v0 : Ref sig .tc := ⟨.hbm, 47, rfl⟩
abbrev main_call0_v1 : Ref sig .tc := ⟨.hbm, 48, rfl⟩
abbrev main_call0_v2 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_7 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_values : Ref sig .tc := ⟨.hbm, 72, rfl⟩
abbrev main_indices : Ref sig .tc := ⟨.hbm, 73, rfl⟩
abbrev main_cst_9 : Ref sig .tc := ⟨.hbm, 74, rfl⟩
abbrev main_call2_v0 : Ref sig .tc := ⟨.hbm, 75, rfl⟩
abbrev main_call2_v1 : Ref sig .tc := ⟨.hbm, 76, rfl⟩
abbrev main_v49 : Ref sig .tc := ⟨.hbm, 77, rfl⟩
abbrev main_cst_10 : Ref sig .tc := ⟨.hbm, 78, rfl⟩
abbrev main_v50 : Ref sig .tc := ⟨.hbm, 79, rfl⟩
abbrev main_v51 : Ref sig .tc := ⟨.hbm, 80, rfl⟩
abbrev main_cst_11 : Ref sig .tc := ⟨.hbm, 81, rfl⟩
abbrev main_v52 : Ref sig .tc := ⟨.hbm, 82, rfl⟩
abbrev main_cst_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_13 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_v67 : Ref sig .tc := ⟨.hbm, 100, rfl⟩

abbrev nD : Nat := 1
abbrev τ : Topo := Topo.v7x

variable {F : FTy → Type} [FloatOps F]
-- ==== Proof.InProj.lean ====
/- The value of the input projection: the result array is the reference's term of the argument arrays. -/
module

public import proofs.«01_k».proof.Proof.Gen.InProjIdeal.Value
public import proofs.«01_k».proof.Proof.Gen.InProjRefIdeal.Run
public import proofs.«01_k».proof.Proof.Gen.InProjRefIdeal.Read
public import Idealize.ShloMosaic.Lib.Pipeline.ValueKit

@[expose] public section

set_option maxRecDepth 16384

noncomputable section

namespace Cert.InProjIdeal.Final

open Cert.InProjIdeal Cert.InProjIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its three arguments. -/
abbrev ref (X : FVec Ideal S16896x4096 .f32) (G : FVec Ideal S4096 .f32) (W : FVec Ideal S4096x6144 .f32) : FVec Ideal S16896x6144 .f32 :=
  Cert.InProjRefIdeal.Read.val_main_v23 (F := Ideal) X G W

/-- The windows' block indices: point `t` takes row block `t / 6` and column block `t % 6`. -/
theorem idx : ∀ t : Fin cfg0.N, win0_0.index t = ![t.val / 6, 0] ∧ win0_1.index t = ![0, 0]
    ∧ win0_2.index t = ![0, t.val % 6] ∧ win0_3.index t = ![t.val / 6, t.val % 6] :=
  (by decide +kernel : ∀ t : Fin grid0.N, _)

/-- Within a row block the normalized rows are the same at every point. -/
theorem norm_step (c : Dev nD) (t u : Fin cfg0.N) (h : t.val / 6 = u.val / 6) :
    k0_pay1 (iblk m c 0 t) (iblk m c 1 t) = k0_pay1 (iblk m c 0 u) (iblk m c 1 u) := by
  congr 1
  funext y; blk_ext [iblk, V, idx t, idx u]

/-- At every point the carried scratch holds the row block's normalized rows. -/
theorem scratch (c : Dev nD) : ∀ (n : ℕ) (hn : n < cfg0.N), (outsAt0 m c n hn).2 = k0_pay1 (iblk m c 0 ⟨n, hn⟩) (iblk m c 1 ⟨n, hn⟩) := by
  intro n
  induction n with
  | zero =>
    intro hn
    rw [outsAt0_A m c ⟨0, hn⟩ (by simp) (by simp) (by simp)]; frame_out
  | succ n ih =>
    intro hn
    have h := ih (Nat.lt_of_succ_lt hn)
    by_cases h0 : (n + 1) % 6 = 0
    · rw [outsAt0_A m c ⟨n + 1, hn⟩ h0 (by dsimp only; omega) (by dsimp only; omega)]; frame_out
    · rw [norm_step m c ⟨n + 1, hn⟩ ⟨n, Nat.lt_of_succ_lt hn⟩ (by dsimp only; omega), ← h]
      by_cases h1 : (n + 1) % 6 ≤ 1
      · rw [outsAt0_B m c ⟨n + 1, hn⟩ h0 h1 (by dsimp only; omega)]; rfl
      · rw [outsAt0_C m c ⟨n + 1, hn⟩ h0 h1 (by dsimp only; omega)]; rfl

/-- The pooled columns: the block is the product of the normalized rows with the weights. -/
theorem out_lin (c : Dev nD) (t : Fin cfg0.N) (h : t.val % 6 ≤ 1) :
    (outsAt0 m c t.val t.isLt).1 = k0_pay2 (k0_pay1 (iblk m c 0 t) (iblk m c 1 t)) (iblk m c 2 t) := by
  by_cases h0 : t.val % 6 = 0
  · rw [outsAt0_A m c t h0 h (by omega)]; frame_out
  · rw [outsAt0_B m c t h0 h (by omega)]; frame_out
    rw [scratch m c, norm_step m c ⟨t.val - 1, _⟩ t (by dsimp only; omega), (Memref.isWhole_whole _).read_unread]

/-- The gated columns: the block is that product through the activation. -/
theorem out_gelu (c : Dev nD) (t : Fin cfg0.N) (h : 2 ≤ t.val % 6) :
    (outsAt0 m c t.val t.isLt).1 = k0_pay3 (k0_pay1 (iblk m c 0 t) (iblk m c 1 t)) (iblk m c 2 t) := by
  rw [outsAt0_C m c t (by omega) (by omega) h]; frame_out
  rw [scratch m c, norm_step m c ⟨t.val - 1, _⟩ t (by dsimp only; omega), (Memref.isWhole_whole _).read_unread]

open Cert.InProjRefIdeal.Read in
/-- The product of a point's normalized rows with its weights is the reference's product at the block's place. -/
theorem point_dot (c : Dev nD) (t : Fin cfg0.N) (y) : k0_pay2 (k0_pay1 (iblk m c 0 t) (iblk m c 1 t)) (iblk m c 2 t) y
    = val_main_v13 (F := Ideal) (m ((c : Thread nD τ).loc main_arg0)) (m ((c : Thread nD τ).loc main_arg1)) (m ((c : Thread nD τ).loc main_arg2))
        (((cfg0.win 3).blk t).view.emb y) := by
  pointwise [k0_pay2, k0_pay1, val_main_v13, val_main_v12, val_main_v11, val_main_v10, val_main_v9, val_main_v8, val_main_v7, val_main_v6,
    val_main_v5, val_main_cst_1, val_main_v4, val_main_v3, val_main_cst_0, val_main_v2, val_main_v1, val_main_cst, val_main_v0]
  blk_point [iblk, V, idx t]

open Cert.InProjRefIdeal.Read in
/-- The reference's result in the pooled columns. -/
theorem ref_lin (X G W) (i : S16896x6144.Idx) (h : (i 1).val < 2048) : ref X G W i = val_main_v13 (F := Ideal) X G W i := by
  idx_vars i
  pointwise [ref, val_main_v23, val_main_v22, h]

open Cert.InProjRefIdeal.Read in
/-- The reference's result in the gated columns. -/
theorem ref_gelu (X G W) (i : S16896x6144.Idx) (h : ¬(i 1).val < 2048) : ref X G W i
    = Ideal.ofBits .f32 0x3F000000#32 * val_main_v13 (F := Ideal) X G W i * (1 + Ideal.erf (val_main_v13 (F := Ideal) X G W i * Ideal.ofBits .f32 0x3F3504F3#32)) := by
  idx_vars i
  pointwise [ref, val_main_v23, val_main_v21, val_main_v20, val_main_v19, val_main_v18, val_main_cst_3, val_main_v17, val_main_v16, val_main_v15, val_main_cst_2, val_main_v14, h]
  have h' : 2048 + (i1.val - 2048) = i1.val := by have : ¬i1.val < 2048 := h; omega
  simp only [h', Fin.eta]
  rw [EReal.neg_mul, Ideal.erfc_neg]

/-- The result array after the run. -/
theorem final (c : Dev nD) : (dats m 0 c).arrAt 3 (cfgs 0).N
    = ref (m ((c : Thread nD τ).loc main_arg0)) (m ((c : Thread nD τ).loc main_arg1)) (m ((c : Thread nD τ).loc main_arg2)) := by
  refine (dats m 0 c).arrAt_eq_of_covers 3 _ (by decide +kernel) fun t _ y => ?_
  have hv : ((((cfg0.win 3).blk t).view.emb y) 1).val = t.val % 6 * 1024 + (y 1).val := by
    blk_simp [idx t]
  have hy : (y 1).val < 1024 := (y 1).isLt
  rw [after0_3]
  by_cases h : t.val % 6 ≤ 1
  · rw [ref_lin _ _ _ _ (by rw [hv]; omega), out_lin m c t h]; exact point_dot m c t y
  · rw [ref_gelu _ _ _ _ (by rw [hv]; omega), out_gelu m c t (by omega)]
    show k0_pay3 _ _ y = _
    rw [← point_dot m c t y]
    pointwise [k0_pay3]
    rfl

end Cert.InProjIdeal.Final
-- ==== Proof.OutProj.lean ====
/- The value of the output projection: the result array is the reference's term of the argument arrays. -/
module

public import proofs.«01_k».proof.Proof.Gen.OutProjIdeal.Value
public import proofs.«01_k».proof.Proof.Gen.OutProjRefIdeal.Run
public import proofs.«01_k».proof.Proof.Gen.OutProjRefIdeal.Read
public import Idealize.ShloMosaic.Lib.Pipeline.ValueKit

@[expose] public section

set_option maxRecDepth 16384

noncomputable section

namespace Cert.OutProjIdeal.Final

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its four arguments. -/
abbrev ref (P : FVec Ideal S16384x4096 .bf16) (S : FVec Ideal S512x4096 .bf16) (W : FVec Ideal S4096x4096 .f32) (X : FVec Ideal S16896x4096 .f32) :
    FVec Ideal S16896x4096 .f32 :=
  Cert.OutProjRefIdeal.Read.val_main_v3 (F := Ideal) P S W X

/-- The windows' block indices at the points of the prompt's rows. -/
theorem idx_A : ∀ t : Fin cfg0.N, t.val < 128 → win0_0.index t = ![t.val / 4, 0] ∧ win0_2.index t = ![0, t.val % 4]
    ∧ win0_3.index t = ![t.val / 4, t.val % 4] ∧ win0_4.index t = ![t.val / 4, t.val % 4] :=
  (by decide +kernel : ∀ t : Fin grid0.N, _)

/-- The windows' block indices at the points of the samples' rows. -/
theorem idx_B : ∀ t : Fin cfg0.N, 128 ≤ t.val → win0_1.index t = ![t.val / 4 - 32, 0] ∧ win0_2.index t = ![0, t.val % 4]
    ∧ win0_3.index t = ![t.val / 4, t.val % 4] ∧ win0_4.index t = ![t.val / 4, t.val % 4] :=
  (by decide +kernel : ∀ t : Fin grid0.N, _)

/-- What a point of the prompt's rows leaves in the output's block: the block of `x` plus the product of the blocks. -/
theorem out_A (c : Dev nD) (t : Fin cfg0.N) (h0 : t.val < 128) (h1 : ¬128 ≤ t.val) :
    outsAt0 m c t.val t.isLt = k0_pay1 (iblk m c 3 t) (iblk m c 0 t) (iblk m c 2 t) := by
  rw [outsAt0_A m c t h0 h1]; frame_out

/-- What a point of the samples' rows leaves in the output's block. -/
theorem out_B (c : Dev nD) (t : Fin cfg0.N) (h0 : ¬t.val < 128) (h1 : 128 ≤ t.val) :
    outsAt0 m c t.val t.isLt = k0_pay2 (iblk m c 3 t) (iblk m c 1 t) (iblk m c 2 t) := by
  rw [outsAt0_B m c t h0 h1]; frame_out

open Cert.OutProjRefIdeal.Read in
/-- A point of the prompt's rows: the block is the reference's, index by index. -/
theorem point_A (c : Dev nD) (t : Fin cfg0.N) (h : t.val < 128) (y) : k0_pay1 (iblk m c 3 t) (iblk m c 0 t) (iblk m c 2 t) y
    = ref (m ((c : Thread nD τ).loc main_arg0)) (m ((c : Thread nD τ).loc main_arg1)) (m ((c : Thread nD τ).loc main_arg2))
        (m ((c : Thread nD τ).loc main_arg3)) (((cfg0.win 4).blk t).view.emb y) := by
  have hr : ((((cfg0.win 4).blk t).view.emb y) 0).val < 16384 := by
    blk_simp [idx_A t h]; idx_bounds; simp only [Matrix.cons_val_zero]; omega
  pointwise [k0_pay1, ref, val_main_v3, val_main_v2, val_main_v1, val_main_v0]
  refine congrArg₂ (· + ·) (by blk_point [iblk, V, idx_A t h]) (Finset.sum_congr rfl fun x _ => ?_)
  rw [dif_pos hr]
  refine congrArg₂ (· * ·) (by blk_point [iblk, V, idx_A t h]) (by blk_point [iblk, V, idx_A t h])

open Cert.OutProjRefIdeal.Read in
/-- A point of the samples' rows. -/
theorem point_B (c : Dev nD) (t : Fin cfg0.N) (h : 128 ≤ t.val) (y) : k0_pay2 (iblk m c 3 t) (iblk m c 1 t) (iblk m c 2 t) y
    = ref (m ((c : Thread nD τ).loc main_arg0)) (m ((c : Thread nD τ).loc main_arg1)) (m ((c : Thread nD τ).loc main_arg2))
        (m ((c : Thread nD τ).loc main_arg3)) (((cfg0.win 4).blk t).view.emb y) := by
  have hr : ¬((((cfg0.win 4).blk t).view.emb y) 0).val < 16384 := by
    blk_simp [idx_B t h]; idx_bounds; simp only [Matrix.cons_val_zero]; omega
  pointwise [k0_pay2, ref, val_main_v3, val_main_v2, val_main_v1, val_main_v0]
  refine congrArg₂ (· + ·) (by blk_point [iblk, V, idx_B t h]) (Finset.sum_congr rfl fun x _ => ?_)
  rw [dif_neg hr]
  refine congrArg₂ (· * ·) (by blk_point [iblk, V, idx_B t h]) (by blk_point [iblk, V, idx_B t h])

/-- The result array after the run. -/
theorem final (c : Dev nD) : (dats m 0 c).arrAt 4 (cfgs 0).N
    = ref (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  by_cases h : t.val < 128
  · rw [out_A m c t h (by omega)]; exact point_A m c t h y
  · rw [out_B m c t h (by omega)]; exact point_B m c t (by omega) y

end Cert.OutProjIdeal.Final

end
-- ==== Proof.FinalP.lean ====
/- The value of the final norm over the prompt's rows: the result array is the reference's term of the argument arrays. -/
module

public import proofs.«01_k».proof.Proof.Gen.FinalPIdeal.Value
public import proofs.«01_k».proof.Proof.Gen.FinalPRefIdeal.Run
public import proofs.«01_k».proof.Proof.Gen.FinalPRefIdeal.Read
public import Idealize.ShloMosaic.Lib.Pipeline.ValueKit

@[expose] public section

set_option maxRecDepth 16384

noncomputable section

namespace Cert.FinalPIdeal.Final

open Cert.FinalPIdeal Cert.FinalPIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its two arguments. -/
abbrev ref (X : FVec Ideal S16896x4096 .f32) (G : FVec Ideal S4096 .f32) : FVec Ideal S16384x4096 .f32 :=
  Cert.FinalPRefIdeal.Read.val_main_v13 (F := Ideal) X G

/-- Every window's block index at every grid point. -/
theorem idx : ∀ t : Fin cfg0.N, win0_0.index t = ![t.val, 0] ∧ win0_1.index t = ![0, 0] ∧ win0_2.index t = ![t.val, 0] :=
  (by decide +kernel : ∀ t : Fin grid0.N, _)

open Cert.FinalPRefIdeal.Read in
/-- What the body stores at an index of point `t`'s block is the reference at the array index under it. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinalPIdeal.Final

end
-- ==== Proof.FinalS.lean ====
/- The value of the final norm over the samples' rows: the result array is the reference's term of the argument arrays. -/
module

public import proofs.«01_k».proof.Proof.Gen.FinalSIdeal.Value
public import proofs.«01_k».proof.Proof.Gen.FinalSRefIdeal.Run
public import proofs.«01_k».proof.Proof.Gen.FinalSRefIdeal.Read
public import Idealize.ShloMosaic.Lib.Pipeline.ValueKit

@[expose] public section

set_option maxRecDepth 512

noncomputable section

namespace Cert.FinalSIdeal.Final

open Cert.FinalSIdeal Cert.FinalSIdeal.Gen Idealize.ShloMosaic Idealize.ShloMosaic.TcCoe Idealize.SL.Sem
open Idealize.ShloMosaic.Pipeline (Dat)

variable (m : (ℓ : Loc nD τ sig) → Buf (Elt Ideal) ℓ)

/-- The reference's result as a function of its two arguments. -/
abbrev ref (X : FVec Ideal S16896x4096 .f32) (G : FVec Ideal S4096 .f32) : FVec Ideal S512x4096 .f32 :=
  Cert.FinalSRefIdeal.Read.val_main_v13 (F := Ideal) X G

/-- Every window's block index at every grid point. -/
theorem idx : ∀ t : Fin cfg0.N, win0_0.index t = ![t.val + 64, 0] ∧ win0_1.index t = ![0, 0] ∧ win0_2.index t = ![t.val, 0] :=
  (by decide +kernel : ∀ t : Fin grid0.N, _)

open Cert.FinalSRefIdeal.Read in
/-- What the body stores at an index of point `t`'s block is the reference at the array index under it. -/
theorem point (c : Dev nD) (t : Fin cfg0.N) (y) : k0_pay1 (iblk m c 0 t) (iblk m c 1 t) y
    = ref (m ((c : Thread nD τ).loc main_arg0)) (m ((c : Thread nD τ).loc main_arg1)) (((cfg0.win 2).blk t).view.emb y) := by
  pointwise [k0_pay1, ref, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  blk_point [iblk, V, idx t]

/-- The result array after the run. -/
theorem final (c : Dev nD) : (dats m 0 c).arrAt 2 (cfgs 0).N
    = ref (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.FinalSIdeal.Final

end
-- ==== Proof.ReadAt.lean ====
/- Reading a rank-two buffer of stores at an index: the last store that holds the index decides the value. -/
module

public import Idealize.ShloMosaic.Lib.Pipeline.ValueKit
public import Idealize.ShloMosaic.Lib.WritesUnit

@[expose] public section

noncomputable section

namespace Cert.ReadAt

open Idealize.ShloMosaic Idealize.SL.Sem

variable {sig : RefSig} {κ : Kind} {sp : Space} {e : EltTy}
variable {R C n0 n1 o0 o1 k0 k1 p0 p1 : ℕ}

/-- After a list of stores: where the last store holds the index, the value is that store's. -/
theorem read_hit (v : View sig κ sp ⟨2, ![R, C]⟩ e) (f) (inb) (w : (Rect.unit (s := ⟨2, ![R, C]⟩) ![o0, o1] ![n0, n1] inb).shape.Idx → Elt Ideal e)
    (L : List (View.Piece (Elt Ideal) ⟨2, ![R, C]⟩ e)) (y : (⟨2, ![R, C]⟩ : Shape).Idx)
    (h : (o0 ≤ (y 0).val ∧ (y 0).val - o0 < n0) ∧ (o1 ≤ (y 1).val ∧ (y 1).val - o1 < n1)) :
    v.read (Elt Ideal) (v.writes (Elt Ideal) f (⟨Rect.unit (s := ⟨2, ![R, C]⟩) ![o0, o1] ![n0, n1] inb, w⟩ :: L)) y
      = w (ix2 ⟨(y 0).val - o0, h.1.2⟩ ⟨(y 1).val - o1, h.2.2⟩) :=
  View.read_writes_cons_unit_of_mem _ _ inb w L y _ rfl
    (Fin.forall_fin_two.mpr ⟨(Nat.add_sub_cancel' h.1.1).symm, (Nat.add_sub_cancel' h.2.1).symm⟩)

/-- After a list of stores: where the last store's rows do not hold the index, the value is what was there before it. -/
theorem read_miss (v : View sig κ sp ⟨2, ![R, C]⟩ e) (f) (inb) (w : (Rect.unit (s := ⟨2, ![R, C]⟩) ![o0, o1] ![n0, n1] inb).shape.Idx → Elt Ideal e)
    (L : List (View.Piece (Elt Ideal) ⟨2, ![R, C]⟩ e)) (y : (⟨2, ![R, C]⟩ : Shape).Idx)
    (h : (y 0).val < o0 ∨ o0 + n0 ≤ (y 0).val) :
    v.read (Elt Ideal) (v.writes (Elt Ideal) f (⟨Rect.unit (s := ⟨2, ![R, C]⟩) ![o0, o1] ![n0, n1] inb, w⟩ :: L)) y
      = v.read (Elt Ideal) (v.writes (Elt Ideal) f L) y :=
  View.read_writes_cons_unit_of_not_mem _ _ inb w L y rfl 0 h

/-- The index a load's own index `y` reads. -/
abbrev at2 (inb' : ∀ a, (![p0, p1] : Fin 2 → ℕ) a + (![k0, k1] : Fin 2 → ℕ) a ≤ (⟨2, ![R, C]⟩ : Shape).size a)
    (y : (Rect.unit (s := ⟨2, ![R, C]⟩) ![p0, p1] ![k0, k1] inb').shape.Idx) : (⟨2, ![R, C]⟩ : Shape).Idx :=
  ix2 ⟨p0 + (y 0).val, lt_of_lt_of_le (Nat.add_lt_add_left (y 0).isLt _) (inb' 0)⟩ ⟨p1 + (y 1).val, lt_of_lt_of_le (Nat.add_lt_add_left (y 1).isLt _) (inb' 1)⟩

/-- A load reads the contents at that index. -/
theorem ld_at (X : (⟨2, ![R, C]⟩ : Shape).Idx → Elt Ideal e) (inb') (y) :
    View.ld X (Rect.unit (s := ⟨2, ![R, C]⟩) ![p0, p1] ![k0, k1] inb') y = X (at2 inb' y) := by
  rw [View.ld_apply]
  refine congrArg X (funext (Fin.forall_fin_two.mpr ⟨Fin.ext ?_, Fin.ext ?_⟩)) <;> rw [Rect.idx_unit_val] <;> rfl

/-- A load of a covered buffer: where the last store holds the index, the value is that store's. -/
theorem readCov_hit (v : View sig κ sp ⟨2, ![R, C]⟩ e) (inb) (w : (Rect.unit (s := ⟨2, ![R, C]⟩) ![o0, o1] ![n0, n1] inb).shape.Idx → Elt Ideal e)
    (L : List (View.Piece (Elt Ideal) ⟨2, ![R, C]⟩ e)) (inb') (y : (Rect.unit (s := ⟨2, ![R, C]⟩) ![p0, p1] ![k0, k1] inb').shape.Idx)
    (h : (o0 ≤ p0 + (y 0).val ∧ p0 + (y 0).val - o0 < n0) ∧ (o1 ≤ p1 + (y 1).val ∧ p1 + (y 1).val - o1 < n1)) :
    v.readCov (⟨Rect.unit (s := ⟨2, ![R, C]⟩) ![o0, o1] ![n0, n1] inb, w⟩ :: L) (Rect.unit (s := ⟨2, ![R, C]⟩) ![p0, p1] ![k0, k1] inb').toLoadRect y
      = w (ix2 ⟨p0 + (y 0).val - o0, h.1.2⟩ ⟨p1 + (y 1).val - o1, h.2.2⟩) :=
  (ld_at (v.read (Elt Ideal) (v.writes (Elt Ideal) _ _)) inb' y).trans (read_hit v _ inb w L _ h)

/-- A load of a covered buffer: where the last store's rows do not hold the index, the value is what was there before it. -/
theorem readCov_miss (v : View sig κ sp ⟨2, ![R, C]⟩ e) (inb) (w : (Rect.unit (s := ⟨2, ![R, C]⟩) ![o0, o1] ![n0, n1] inb).shape.Idx → Elt Ideal e)
    (L : List (View.Piece (Elt Ideal) ⟨2, ![R, C]⟩ e)) (inb') (y : (Rect.unit (s := ⟨2, ![R, C]⟩) ![p0, p1] ![k0, k1] inb').shape.Idx)
    (h : p0 + (y 0).val < o0 ∨ o0 + n0 ≤ p0 + (y 0).val) :
    v.readCov (⟨Rect.unit (s := ⟨2, ![R, C]⟩) ![o0, o1] ![n0, n1] inb, w⟩ :: L) (Rect.unit (s := ⟨2, ![R, C]⟩) ![p0, p1] ![k0, k1] inb').toLoadRect y
      = v.readCov L (Rect.unit (s := ⟨2, ![R, C]⟩) ![p0, p1] ![k0, k1] inb').toLoadRect y :=
  (ld_at (v.read (Elt Ideal) (v.writes (Elt Ideal) _ _)) inb' y).trans
    ((read_miss v _ inb w L _ h).trans (ld_at (v.read (Elt Ideal) (v.writes (Elt Ideal) _ _)) inb' y).symm)

/-- The contents a list of stores leaves, where the last store holds the index. -/
theorem canon_hit (inb) (w : (Rect.unit (s := ⟨2, ![R, C]⟩) ![o0, o1] ![n0, n1] inb).shape.Idx → Elt Ideal e)
    (L : List (View.Piece (Elt Ideal) ⟨2, ![R, C]⟩ e)) (y : (⟨2, ![R, C]⟩ : Shape).Idx)
    (h : (o0 ≤ (y 0).val ∧ (y 0).val - o0 < n0) ∧ (o1 ≤ (y 1).val ∧ (y 1).val - o1 < n1)) :
    View.canon (⟨Rect.unit (s := ⟨2, ![R, C]⟩) ![o0, o1] ![n0, n1] inb, w⟩ :: L) y
      = w (ix2 ⟨(y 0).val - o0, h.1.2⟩ ⟨(y 1).val - o1, h.2.2⟩) := by
  have e : y = (Rect.unit (s := ⟨2, ![R, C]⟩) ![o0, o1] ![n0, n1] inb).emb (ix2 ⟨(y 0).val - o0, h.1.2⟩ ⟨(y 1).val - o1, h.2.2⟩) := by
    refine funext (Fin.forall_fin_two.mpr ⟨Fin.ext ?_, Fin.ext ?_⟩)
    · show _ = o0 + 1 * ((y 0).val - o0); omega
    · show _ = o1 + 1 * ((y 1).val - o1); omega
  conv_lhs => rw [e]
  exact View.canon_cons_emb _ _ _ _

end Cert.ReadAt
end
-- ==== Proof.Pool.lean ====
/- The sums of the pooling windows: doubling, differences of running sums, and the running sum the reference prints. -/
module

public import Idealize.ShloMosaic.Lib.Pipeline.ValueKit

@[expose] public section

noncomputable section

namespace Cert.Pool

open Idealize.ShloMosaic

/-- The sum of the last `2 ^ k` entries up to `n`, by doubling. -/
def tree (X : ℕ → EReal) : ℕ → ℕ → EReal
  | 0, n => X n
  | k + 1, n => tree X k n + tree X k (n - 2 ^ k)

/-- Two sequences that agree up to a shift have the same window sums up to that shift. -/
theorem tree_shift {E X : ℕ → EReal} {lo hi d e : ℕ} (hlo : e ≤ lo + d)
    (h : ∀ r r', lo ≤ r → r ≤ hi → r + d = r' + e → E r = X r') :
    ∀ k n n', lo + 2 ^ k ≤ n + 1 → n ≤ hi → n + d = n' + e → tree E k n = tree X k n' := by
  intro k
  induction k with
  | zero => intro n n' h1 h2 h3; exact h n n' (by simpa using h1) h2 h3
  | succ k ih =>
    intro n n' h1 h2 h3
    have hp : 2 ^ (k + 1) = 2 * 2 ^ k := by ring
    have hq : 1 ≤ 2 ^ k := Nat.one_le_two_pow
    show tree E k n + tree E k (n - 2 ^ k) = tree X k n' + tree X k (n' - 2 ^ k)
    rw [ih n n' (by omega) h2 h3, ih (n - 2 ^ k) (n' - 2 ^ k) (by omega) (by omega) (by omega)]

/-- A running sum is an earlier one plus the window's sum between. -/
theorem run_tree (X : ℕ → EReal) : ∀ k n, 2 ^ k ≤ n + 1 →
    ∑ i ∈ Finset.range (n + 1), X i = ∑ i ∈ Finset.range (n + 1 - 2 ^ k), X i + tree X k n := by
  intro k
  induction k with
  | zero => intro n _; exact Finset.sum_range_succ X n
  | succ k ih =>
    intro n hn
    have hp : 2 ^ (k + 1) = 2 * 2 ^ k := by ring
    have hq : 1 ≤ 2 ^ k := Nat.one_le_two_pow
    have e1 : n + 1 - 2 ^ k = n - 2 ^ k + 1 := by omega
    have e2 : n - 2 ^ k + 1 - 2 ^ k = n + 1 - 2 ^ (k + 1) := by omega
    rw [ih n (by omega), e1, ih (n - 2 ^ k) (by omega), e2, add_assoc]
    show _ = _ + (tree X k n + tree X k (n - 2 ^ k))
    rw [add_comm (tree X k n)]

/-- A sum of finite entries is finite. -/
theorem run_real {X : ℕ → EReal} (hX : ∀ n, ∃ r : ℝ, X n = r) (n : ℕ) : ∃ r : ℝ, ∑ i ∈ Finset.range n, X i = r := by
  induction n with
  | zero => exact ⟨0, by simp⟩
  | succ n ih =>
    obtain ⟨a, ha⟩ := ih
    obtain ⟨b, hb⟩ := hX n
    exact ⟨a + b, by rw [Finset.sum_range_succ, ha, hb, EReal.coe_add]⟩

/-- For finite entries a difference of running sums is the window's sum. -/
theorem run_sub {X : ℕ → EReal} (hX : ∀ n, ∃ r : ℝ, X n = r) (k n m : ℕ) (hn : m + 2 ^ k = n + 1) :
    ∑ i ∈ Finset.range (n + 1), X i - ∑ i ∈ Finset.range m, X i = tree X k n := by
  have hm : n + 1 - 2 ^ k = m := by omega
  have h := run_tree X k n (by omega)
  obtain ⟨a, ha⟩ := run_real hX m
  rw [hm] at h
  rw [h, ha, EReal.add_sub_cancel_left]

/-- The number of entries a window holds, as a value. -/
def cnt (w n : ℕ) : EReal := ((min w n : ℕ) : ℝ)

/-- The count as the integers compute it. -/
theorem cnt_eq (w n : ℕ) (hw : w < 2 ^ 31) (hn : n < 2 ^ 31) :
    FloatOps.sitofp (F := Ideal) .f32 (IntOp.minsi (BitVec.ofNat 32 w) (BitVec.ofNat 32 n)) = cnt w n := by
  have hz : ∀ a : ℕ, a < 2 ^ 31 → (BitVec.ofNat 32 a).toInt = a := fun a ha => by
    have e : (BitVec.ofNat 32 a).toNat = a := by rw [BitVec.toNat_ofNat]; exact Nat.mod_eq_of_lt (by omega)
    rw [BitVec.toInt_eq_toNat_of_lt (by rw [e]; omega), e]
  show (((IntOp.minsi (BitVec.ofNat 32 w) (BitVec.ofNat 32 n)).toInt : ℝ) : EReal) = _
  unfold IntOp.minsi cnt
  rw [BitVec.slt_eq_decide, hz w hw, hz n hn]
  by_cases h : w < n
  · rw [if_pos (by simpa using h), hz w hw, min_eq_left h.le]; simp
  · rw [if_neg (by simpa using h), hz n hn, min_eq_right (by omega)]; simp

/-- The count of the entries up to `n`, as the integers compute it. -/
theorem cnt_succ (w n : ℕ) (hw : w < 2 ^ 31) (hn : n + 1 < 2 ^ 31) :
    FloatOps.sitofp (F := Ideal) .f32 (IntOp.minsi (BitVec.ofNat 32 w) (IntOp.addi (BitVec.ofNat 32 n) 1#32)) = cnt w (n + 1) := by
  have e : IntOp.addi (BitVec.ofNat 32 n) 1#32 = BitVec.ofNat 32 (n + 1) := (BitVec.ofNat_add n 1).symm
  rw [e, cnt_eq w (n + 1) hw hn]

/-- Multiplying by a count's reciprocal is dividing by the count. -/
theorem mul_div_cnt (x : EReal) (w n : ℕ) (hw : 0 < w) (hn : 0 < n) : x * Ideal.div 1 (cnt w n) = Ideal.div x (cnt w n) := by
  have h : ((min w n : ℕ) : ℝ) ≠ 0 := by
    have : 0 < min w n := lt_min hw hn
    exact_mod_cast this.ne'
  unfold cnt
  rw [Ideal.div_coe h, Ideal.div_coe h, one_mul]

/-- One pooled entry: the window's mean less the entry, through one row of the group's matrix, scaled. -/
def mix (k : ℕ) (E : Fin 512 → ℕ → EReal) (n a : ℕ) (z w : Fin 512 → EReal) (s : EReal) : EReal :=
  (∑ j : Fin 512, (tree (E j) k n * Ideal.div 1 (cnt (2 ^ k) a) - z j) * w j) * s

/-- The same entry from differences of running sums. -/
theorem mix_eq (k : ℕ) (X : Fin 512 → ℕ → EReal) (n m a : ℕ) (z w : Fin 512 → EReal) (s : EReal)
    (hX : ∀ j i, ∃ r : ℝ, X j i = r) (hn : m + 2 ^ k = n + 1) (ha : 0 < a) :
    (∑ j : Fin 512, (Ideal.div (∑ i ∈ Finset.range (n + 1), X j i - ∑ i ∈ Finset.range m, X j i) (cnt (2 ^ k) a) - z j) * w j) * s
      = mix k X n a z w s := by
  unfold mix
  congr 1
  refine Finset.sum_congr rfl fun j _ => ?_
  rw [run_sub (hX j) k n m hn, mul_div_cnt _ _ _ (by positivity) ha]

section Levels

variable {X : ℕ → EReal} {k n n' : ℕ} {a b : EReal}

/-- One entry is the window of one. -/
theorem base (ha : a = X n) : a = tree X 0 n := ha

/-- Two windows are the window of twice the width. -/
theorem step (ha : a = tree X k n) (hb : b = tree X k (n - 2 ^ k)) : a + b = tree X (k + 1) n := by
  rw [ha, hb]; rfl

end Levels

/-- A column of a rank-three array, continued by zero. -/
def col {B Q C : ℕ} (x : (⟨3, ![B, Q, C]⟩ : Shape).Idx → EReal) (b : Fin B) (c : Fin C) (i : ℕ) : EReal :=
  if h : i < Q then x (ix3 b ⟨i, h⟩ c) else 0

/-- The host's running sum down the middle axis. -/
theorem cumsum {B Q P C : ℕ} (hP : P + 1 = Q)
    (h : (⟨3, ![B, Q, C]⟩ : Shape).ReduceWindows ![1, Q, 1] ![1, 1, 1] ![0, P, 0] ![0, 0, 0] (⟨3, ![B, Q, C]⟩ : Shape))
    (x : (⟨3, ![B, Q, C]⟩ : Shape).Idx → EReal) (b : Fin B) (q : Fin Q) (c : Fin C) :
    Ideal.hostReduceWindowAdd ![1, Q, 1] ![1, 1, 1] ![0, P, 0] ![0, 0, 0] h x 0 (ix3 b q c)
      = ∑ i ∈ Finset.range (q.val + 1), col x b c i := by
  have key : ∀ n : Fin (⟨3, ![1, Q, 1]⟩ : Shape).numel, ∀ a : Fin 3,
      (((⟨3, ![1, Q, 1]⟩ : Shape).rowMajor.symm n) a).val = (![0, n.val, 0] : Fin 3 → ℕ) a := by
    intro n
    have e := Shape.rowMajor_val_three ((⟨3, ![1, Q, 1]⟩ : Shape).rowMajor.symm n)
    rw [Equiv.apply_symm_apply] at e
    have h0 : (((⟨3, ![1, Q, 1]⟩ : Shape).rowMajor.symm n) 0).val < 1 := ((⟨3, ![1, Q, 1]⟩ : Shape).rowMajor.symm n 0).isLt
    have h2 : (((⟨3, ![1, Q, 1]⟩ : Shape).rowMajor.symm n) 2).val < 1 := ((⟨3, ![1, Q, 1]⟩ : Shape).rowMajor.symm n 2).isLt
    have z0 : (((⟨3, ![1, Q, 1]⟩ : Shape).rowMajor.symm n) 0).val = 0 := by omega
    have z2 : (((⟨3, ![1, Q, 1]⟩ : Shape).rowMajor.symm n) 2).val = 0 := by omega
    have e' : n.val = (((⟨3, ![1, Q, 1]⟩ : Shape).rowMajor.symm n) 1).val := by
      rw [z0, z2] at e
      refine e.trans ?_
      show (0 * Q + _) * 1 + 0 = _
      rw [Nat.zero_mul, Nat.zero_add, Nat.mul_one, Nat.add_zero]
    intro a
    match a with
    | 0 => exact z0
    | 1 => exact e'.symm
    | 2 => exact z2
  have hnum : (⟨3, ![1, Q, 1]⟩ : Shape).numel = Q := by
    show (∏ a : Fin 3, (![1, Q, 1] : Fin 3 → ℕ) a) = Q
    simp [Fin.prod_univ_three]
  have fold : ∀ {α : Type} (F : α → EReal) (l : List α) (a : EReal), l.foldl (fun r n => r + F n) a = a + (l.map F).sum := by
    intro α F l
    induction l with
    | nil => intro a; simp
    | cons y l ih => intro a; rw [List.foldl_cons, ih, List.map_cons, List.sum_cons, add_assoc]
  unfold Ideal.hostReduceWindowAdd Host.reduceWindow
  refine (fold _ _ _).trans ?_
  rw [zero_add, ← Fin.sum_univ_def]
  refine (Finset.sum_congr rfl fun n _ => (?_ : _ = (fun n : ℕ => if P ≤ q.val + n then col x b c (q.val + n - P) else 0) n.val)).trans ?_
  · have hq := q.isLt
    have hn : n.val < Q := lt_of_lt_of_eq n.isLt hnum
    dsimp only
    split_ifs with h1 h2 h2
    · unfold col
      have hi : q.val + n.val - P < Q := by omega
      rw [dif_pos hi]
      refine congrArg x (funext fun a => Fin.ext ?_)
      dsimp only
      rw [key n a]
      match a with
      | 0 => show b.val * 1 + 0 - 0 = b.val; omega
      | 1 => show q.val * 1 + n.val - P = q.val + n.val - P; omega
      | 2 => show c.val * 1 + 0 - 0 = c.val; omega
    · refine absurd (h1 1).1 ?_
      rw [key n 1]
      show ¬ P ≤ q.val * 1 + n.val
      omega
    · refine absurd (fun a => ?_) h1
      rw [key n a]
      match a with
      | 0 => show 0 ≤ b.val * 1 + 0 ∧ b.val * 1 + 0 - 0 < B; have := b.isLt; omega
      | 1 => show P ≤ q.val * 1 + n.val ∧ q.val * 1 + n.val - P < Q; omega
      | 2 => show 0 ≤ c.val * 1 + 0 ∧ c.val * 1 + 0 - 0 < C; have := c.isLt; omega
    · rfl
  · rw [Fin.sum_univ_eq_sum_range (fun n : ℕ => if P ≤ q.val + n then col x b c (q.val + n - P) else 0), hnum]
    have hQ : Q = (P - q.val) + (q.val + 1) := by have := q.isLt; omega
    rw [congrArg Finset.range hQ, Finset.sum_range_add, Finset.sum_eq_zero, zero_add]
    · refine Finset.sum_congr rfl fun i hi => ?_
      have := q.isLt
      rw [if_pos (by omega)]
      congr 1; omega
    · intro i hi
      have := Finset.mem_range.mp hi
      rw [if_neg (by omega)]

/-- The same of the host's operation, from any start that is zero. -/
theorem cumsum_host {B Q P C : ℕ} {u : Shape} (hP : P + 1 = Q)
    (h : (⟨3, ![B, Q, C]⟩ : Shape).ReduceWindows ![1, Q, 1] ![1, 1, 1] ![0, P, 0] ![0, 0, 0] (⟨3, ![B, Q, C]⟩ : Shape))
    (x : FVec Ideal (⟨3, ![B, Q, C]⟩ : Shape) .f32) (init : FVec Ideal u .f32) (hu : 0 < u.numel) (h0 : ∀ i, init i = (0 : EReal))
    (b : Fin B) (q : Fin Q) (c : Fin C) :
    Host.reduceWindowAdd ![1, Q, 1] ![1, 1, 1] ![0, P, 0] ![0, 0, 0] x init h hu (ix3 b q c)
      = ∑ i ∈ Finset.range (q.val + 1), col x b c i := by
  have e : Host.reduceWindowAdd ![1, Q, 1] ![1, 1, 1] ![0, P, 0] ![0, 0, 0] x init h hu (ix3 b q c)
      = Ideal.hostReduceWindowAdd ![1, Q, 1] ![1, 1, 1] ![0, P, 0] ![0, 0, 0] h x (init (Shape.Idx.first hu)) (ix3 b q c) := rfl
  rw [e, h0]
  exact cumsum hP h x b q c

end Cert.Pool
end
-- ==== Proof.MixRead.lean ====
/- The prompt mixer's reference, read at an index: the pooled columns, the gated columns, and the buffer's rows. -/
module

public import proofs.«01_k».proof.Proof.Gen.MixRefIdeal.Read
public import proofs.«01_k».proof.Proof.Pool
public import Idealize.ShloMosaic.Lib.Pipeline.ValueKit

@[expose] public section

set_option maxRecDepth 16384

noncomputable section

namespace Cert.MixRead

open Idealize.ShloMosaic Cert.MixRefIdeal Cert.MixRefIdeal.Read Cert.Pool

variable (x0 : FVec Ideal S16896x6144 .f32) (x1 : FVec Ideal S4x512x512 .f32) (x2 x3 x4 : FVec Ideal S2048 .f32)
  (x5 : FVec Ideal S8x128x128 .f32) (x6 : FVec Ideal S8x128 .f32)

/-- A sequence's pooled column: fifteen zeros, then the rows. -/
def ext (b : Fin 4) (c : Fin 2048) (i : ℕ) : EReal :=
  if h : i < 15 then 0 else if h' : i < 4111 then x0 (ix2 ⟨b.val * 4096 + (i - 15), by omega⟩ ⟨c.val, by omega⟩) else 0

theorem ext_eq (b : Fin 4) (c : Fin 2048) (i : ℕ) : col (val_main_v4 (F := Ideal) x0) b c i = ext x0 b c i := by
  unfold col ext
  by_cases h' : i < 4111
  · rw [dif_pos h']
    by_cases h : i < 15
    · rw [dif_pos h]
      pointwise [val_main_v4, val_main_v2, val_main_cst, h]
    · rw [dif_neg h, dif_pos h']
      pointwise [val_main_v4, val_main_v3, val_main_v1, val_main_v0, h]
  · rw [dif_neg h', dif_neg (by omega), dif_neg h']

/-- The running sum with its leading zero. -/
theorem v7_at (b : Fin 4) (q : Fin 4112) (c : Fin 2048) :
    val_main_v7 (F := Ideal) x0 (ix3 b q c) = ∑ i ∈ Finset.range q.val, ext x0 b c i := by
  obtain ⟨_ | n, hn⟩ := q
  · rw [Finset.sum_range_zero]
    pointwise [val_main_v7, val_main_v5, val_main_cst_0]
  · have h : ¬n + 1 < 1 := by omega
    pointwise [val_main_v7, val_main_v6, h]
    have e0 : ∀ i, val_main_call0_call0_v0 (F := Ideal) i = (0 : EReal) := fun i => by
      pointwise [val_main_call0_call0_v0, val_main_call0_call0_cst]
    have e1 : (⟨n + 1 - 1, by omega⟩ : Fin 4111) = ⟨n, by omega⟩ := rfl
    refine (cumsum_host (P := 4110) (by omega) _ _ _ _ e0 b _ c).trans ?_
    exact Finset.sum_congr rfl fun i _ => ext_eq x0 b c i

/-- The entry at a row. -/
theorem v4_at (b : Fin 4) (q : Fin 4096) (c : Fin 2048) (h : 15 + q.val < 4111) :
    val_main_v4 (F := Ideal) x0 (ix3 b ⟨15 + q.val, h⟩ c) = x0 (ix2 ⟨b.val * 4096 + q.val, by omega⟩ ⟨c.val, by omega⟩) := by
  pointwise [val_main_v4, val_main_v3, val_main_v1, val_main_v0, h]

/-- The count of the rows available at a row. -/
theorem avail (q : Fin 4096) : val_main_v11 (F := Ideal) (ix3 0 q 0) = IntOp.addi (BitVec.ofNat 32 q.val) 1#32 := by
  pointwise [val_main_v11, val_main_v10, val_main_v9, val_main_v8, val_main_c]

/-- The pooled columns of windows of 2, scaled. -/
theorem pool2 (hX : ∀ b c i, ∃ r : ℝ, ext x0 b c i = r) (b : Fin 4) (q : Fin 4096) (j : Fin 512) (s : EReal) :
    val_main_v24 (F := Ideal) x0 x1 (ix3 b q j) * s = mix 1 (fun k => ext x0 b ⟨0 + k.val, by omega⟩) (15 + q.val) (q.val + 1)
      (fun k => x0 (ix2 ⟨b.val * 4096 + q.val, by omega⟩ ⟨0 + k.val, by omega⟩)) (fun k => x1 (ix3 0 k j)) s := by
  rw [← mix_eq 1 _ (15 + q.val) (14 + q.val) _ _ _ _ (fun _ => hX _ _) (by omega) (by omega), ← cnt_succ _ _ (by omega) (by omega),
    show 15 + q.val + 1 = 16 + q.val by omega]
  pointwise [val_main_v24, val_main_v23, val_main_v22, val_main_v21, val_main_v20, val_main_v19, val_main_v18, val_main_v17, val_main_v16, val_main_v15, val_main_v14, val_main_v13, val_main_v12, avail, val_main_c_1]
  simp only [v7_at, v4_at]
  rfl

/-- The pooled columns of windows of 4, scaled. -/
theorem pool4 (hX : ∀ b c i, ∃ r : ℝ, ext x0 b c i = r) (b : Fin 4) (q : Fin 4096) (j : Fin 512) (s : EReal) :
    val_main_v37 (F := Ideal) x0 x1 (ix3 b q j) * s = mix 2 (fun k => ext x0 b ⟨512 + k.val, by omega⟩) (15 + q.val) (q.val + 1)
      (fun k => x0 (ix2 ⟨b.val * 4096 + q.val, by omega⟩ ⟨512 + k.val, by omega⟩)) (fun k => x1 (ix3 1 k j)) s := by
  rw [← mix_eq 2 _ (15 + q.val) (12 + q.val) _ _ _ _ (fun _ => hX _ _) (by omega) (by omega), ← cnt_succ _ _ (by omega) (by omega),
    show 15 + q.val + 1 = 16 + q.val by omega]
  pointwise [val_main_v37, val_main_v36, val_main_v35, val_main_v34, val_main_v33, val_main_v32, val_main_v31, val_main_v30, val_main_v29, val_main_v28, val_main_v27, val_main_v26, val_main_v25, avail, val_main_c_2]
  simp only [v7_at, v4_at]
  rfl

/-- The pooled columns of windows of 8, scaled. -/
theorem pool8 (hX : ∀ b c i, ∃ r : ℝ, ext x0 b c i = r) (b : Fin 4) (q : Fin 4096) (j : Fin 512) (s : EReal) :
    val_main_v50 (F := Ideal) x0 x1 (ix3 b q j) * s = mix 3 (fun k => ext x0 b ⟨1024 + k.val, by omega⟩) (15 + q.val) (q.val + 1)
      (fun k => x0 (ix2 ⟨b.val * 4096 + q.val, by omega⟩ ⟨1024 + k.val, by omega⟩)) (fun k => x1 (ix3 2 k j)) s := by
  rw [← mix_eq 3 _ (15 + q.val) (8 + q.val) _ _ _ _ (fun _ => hX _ _) (by omega) (by omega), ← cnt_succ _ _ (by omega) (by omega),
    show 15 + q.val + 1 = 16 + q.val by omega]
  pointwise [val_main_v50, val_main_v49, val_main_v48, val_main_v47, val_main_v46, val_main_v45, val_main_v44, val_main_v43, val_main_v42, val_main_v41, val_main_v40, val_main_v39, val_main_v38, avail, val_main_c_3]
  simp only [v7_at, v4_at]
  rfl

/-- The pooled columns of windows of 16, scaled. -/
theorem pool16 (hX : ∀ b c i, ∃ r : ℝ, ext x0 b c i = r) (b : Fin 4) (q : Fin 4096) (j : Fin 512) (s : EReal) :
    val_main_v63 (F := Ideal) x0 x1 (ix3 b q j) * s = mix 4 (fun k => ext x0 b ⟨1536 + k.val, by omega⟩) (15 + q.val) (q.val + 1)
      (fun k => x0 (ix2 ⟨b.val * 4096 + q.val, by omega⟩ ⟨1536 + k.val, by omega⟩)) (fun k => x1 (ix3 3 k j)) s := by
  rw [← mix_eq 4 _ (15 + q.val) (0 + q.val) _ _ _ _ (fun _ => hX _ _) (by omega) (by omega), ← cnt_succ _ _ (by omega) (by omega),
    show 15 + q.val + 1 = 16 + q.val by omega]
  pointwise [val_main_v63, val_main_v62, val_main_v61, val_main_v60, val_main_v59, val_main_v58, val_main_v57, val_main_v56, val_main_v55, val_main_v54, val_main_v53, val_main_v52, val_main_v51, avail, val_main_c_4]
  simp only [v7_at, v4_at]
  rfl

/-- The normalized gate columns. -/
def lnv (v g b : Fin 2048 → EReal) (c : Fin 2048) : EReal :=
  (v c - Ideal.div (∑ j, v j) (Ideal.ofBits .f32 0x45000000#32))
      * Ideal.rsqrt (Ideal.div (∑ i, (v i - Ideal.div (∑ j, v j) (Ideal.ofBits .f32 0x45000000#32)) * (v i - Ideal.div (∑ j, v j) (Ideal.ofBits .f32 0x45000000#32)))
          (Ideal.ofBits .f32 0x45000000#32) + Ideal.ofBits .f32 0x358637BD#32) * g c + b c

/-- The reference's layer norm at an index. -/
theorem norm_at (b : Fin 4) (q : Fin 4096) (c : Fin 2048) : val_main_v92 (F := Ideal) x0 x3 x4 (ix3 b q c)
    = lnv (fun j => x0 (ix2 ⟨b.val * 4096 + q.val, by omega⟩ ⟨4096 + j.val, by omega⟩)) (fun j => x3 (ix1 j)) (fun j => x4 (ix1 j)) c := by
  unfold lnv
  pointwise [val_main_v92, val_main_v91, val_main_v90, val_main_v89, val_main_v88, val_main_v87, val_main_v86, val_main_v85, val_main_v84,
    val_main_v83, val_main_v82, val_main_v81, val_main_v80, val_main_v79, val_main_v78, val_main_v77, val_main_v76, val_main_v75, val_main_v74,
    val_main_v73, val_main_v72, val_main_v71, val_main_v70, val_main_cst_5, val_main_cst_6, val_main_cst_7, val_main_cst_8, val_main_cst_9,
    val_main_v1, val_main_v0]

/-- One gated entry: the gate times the chunk's mixed row and its bias. -/
def gate (u : EReal) (i : ℕ) (w n : Fin 128 → EReal) (b : EReal) : EReal :=
  u * (∑ j : Fin 128, Scalar.select (IntOp.cmpi .sge (BitVec.ofNat 32 i) (BitVec.ofNat 32 j.val)) (w j * n j) 0 + b)

/-- The reference's gated columns at an index. -/
theorem gate_at (b : Fin 4) (q : Fin 4096) (c : Fin 2048) : val_main_v103 (F := Ideal) x0 x3 x4 x5 x6 (ix3 b q c)
    = gate (x0 (ix2 ⟨b.val * 4096 + q.val, by omega⟩ ⟨2048 + c.val, by omega⟩)) (q.val % 128)
        (fun j => x5 (ix3 ⟨c.val / 256, by omega⟩ ⟨q.val % 128, by omega⟩ j))
        (fun j => val_main_v92 (F := Ideal) x0 x3 x4 (ix3 b ⟨q.val / 128 * 128 + j.val, by omega⟩ c))
        (x6 (ix2 ⟨c.val / 256, by omega⟩ ⟨q.val % 128, by omega⟩)) := by
  unfold gate
  pointwise [val_main_v103, val_main_v102, val_main_v101, val_main_v100, val_main_v99, val_main_v98, val_main_v97, val_main_v96, val_main_v95,
    val_main_v94, val_main_v93, val_main_v69, val_main_v1, val_main_v0, val_main_call1_v5, val_main_call1_v6, val_main_call1_v0, val_main_call1_v1, val_main_call1_v2, val_main_call1_v3, val_main_call1_v4,
    val_main_call1_c, val_main_call1_cst]
  refine congrArg₂ _ rfl (congrArg₂ _ (Finset.sum_congr rfl fun j _ => ?_) rfl)
  exact congrArg₂ (fun c y => Scalar.select c y (0 : EReal)) (congrArg (fun a => IntOp.cmpi .sge a _) (BitVec.add_zero _)) (mul_comm _ _)

/-- The first result's pooled columns. -/
theorem lo_at (i : S16384x4096.Idx) (h : (i 1).val < 2048) : val_main_v106 (F := Ideal) x0 x1 x2 x3 x4 x5 x6 i
    = val_main_v64 (F := Ideal) x0 x1 (ix3 ⟨(i 0).val / 4096, by idx_bounds; omega⟩ ⟨(i 0).val % 4096, by omega⟩ ⟨(i 1).val, h⟩) * x2 (ix1 ⟨(i 1).val, h⟩) := by
  idx_vars i
  have h' : i1.val < 2048 := h
  pointwise [val_main_v106, val_main_v105, val_main_v104, val_main_v67, val_main_v66, val_main_v65, h']

/-- The first result's gated columns. -/
theorem hi_at (i : S16384x4096.Idx) (h : ¬(i 1).val < 2048) : val_main_v106 (F := Ideal) x0 x1 x2 x3 x4 x5 x6 i
    = val_main_v103 (F := Ideal) x0 x3 x4 x5 x6 (ix3 ⟨(i 0).val / 4096, by idx_bounds; omega⟩ ⟨(i 0).val % 4096, by omega⟩ ⟨(i 1).val - 2048, by idx_bounds; omega⟩) := by
  idx_vars i
  have h' : ¬i1.val < 2048 := h
  pointwise [val_main_v106, val_main_v105, val_main_v104, h']

/-- The second result: the last fifteen rows of each sequence's pooled columns. -/
theorem tail_at (i : S4x15x2048.Idx) : val_main_v68 (F := Ideal) x0 i
    = x0 (ix2 ⟨(i 0).val * 4096 + (4081 + (i 1).val), by idx_bounds; omega⟩ ⟨(i 2).val, by idx_bounds; omega⟩) := by
  idx_vars i
  have h : ¬4096 + i1.val < 15 := by omega
  have e : 4096 + i1.val - 15 = 4081 + i1.val := by omega
  pointwise [val_main_v68, val_main_v4, val_main_v3, val_main_v1, val_main_v0, h]
  simp only [e]

/-- A pooled column of the first result, by sequence and row. -/
theorem lo_row (b : Fin 4) (q : Fin 4096) (j : Fin 2048) :
    val_main_v106 (F := Ideal) x0 x1 x2 x3 x4 x5 x6 (ix2 ⟨b.val * 4096 + q.val, by omega⟩ ⟨j.val, by omega⟩)
      = val_main_v64 (F := Ideal) x0 x1 (ix3 b q j) * x2 (ix1 j) := by
  refine (lo_at x0 x1 x2 x3 x4 x5 x6 _ j.isLt).trans ?_
  have e0 : (b.val * 4096 + q.val) / 4096 = b.val := by omega
  have e1 : (b.val * 4096 + q.val) % 4096 = q.val := by omega
  exact congrArg (fun i => val_main_v64 (F := Ideal) x0 x1 i * x2 (ix1 j)) (congrArg₂ (fun b q => ix3 b q j) (Fin.ext e0) (Fin.ext e1))

/-- A gated column of the first result, by sequence and row. -/
theorem hi_row (b : Fin 4) (q : Fin 4096) (j : Fin 2048) :
    val_main_v106 (F := Ideal) x0 x1 x2 x3 x4 x5 x6 (ix2 ⟨b.val * 4096 + q.val, by omega⟩ ⟨2048 + j.val, by omega⟩)
      = val_main_v103 (F := Ideal) x0 x3 x4 x5 x6 (ix3 b q j) := by
  refine (hi_at x0 x1 x2 x3 x4 x5 x6 _ (by show ¬2048 + j.val < 2048; omega)).trans ?_
  have e0 : (b.val * 4096 + q.val) / 4096 = b.val := by omega
  have e1 : (b.val * 4096 + q.val) % 4096 = q.val := by omega
  have e2 : 2048 + j.val - 2048 = j.val := by omega
  refine congrArg (val_main_v103 (F := Ideal) x0 x3 x4 x5 x6) ?_
  exact (congrArg₂ (fun b q => ix3 b q _) (Fin.ext e0) (Fin.ext e1)).trans (congrArg (fun j => ix3 b q j) (Fin.ext e2))

/-- The columns of windows of 2. -/
theorem grp0 (hX : ∀ b c i, ∃ r : ℝ, ext x0 b c i = r) (b : Fin 4) (q : Fin 4096) (j : Fin 512) :
    val_main_v106 (F := Ideal) x0 x1 x2 x3 x4 x5 x6 (ix2 ⟨b.val * 4096 + q.val, by omega⟩ ⟨0 + j.val, by omega⟩)
      = mix 1 (fun k => ext x0 b ⟨0 + k.val, by omega⟩) (15 + q.val) (q.val + 1)
          (fun k => x0 (ix2 ⟨b.val * 4096 + q.val, by omega⟩ ⟨0 + k.val, by omega⟩)) (fun k => x1 (ix3 0 k j)) (x2 (ix1 ⟨0 + j.val, by omega⟩)) := by
  refine (lo_row x0 x1 x2 x3 x4 x5 x6 b q ⟨0 + j.val, by omega⟩).trans ?_
  rw [← pool2 x0 x1 hX]
  have h : 0 + j.val < 512 := by omega
  pointwise [val_main_v64, h]

/-- The columns of windows of 4. -/
theorem grp1 (hX : ∀ b c i, ∃ r : ℝ, ext x0 b c i = r) (b : Fin 4) (q : Fin 4096) (j : Fin 512) :
    val_main_v106 (F := Ideal) x0 x1 x2 x3 x4 x5 x6 (ix2 ⟨b.val * 4096 + q.val, by omega⟩ ⟨512 + j.val, by omega⟩)
      = mix 2 (fun k => ext x0 b ⟨512 + k.val, by omega⟩) (15 + q.val) (q.val + 1)
          (fun k => x0 (ix2 ⟨b.val * 4096 + q.val, by omega⟩ ⟨512 + k.val, by omega⟩)) (fun k => x1 (ix3 1 k j)) (x2 (ix1 ⟨512 + j.val, by omega⟩)) := by
  refine (lo_row x0 x1 x2 x3 x4 x5 x6 b q ⟨512 + j.val, by omega⟩).trans ?_
  rw [← pool4 x0 x1 hX]
  have h : ¬512 + j.val < 512 := by omega
  have h' : 512 + j.val - 512 < 512 := by omega
  have e : (⟨512 + j.val - 512, h'⟩ : Fin 512) = j := Fin.ext (by show 512 + j.val - 512 = j.val; omega)
  pointwise [val_main_v64, h, h']

/-- The columns of windows of 8. -/
theorem grp2 (hX : ∀ b c i, ∃ r : ℝ, ext x0 b c i = r) (b : Fin 4) (q : Fin 4096) (j : Fin 512) :
    val_main_v106 (F := Ideal) x0 x1 x2 x3 x4 x5 x6 (ix2 ⟨b.val * 4096 + q.val, by omega⟩ ⟨1024 + j.val, by omega⟩)
      = mix 3 (fun k => ext x0 b ⟨1024 + k.val, by omega⟩) (15 + q.val) (q.val + 1)
          (fun k => x0 (ix2 ⟨b.val * 4096 + q.val, by omega⟩ ⟨1024 + k.val, by omega⟩)) (fun k => x1 (ix3 2 k j)) (x2 (ix1 ⟨1024 + j.val, by omega⟩)) := by
  refine (lo_row x0 x1 x2 x3 x4 x5 x6 b q ⟨1024 + j.val, by omega⟩).trans ?_
  rw [← pool8 x0 x1 hX]
  have h : ¬1024 + j.val < 512 := by omega
  have h' : ¬1024 + j.val - 512 < 512 := by omega
  have h'' : 1024 + j.val - 512 - 512 < 512 := by omega
  have e : (⟨1024 + j.val - 512 - 512, h''⟩ : Fin 512) = j := Fin.ext (by show 1024 + j.val - 512 - 512 = j.val; omega)
  pointwise [val_main_v64, h, h', h'']
  rw [e]

/-- The columns of windows of 16. -/
theorem grp3 (hX : ∀ b c i, ∃ r : ℝ, ext x0 b c i = r) (b : Fin 4) (q : Fin 4096) (j : Fin 512) :
    val_main_v106 (F := Ideal) x0 x1 x2 x3 x4 x5 x6 (ix2 ⟨b.val * 4096 + q.val, by omega⟩ ⟨1536 + j.val, by omega⟩)
      = mix 4 (fun k => ext x0 b ⟨1536 + k.val, by omega⟩) (15 + q.val) (q.val + 1)
          (fun k => x0 (ix2 ⟨b.val * 4096 + q.val, by omega⟩ ⟨1536 + k.val, by omega⟩)) (fun k => x1 (ix3 3 k j)) (x2 (ix1 ⟨1536 + j.val, by omega⟩)) := by
  refine (lo_row x0 x1 x2 x3 x4 x5 x6 b q ⟨1536 + j.val, by omega⟩).trans ?_
  rw [← pool16 x0 x1 hX]
  have h : ¬1536 + j.val < 512 := by omega
  have h' : ¬1536 + j.val - 512 < 512 := by omega
  have h'' : ¬1536 + j.val - 512 - 512 < 512 := by omega
  have h3 : 1536 + j.val - 512 - 512 - 512 < 512 := by omega
  have e : (⟨1536 + j.val - 512 - 512 - 512, h3⟩ : Fin 512) = j := Fin.ext (by show 1536 + j.val - 512 - 512 - 512 = j.val; omega)
  pointwise [val_main_v64, h, h', h'', h3]
  rw [e]

end Cert.MixRead
end
-- ==== Proof.MixPoint.lean ====
module

public import proofs.«01_k».proof.Proof.Gen.MixIdeal.Value
public import proofs.«01_k».proof.Proof.Gen.MixRefIdeal.Run
public import proofs.«01_k».proof.Proof.Gen.MixRefIdeal.Read
public import Idealize.ShloMosaic.Lib.Pipeline.ValueKit
public import proofs.«01_k».proof.Proof.ReadAt
public import proofs.«01_k».proof.Proof.MixRead

@[expose] public section

set_option maxRecDepth 16384

noncomputable section

namespace Cert.MixIdeal.Final

open Cert.MixIdeal Cert.MixIdeal.Gen Idealize.ShloMosaic Idealize.ShloMosaic.TcCoe Idealize.SL.Sem
open Idealize.ShloMosaic.Pipeline (Dat)

open Cert.ReadAt

variable (m : (ℓ : Loc nD τ sig) → Buf (Elt Ideal) ℓ) (c : Dev nD)

/-- After a grid point, rows 17 to 31 of the window rows' buffer are the last fifteen rows of the point's own block. -/
theorem ext_rows (t : Fin cfg0.N) (r : Fin 288) (j : Fin 2048) (hr : 17 ≤ r.val ∧ r.val < 32) :
    (outsAt0 m c t.val t.isLt).2.2.1 (ix2 r j) = iblk m c 0 t (ix2 ⟨r.val + 224, by omega⟩ ⟨j.val, by omega⟩) := by
  have h1 : (17 ≤ r.val ∧ r.val - 17 < 15) ∧ (0 ≤ j.val ∧ j.val - 0 < 2048) := by omega
  have e : (⟨241 + (r.val - 17), by omega⟩ : Fin 256) = ⟨r.val + 224, by omega⟩ := Fin.ext (by show 241 + (r.val - 17) = r.val + 224; omega)
  by_cases h0 : t.val % 16 = 0
  · rw [outsAt0_A m c t h0]
    frame_out
    refine (canon_hit _ _ _ _ h1).trans ?_
    pointwise [k0_pay26, k0_pay24]
    exact congrArg (fun a => iblk m c 0 t (ix2 a ⟨j.val, by omega⟩)) e
  · rw [outsAt0_B m c t h0]
    frame_out
    refine (read_hit _ _ _ _ _ _ h1).trans ?_
    pointwise [k0_pay26, k0_pay24]
    exact congrArg (fun a => iblk m c 0 t (ix2 a ⟨j.val, by omega⟩)) e

open Cert.Pool Cert.MixRead

/-- The first argument of the program. -/
abbrev arg0 : FVec Ideal Cert.MixRefIdeal.S16896x6144 .f32 := m ((c : Thread nD τ).loc main_arg0)

/-- Every window's block index at every grid point. -/
theorem idx : ∀ t : Fin cfg0.N, win0_0.index t = ![t.val, 0] ∧ win0_1.index t = ![t.val, 1] ∧ win0_2.index t = ![t.val, 2] ∧ win0_3.index t = ![0, 0, 0]
    ∧ win0_4.index t = ![0, 0] ∧ win0_5.index t = ![0, 0] ∧ win0_6.index t = ![0, 0] ∧ win0_7.index t = ![0, 0, 0] ∧ win0_8.index t = ![0, 0]
    ∧ win0_9.index t = ![t.val, 0] ∧ win0_10.index t = ![t.val / 16, 0, 0] :=
  (by decide +kernel : ∀ t : Fin grid0.N, _)

/-- The number of grid points. -/
theorem lt64 (t : Fin cfg0.N) : t.val < 64 := t.isLt

/-- The padded column the windows of a grid point slide over, by the row of the window rows' buffer. -/
def win (t : Fin cfg0.N) (j : Fin 2048) (n : ℕ) : EReal :=
  ext (arg0 m c) ⟨t.val / 16, by have := lt64 t; omega⟩ j (256 * (t.val % 16) + n - 17)

/-- The point's own rows. -/
theorem blk0 (t : Fin cfg0.N) (r : Fin 256) (j : Fin 2048) :
    iblk m c 0 t (ix2 r j) = arg0 m c (ix2 ⟨256 * t.val + r.val, by have := lt64 t; omega⟩ ⟨j.val, by omega⟩) := by
  blk_point [iblk, V, idx t]

/-- A row of the sequence is an entry of the padded column. -/
theorem win_eq (t : Fin cfg0.N) (j : Fin 2048) (n : ℕ) (hn : 32 ≤ 256 * (t.val % 16) + n ∧ n < 288) (a : Fin 16896) (ha : a.val + 32 = 256 * t.val + n) :
    win m c t j n = arg0 m c (ix2 a ⟨j.val, by omega⟩) := by
  have := lt64 t
  unfold win ext
  rw [dif_neg (by omega), dif_pos (by omega)]
  exact congrArg (fun a => arg0 m c (ix2 a ⟨j.val, by omega⟩)) (Fin.ext (by show t.val / 16 * 4096 + (256 * (t.val % 16) + n - 17 - 15) = a.val; omega))

/-- The window rows' buffer at the rows of the point's own block. -/
theorem own (t : Fin cfg0.N) (r : Fin 256) (j : Fin 2048) (n : ℕ) (hn : 32 + r.val = n) : k0_pay7 (iblk m c 0 t) (ix2 r j) = win m c t j n := by
  have := lt64 t
  refine Eq.trans (by pointwise [k0_pay7]) ((blk0 m c t r j).trans (win_eq m c t j n (by omega) _ (by show 256 * t.val + r.val + 32 = _; omega)).symm)

/-- The window rows' buffer at the rows kept from the point before. -/
theorem past (t : Fin cfg0.N) (h0 : ¬t.val % 16 = 0) (hp : t.val - 1 < cfg0.N) (r : Fin 288) (j : Fin 2048) (n : ℕ) (hn : r.val = n) (h : 17 ≤ n ∧ n < 32) :
    (outsAt0 m c (t.val - 1) hp).2.2.1 (ix2 r j) = win m c t j n := by
  have := lt64 t
  refine (ext_rows m c ⟨t.val - 1, hp⟩ r j (by omega)).trans ?_
  refine (blk0 m c ⟨t.val - 1, hp⟩ _ _).trans (win_eq m c t j n (by omega) _ (by show 256 * (t.val - 1) + (r.val + 224) + 32 = _; omega)).symm

/-- Before a sequence's first row the padded column is zero. -/
theorem none (t : Fin cfg0.N) (h0 : t.val % 16 = 0) (j : Fin 2048) (n : ℕ) (h : n < 32) : win m c t j n = 0 := by
  unfold win ext
  rw [dif_pos (by omega)]

section Loads

variable {m c}
variable {L : List (View.Piece (Elt Ideal) S288x2048 .f32)} {p0 p1 k0 k1 : ℕ}
variable {v : View sig .tc .vmem S288x2048 .f32} {inb : ∀ a, (![32, 0] : Fin 2 → ℕ) a + (![256, 2048] : Fin 2 → ℕ) a ≤ S288x2048.size a}
variable {inb' : ∀ a, (![p0, p1] : Fin 2 → ℕ) a + (![k0, k1] : Fin 2 → ℕ) a ≤ S288x2048.size a}
variable {t : Fin cfg0.N} {r : Fin k0} {j : Fin k1} {J : Fin 2048} {n : ℕ}

/-- A load of the window rows' buffer at the own rows. -/
theorem cov_own (h : p0 + r.val = n) (hj : p1 + j.val = J.val) (hn : 32 ≤ n) (hn' : n < 288) :
    v.readCov (⟨Rect.unit (s := S288x2048) ![32, 0] ![256, 2048] inb, k0_pay7 (iblk m c 0 t)⟩ :: L) (Rect.unit (s := S288x2048) ![p0, p1] ![k0, k1] inb').toLoadRect (ix2 r j)
      = win m c t J n := by
  refine (readCov_hit v inb _ L inb' (ix2 r j) ?_).trans ?_
  · show (32 ≤ p0 + r.val ∧ p0 + r.val - 32 < 256) ∧ (0 ≤ p1 + j.val ∧ p1 + j.val - 0 < 2048)
    omega
  · refine (own m c t _ _ n (by show 32 + (p0 + r.val - 32) = n; omega)).trans ?_
    exact congrArg (fun J => win m c t J n) (Fin.ext hj)

/-- A load of the window rows' buffer, at any row the windows reach, after a sequence's first point. -/
theorem ld_win (h0 : ¬t.val % 16 = 0) {hp : t.val - 1 < cfg0.N} {w : (Memref.whole cc0_scratch0).IsWhole}
    (h : p0 + r.val = n) (hj : p1 + j.val = J.val) (hn : 17 ≤ n) (hn' : n < 288) :
    View.ld (View.read (Elt Ideal) (View.whole cc0_scratch0) ((View.whole cc0_scratch0).writes (Elt Ideal) (w.unread (outsAt0 m c (t.val - 1) hp).2.2.1)
      [⟨Rect.unit (s := S288x2048) ![32, 0] ![256, 2048] inb, k0_pay7 (iblk m c 0 t)⟩])) (Rect.unit (s := S288x2048) ![p0, p1] ![k0, k1] inb') (ix2 r j)
      = win m c t J n := by
  refine (ld_at _ inb' (ix2 r j)).trans ?_
  by_cases h32 : 32 ≤ n
  · refine (read_hit _ _ inb _ [] _ ?_).trans ?_
    · show (32 ≤ p0 + r.val ∧ p0 + r.val - 32 < 256) ∧ (0 ≤ p1 + j.val ∧ p1 + j.val - 0 < 2048)
      omega
    · refine (own m c t _ _ n (by show 32 + (p0 + r.val - 32) = n; omega)).trans ?_
      exact congrArg (fun J => win m c t J n) (Fin.ext hj)
  · refine (read_miss _ _ inb _ [] _ (Or.inl (by show p0 + r.val < 32; omega))).trans ?_
    refine (congrFun (w.read_unread _) _).trans ?_
    refine (past m c t h0 hp _ _ n h (by omega)).trans ?_
    exact congrArg (fun J => win m c t J n) (Fin.ext hj)

/-- A load of the window rows' buffer, at any row the windows reach, at a sequence's first point. -/
theorem cov_win (h0 : t.val % 16 = 0) {inb0 : ∀ a, (![0, 0] : Fin 2 → ℕ) a + (![32, 2048] : Fin 2 → ℕ) a ≤ S288x2048.size a}
    (h : p0 + r.val = n) (hj : p1 + j.val = J.val) (hn : 17 ≤ n) (hn' : n < 288) :
    v.readCov ([⟨Rect.unit (s := S288x2048) ![32, 0] ![256, 2048] inb, k0_pay7 (iblk m c 0 t)⟩, ⟨Rect.unit (s := S288x2048) ![0, 0] ![32, 2048] inb0, k0_pay6 (F := Ideal)⟩] : List (View.Piece (Elt Ideal) S288x2048 .f32))
      (Rect.unit (s := S288x2048) ![p0, p1] ![k0, k1] inb').toLoadRect (ix2 r j)
      = win m c t J n := by
  by_cases h32 : 32 ≤ n
  · exact cov_own h hj h32 hn'
  · refine (readCov_miss v inb _ _ inb' (ix2 r j) (Or.inl (by show p0 + r.val < 32; omega))).trans ?_
    refine (readCov_hit v inb0 _ _ inb' (ix2 r j) ?_).trans ?_
    · show (0 ≤ p0 + r.val ∧ p0 + r.val - 0 < 32) ∧ (0 ≤ p1 + j.val ∧ p1 + j.val - 0 < 2048)
      omega
    · rw [none m c t h0 J n (by omega)]
      pointwise [k0_pay6]

end Loads

section Levels

variable {P : List (View.Piece (Elt Ideal) S288x512 .f32)} {p0 k0 : ℕ} {v : View sig .tc .vmem S288x512 .f32}
variable {inb : ∀ a, (![16, 0] : Fin 2 → ℕ) a + (![272, 512] : Fin 2 → ℕ) a ≤ S288x512.size a}
variable {inb' : ∀ a, (![p0, 0] : Fin 2 → ℕ) a + (![k0, 512] : Fin 2 → ℕ) a ≤ S288x512.size a}
variable {w : (Rect.unit (s := S288x512) ![16, 0] ![272, 512] inb).shape.Idx → Elt Ideal .f32} {r : Fin k0} {j : Fin 512} {x : EReal}

/-- A load of a level's buffer reads the last level stored there. -/
theorem cov_lvl (h16 : 16 ≤ p0 + r.val ∧ p0 + r.val < 288) (hw : ∀ q : Fin 272, 16 + q.val = p0 + r.val → w (ix2 q j) = x) :
    v.readCov (⟨Rect.unit (s := S288x512) ![16, 0] ![272, 512] inb, w⟩ :: P) (Rect.unit (s := S288x512) ![p0, 0] ![k0, 512] inb').toLoadRect (ix2 r j) = x := by
  refine (readCov_hit v inb w P inb' (ix2 r j) ?_).trans ?_
  · show (16 ≤ p0 + r.val ∧ p0 + r.val - 16 < 272) ∧ (0 ≤ 0 + j.val ∧ 0 + j.val - 0 < 512)
    omega
  · refine Eq.trans ?_ (hw ⟨p0 + r.val - 16, by omega⟩ (by show 16 + (p0 + r.val - 16) = p0 + r.val; omega))
    exact congrArg (fun j => w (ix2 _ j)) (Fin.ext (by show 0 + j.val - 0 = j.val; omega))

/-- The same over contents from before. -/
theorem ld_lvl {f} (h16 : 16 ≤ p0 + r.val ∧ p0 + r.val < 288) (hw : ∀ q : Fin 272, 16 + q.val = p0 + r.val → w (ix2 q j) = x) :
    View.ld (v.read (Elt Ideal) (v.writes (Elt Ideal) f (⟨Rect.unit (s := S288x512) ![16, 0] ![272, 512] inb, w⟩ :: P))) (Rect.unit (s := S288x512) ![p0, 0] ![k0, 512] inb') (ix2 r j) = x := by
  refine (ld_at _ inb' (ix2 r j)).trans ?_
  refine (read_hit v f inb w P _ ?_).trans ?_
  · show (16 ≤ p0 + r.val ∧ p0 + r.val - 16 < 272) ∧ (0 ≤ 0 + j.val ∧ 0 + j.val - 0 < 512)
    omega
  · refine Eq.trans ?_ (hw ⟨p0 + r.val - 16, by omega⟩ (by show 16 + (p0 + r.val - 16) = p0 + r.val; omega))
    exact congrArg (fun j => w (ix2 _ j)) (Fin.ext (by show 0 + j.val - 0 = j.val; omega))

end Levels

section Adds

variable (A B : Vec Ideal S272x512 .f32) (r : Fin 272) (j : Fin 512)

/-- A stored level is the sum of its two loads. -/
theorem add11 : k0_pay11 A B (ix2 r j) = A (ix2 r j) + B (ix2 r j) := by pointwise [k0_pay11]
/-- A stored level is the sum of its two loads. -/
theorem add13 : k0_pay13 A B (ix2 r j) = A (ix2 r j) + B (ix2 r j) := by pointwise [k0_pay13]
/-- A stored level is the sum of its two loads. -/
theorem add14 : k0_pay14 A B (ix2 r j) = A (ix2 r j) + B (ix2 r j) := by pointwise [k0_pay14]
/-- A stored level is the sum of its two loads. -/
theorem add17 : k0_pay17 A B (ix2 r j) = A (ix2 r j) + B (ix2 r j) := by pointwise [k0_pay17]
/-- A stored level is the sum of its two loads. -/
theorem add18 : k0_pay18 A B (ix2 r j) = A (ix2 r j) + B (ix2 r j) := by pointwise [k0_pay18]
/-- A stored level is the sum of its two loads. -/
theorem add19 : k0_pay19 A B (ix2 r j) = A (ix2 r j) + B (ix2 r j) := by pointwise [k0_pay19]

end Adds

/-- The program's other arguments and its first result. -/
abbrev arg1 : FVec Ideal Cert.MixRefIdeal.S4x512x512 .f32 := m ((c : Thread nD τ).loc main_arg1)
abbrev arg2 : FVec Ideal Cert.MixRefIdeal.S2048 .f32 := m ((c : Thread nD τ).loc main_arg2)
abbrev arg3 : FVec Ideal Cert.MixRefIdeal.S2048 .f32 := m ((c : Thread nD τ).loc main_arg3)
abbrev arg4 : FVec Ideal Cert.MixRefIdeal.S2048 .f32 := m ((c : Thread nD τ).loc main_arg4)
abbrev arg5 : FVec Ideal Cert.MixRefIdeal.S8x128x128 .f32 := m ((c : Thread nD τ).loc main_arg5)
abbrev arg6 : FVec Ideal Cert.MixRefIdeal.S8x128 .f32 := m ((c : Thread nD τ).loc main_arg6)
abbrev res : FVec Ideal Cert.MixRefIdeal.S16384x4096 .f32 :=
  Cert.MixRefIdeal.Read.val_main_v106 (F := Ideal) (arg0 m c) (arg1 m c) (arg2 m c) (arg3 m c) (arg4 m c) (arg5 m c) (arg6 m c)

/-- The count of the rows available, as the point computes it. -/
theorem count (s p w : ℕ) (hs : s < 64) (hp : p < 256) (hw : w < 2 ^ 31) :
    FloatOps.sitofp (F := Ideal) .f32 (IntOp.minsi (BitVec.ofNat 32 w)
      (IntOp.addi (IntOp.addi (IntOp.addi (Scalar.muli (BitVec.ofNat 32 s) 256#32) (BitVec.ofNat 32 p)) 1#32) 0#32)) = cnt w (256 * s + p + 1) := by
  have e : IntOp.addi (IntOp.addi (IntOp.addi (Scalar.muli (BitVec.ofNat 32 s) 256#32) (BitVec.ofNat 32 p)) 1#32) 0#32 = BitVec.ofNat 32 (256 * s + p + 1) := by
    show (BitVec.ofNat 32 s * BitVec.ofNat 32 256 + BitVec.ofNat 32 p + BitVec.ofNat 32 1) + BitVec.ofNat 32 0 = _
    rw [← BitVec.ofNat_mul, ← BitVec.ofNat_add, ← BitVec.ofNat_add, ← BitVec.ofNat_add]
    congr 1; omega
  rw [e, cnt_eq w _ hw (by omega)]

/-- The second grid coordinate is the point's place in its sequence. -/
theorem coord1 : ∀ t : Fin cfg0.N, (grid0.coords t 1).val = t.val % 16 := (by decide +kernel : ∀ t : Fin grid0.N, _)

/-- The sequence and the row of a row of a point's block. -/
abbrev seq (t : Fin cfg0.N) : Fin 4 := ⟨t.val / 16, by have := lt64 t; omega⟩
abbrev pos (t : Fin cfg0.N) (p : Fin 256) : Fin 4096 := ⟨256 * (t.val % 16) + p.val, by have := lt64 t; omega⟩

/-- A window of the point's rows is the window of the padded column. -/
theorem win_tree (t : Fin cfg0.N) (j : Fin 2048) (p : Fin 256) (k : ℕ) (hk : 2 ^ k ≤ 16) :
    tree (win m c t j) k (32 + p.val) = tree (ext (arg0 m c) (seq t) j) k (15 + (pos t p).val) := by
  refine tree_shift (lo := 17) (hi := 287) (d := 256 * (t.val % 16)) (e := 17) (by omega) ?_ k _ _ (by omega) (by omega) ?_
  · intro r r' h1 h2 h3
    show ext _ _ _ (256 * (t.val % 16) + r - 17) = _
    have e : 256 * (t.val % 16) + r - 17 = r' := by omega
    rw [e]
  · show 32 + p.val + 256 * (t.val % 16) = 15 + (256 * (t.val % 16) + p.val) + 17
    omega

/-- The count at a row of the point. -/
theorem count_at (t : Fin cfg0.N) (p : Fin 256) (w : ℕ) (hw : w < 2 ^ 31) :
    FloatOps.sitofp (F := Ideal) .f32 (IntOp.minsi (BitVec.ofNat 32 w)
      (IntOp.addi (IntOp.addi (IntOp.addi (Scalar.muli (BitVec.ofNat 32 (grid0.coords t 1).val) 256#32) (BitVec.ofNat 32 p.val)) 1#32) 0#32))
      = cnt w ((pos t p).val + 1) := by
  rw [coord1 t, count _ _ _ (by have := lt64 t; omega) p.isLt hw]

/-- The point's own rows, by sequence and row. -/
theorem blk0_seq (t : Fin cfg0.N) (p : Fin 256) (j : Fin 2048) (a : Fin 6144) (ha : j.val = a.val) :
    iblk m c 0 t (ix2 p j) = arg0 m c (ix2 ⟨(seq t).val * 4096 + (pos t p).val, by have := lt64 t; omega⟩ a) := by
  refine (blk0 m c t p j).trans ?_
  exact congrArg₂ (fun r a => arg0 m c (ix2 r a)) (Fin.ext (by show 256 * t.val + p.val = t.val / 16 * 4096 + (256 * (t.val % 16) + p.val); omega)) (Fin.ext ha)

/-- The matrices and the scales of the pooled columns. -/
theorem blk3 (t : Fin cfg0.N) (g : Fin 4) (k j : Fin 512) : iblk m c 3 t (ix3 g k j) = arg1 m c (ix3 g k j) := by
  blk_point [iblk, V, idx t]
theorem blk4 (t : Fin cfg0.N) (j : Fin 2048) : iblk m c 4 t (ix2 0 j) = arg2 m c (ix1 j) := by
  blk_point [iblk, V, idx t]

/-- The array index under a row of the point's block. -/
theorem row_eq (t : Fin cfg0.N) (p : Fin 256) (j : ℕ) (i : Cert.MixRefIdeal.S16384x4096.Idx) (hj : j < 4096) (hi : (i 0).val = 256 * t.val + p.val ∧ (i 1).val = j) :
    i = ix2 ⟨(seq t).val * 4096 + (pos t p).val, by have := lt64 t; omega⟩ ⟨j, hj⟩ := by
  refine funext (Fin.forall_fin_two.mpr ⟨Fin.ext (hi.1.trans ?_), Fin.ext hi.2⟩)
  show 256 * t.val + p.val = t.val / 16 * 4096 + (256 * (t.val % 16) + p.val)
  omega

/-- One pooled entry from the point's sums, counts, rows, matrix and scale. -/
theorem entry (t : Fin cfg0.N) (p : Fin 256) (k : ℕ) (hk : 2 ^ k ≤ 16) (o : ℕ) (ho : o + 512 ≤ 2048) (g : Fin 4) (q : Fin 512) :
    (∑ x : Fin 512, (tree (win m c t ⟨o + x.val, by omega⟩) k (32 + p.val)
      * Ideal.div 1 (FloatOps.sitofp (F := Ideal) .f32 (IntOp.minsi (BitVec.ofNat 32 (2 ^ k))
        (IntOp.addi (IntOp.addi (IntOp.addi (Scalar.muli (BitVec.ofNat 32 (grid0.coords t 1).val) 256#32) (BitVec.ofNat 32 p.val)) 1#32) 0#32)))
      - iblk m c 0 t (ix2 p ⟨o + x.val, by omega⟩)) * iblk m c 3 t (ix3 g x q)) * iblk m c 4 t (ix2 0 ⟨o + q.val, by omega⟩)
      = mix k (fun x => ext (arg0 m c) (seq t) ⟨o + x.val, by omega⟩) (15 + (pos t p).val) ((pos t p).val + 1)
          (fun x => arg0 m c (ix2 ⟨(seq t).val * 4096 + (pos t p).val, by have := lt64 t; omega⟩ ⟨o + x.val, by omega⟩)) (fun x => arg1 m c (ix3 g x q))
          (arg2 m c (ix1 ⟨o + q.val, by omega⟩)) := by
  unfold mix
  rw [blk4, count_at t p _ (by omega)]
  refine congrArg (· * _) (Finset.sum_congr rfl fun x _ => ?_)
  rw [win_tree m c t _ p k hk, blk3, blk0_seq m c t p _ ⟨o + x.val, by omega⟩ rfl]

section Pools

variable (hX : ∀ b c' i, ∃ r : ℝ, ext (arg0 m c) b c' i = r)
include hX

/-- The entries of the windows of 2 that the point stores. -/
theorem pool0 (t : Fin cfg0.N) (A B : Vec Ideal S256x512 .f32) (p : Fin 256) (q : Fin 512)
    (h : ∀ k : Fin 512, A (ix2 p k) + B (ix2 p k) = tree (win m c t ⟨0 + k.val, by omega⟩) 1 (32 + p.val))
    (i : Cert.MixRefIdeal.S16384x4096.Idx) (hi : (i 0).val = 256 * t.val + p.val ∧ (i 1).val = 0 + q.val) :
    k0_pay10 (k0_pay9 (grid0.coords t) (iblk m c 0 t) A B (View.ld (iblk m c 3 t) (Rect.unit (s := S4x512x512) ![0, 0, 0] ![1, 512, 512] inb_S4x512x512_S1x512x512_0_0_0)) (View.ld (iblk m c 4 t) (Rect.unit (s := S1x2048) ![0, 0] ![1, 512] inb_S1x2048_S1x512_0_0))) (ix2 p q)
      = res m c i := by
  rw [row_eq t p _ i (by omega) hi]
  refine Eq.trans ?_ (grp0 _ _ _ _ _ _ _ hX (seq t) (pos t p) q).symm
  refine Eq.trans ?_ (entry m c t p 1 (by omega) 0 (by omega) 0 q)
  pointwise [k0_pay10, k0_pay9, k0_pay8, h]
  rfl

/-- The entries of the windows of 4 that the point stores. -/
theorem pool1 (t : Fin cfg0.N) (A B : Vec Ideal S256x512 .f32) (p : Fin 256) (q : Fin 512)
    (h : ∀ k : Fin 512, A (ix2 p k) + B (ix2 p k) = tree (win m c t ⟨512 + k.val, by omega⟩) 2 (32 + p.val))
    (i : Cert.MixRefIdeal.S16384x4096.Idx) (hi : (i 0).val = 256 * t.val + p.val ∧ (i 1).val = 512 + q.val) :
    k0_pay12 (iblk m c 0 t) (k0_pay8 (grid0.coords t)) A B (View.ld (iblk m c 3 t) (Rect.unit (s := S4x512x512) ![1, 0, 0] ![1, 512, 512] inb_S4x512x512_S1x512x512_1_0_0)) (View.ld (iblk m c 4 t) (Rect.unit (s := S1x2048) ![0, 512] ![1, 512] inb_S1x2048_S1x512_0_512)) (ix2 p q)
      = res m c i := by
  rw [row_eq t p _ i (by omega) hi]
  refine Eq.trans ?_ (grp1 _ _ _ _ _ _ _ hX (seq t) (pos t p) q).symm
  refine Eq.trans ?_ (entry m c t p 2 (by omega) 512 (by omega) 1 q)
  pointwise [k0_pay12, k0_pay8, h]
  rfl

/-- The entries of the windows of 8 that the point stores. -/
theorem pool2 (t : Fin cfg0.N) (A B : Vec Ideal S256x512 .f32) (p : Fin 256) (q : Fin 512)
    (h : ∀ k : Fin 512, A (ix2 p k) + B (ix2 p k) = tree (win m c t ⟨1024 + k.val, by omega⟩) 3 (32 + p.val))
    (i : Cert.MixRefIdeal.S16384x4096.Idx) (hi : (i 0).val = 256 * t.val + p.val ∧ (i 1).val = 1024 + q.val) :
    k0_pay16 (k0_pay15 (iblk m c 0 t) (k0_pay8 (grid0.coords t)) A B (View.ld (iblk m c 3 t) (Rect.unit (s := S4x512x512) ![2, 0, 0] ![1, 512, 512] inb_S4x512x512_S1x512x512_2_0_0))) (View.ld (iblk m c 4 t) (Rect.unit (s := S1x2048) ![0, 1024] ![1, 512] inb_S1x2048_S1x512_0_1024)) (ix2 p q)
      = res m c i := by
  rw [row_eq t p _ i (by omega) hi]
  refine Eq.trans ?_ (grp2 _ _ _ _ _ _ _ hX (seq t) (pos t p) q).symm
  refine Eq.trans ?_ (entry m c t p 3 (by omega) 1024 (by omega) 2 q)
  pointwise [k0_pay16, k0_pay15, k0_pay8, h]
  rfl

/-- The entries of the windows of 16 that the point stores. -/
theorem pool3 (t : Fin cfg0.N) (A B : Vec Ideal S256x512 .f32) (p : Fin 256) (q : Fin 512)
    (h : ∀ k : Fin 512, A (ix2 p k) + B (ix2 p k) = tree (win m c t ⟨1536 + k.val, by omega⟩) 4 (32 + p.val))
    (i : Cert.MixRefIdeal.S16384x4096.Idx) (hi : (i 0).val = 256 * t.val + p.val ∧ (i 1).val = 1536 + q.val) :
    k0_pay23 (k0_pay20 A B) (k0_pay21 (iblk m c 0 t)) (k0_pay22 (k0_pay8 (grid0.coords t))) (View.ld (iblk m c 3 t) (Rect.unit (s := S4x512x512) ![3, 0, 0] ![1, 512, 512] inb_S4x512x512_S1x512x512_3_0_0)) (View.ld (iblk m c 4 t) (Rect.unit (s := S1x2048) ![0, 1536] ![1, 512] inb_S1x2048_S1x512_0_1536)) (ix2 p q)
      = res m c i := by
  rw [row_eq t p _ i (by omega) hi]
  refine Eq.trans ?_ (grp3 _ _ _ _ _ _ _ hX (seq t) (pos t p) q).symm
  refine Eq.trans ?_ (entry m c t p 4 (by omega) 1536 (by omega) 3 q)
  pointwise [k0_pay23, k0_pay20, k0_pay21, k0_pay22, k0_pay8, h]
  rfl

end Pools

/-- The gates, the gate values' rows, the norm's weights, the mixing matrices and their biases. -/
theorem blk1 (t : Fin cfg0.N) (p : Fin 256) (j : Fin 2048) :
    iblk m c 1 t (ix2 p j) = arg0 m c (ix2 ⟨(seq t).val * 4096 + (pos t p).val, by have := lt64 t; omega⟩ ⟨2048 + j.val, by omega⟩) := by
  have e : t.val / 16 * 4096 + (256 * (t.val % 16) + p.val) = 256 * t.val + p.val := by omega
  blk_point [iblk, V, idx t, e]
theorem blk2 (t : Fin cfg0.N) (p : Fin 256) (j : Fin 2048) :
    iblk m c 2 t (ix2 p j) = arg0 m c (ix2 ⟨(seq t).val * 4096 + (pos t p).val, by have := lt64 t; omega⟩ ⟨4096 + j.val, by omega⟩) := by
  have e : t.val / 16 * 4096 + (256 * (t.val % 16) + p.val) = 256 * t.val + p.val := by omega
  blk_point [iblk, V, idx t, e]
theorem blk5 (t : Fin cfg0.N) (j : Fin 2048) : iblk m c 5 t (ix2 0 j) = arg3 m c (ix1 j) := by
  blk_point [iblk, V, idx t]
theorem blk6 (t : Fin cfg0.N) (j : Fin 2048) : iblk m c 6 t (ix2 0 j) = arg4 m c (ix1 j) := by
  blk_point [iblk, V, idx t]
theorem blk7 (t : Fin cfg0.N) (h : Fin 8) (i j : Fin 128) : iblk m c 7 t (ix3 h i j) = arg5 m c (ix3 h i j) := by
  blk_point [iblk, V, idx t]
theorem blk8 (t : Fin cfg0.N) (h : Fin 8) (i : Fin 128) : iblk m c 8 t (ix2 i h) = arg6 m c (ix2 h i) := by
  blk_point [iblk, V, idx t]

/-- The point's normalized rows are the reference's. -/
theorem nrm (t : Fin cfg0.N) (p : Fin 256) (j : Fin 2048) :
    k0_pay29 (k0_pay27 (iblk m c 2 t)) (k0_pay28 (iblk m c 2 t)) (iblk m c 5 t) (iblk m c 6 t) (ix2 p j)
      = Cert.MixRefIdeal.Read.val_main_v92 (F := Ideal) (arg0 m c) (arg3 m c) (arg4 m c) (ix3 (seq t) (pos t p) j) := by
  rw [norm_at]
  unfold lnv
  pointwise [k0_pay29, k0_pay27, k0_pay28]
  simp only [blk2 m c t, blk5 m c t, blk6 m c t]

/-- One gated entry from the point's gate, matrix, normalized rows and bias. -/
theorem gated (t : Fin cfg0.N) (o : ℕ) (ho : o = 0 ∨ o = 128) (a : Fin 128) (h : Fin 8) (d : ℕ) (hd : d = 256 * h.val) (b : Fin 256)
    (i : Cert.MixRefIdeal.S16384x4096.Idx) (hi : (i 0).val = 256 * t.val + (o + a.val) ∧ (i 1).val = 2048 + (d + b.val)) :
    gate (iblk m c 1 t (ix2 ⟨o + a.val, by omega⟩ ⟨d + b.val, by omega⟩)) a.val (fun j => iblk m c 7 t (ix3 h a j))
      (fun j => k0_pay29 (k0_pay27 (iblk m c 2 t)) (k0_pay28 (iblk m c 2 t)) (iblk m c 5 t) (iblk m c 6 t) (ix2 ⟨o + j.val, by omega⟩ ⟨d + b.val, by omega⟩))
      (iblk m c 8 t (ix2 a h)) = res m c i := by
  have ht := lt64 t
  rw [row_eq t ⟨o + a.val, by omega⟩ _ i (by omega) hi]
  refine Eq.trans ?_ (hi_row _ _ _ _ _ _ _ (seq t) (pos t ⟨o + a.val, by omega⟩) ⟨d + b.val, by omega⟩).symm
  rw [gate_at]
  have e1 : (pos t ⟨o + a.val, by omega⟩).val % 128 = a.val := by
    show (256 * (t.val % 16) + (o + a.val)) % 128 = a.val
    rcases ho with rfl | rfl <;> omega
  have e2 : ∀ j : Fin 128, (pos t ⟨o + a.val, by omega⟩).val / 128 * 128 + j.val = (pos t ⟨o + j.val, by omega⟩).val := fun j => by
    show (256 * (t.val % 16) + (o + a.val)) / 128 * 128 + j.val = 256 * (t.val % 16) + (o + j.val)
    rcases ho with rfl | rfl <;> omega
  have e3 : (d + b.val) / 256 = h.val := by omega
  simp only [e1, e2, e3, blk1 m c t, blk7 m c t, blk8 m c t, nrm m c t]

end Cert.MixIdeal.Final
end
-- ==== Proof.Finite.lean ====
/- What the two preconditions say: the entries they name are real numbers. -/
module

public import proofs.«01_k».proof.Pre_prompt_pool_finite
public import proofs.«01_k».proof.Pre_sample_pool_finite
public import Idealize.ShloMosaic.Lib.Pipeline.ValueKit
public import Idealize.ShloMosaic.Lib.ReduceAll

@[expose] public section

noncomputable section

namespace Cert.Finite

open Idealize.ShloMosaic

/-- A value whose absolute value is less than something is a real number. -/
theorem real_of_lt (x : Ideal .f32) (y : EReal) (h : BitVec.ofBool (decide (FloatOps.absf (F := Ideal) x < y)) = 1#1) : ∃ r : ℝ, x = (r : EReal) := by
  have h' : FloatOps.absf (F := Ideal) x < y := by
    by_contra hn
    rw [decide_eq_false hn] at h
    exact absurd h (by decide)
  have ha : FloatOps.absf (F := Ideal) x = max (x : EReal) (-x) := rfl
  rw [ha] at h'
  induction x using EReal.rec with
  | bot => exact absurd h' (by simp)
  | top => exact absurd h' (by simp)
  | coe r => exact ⟨r, rfl⟩

open Cert.Pre_prompt_pool_finite in
/-- The pooled columns of the prompt's rows are real numbers. -/
theorem prompt [Facts] (x0 x1 x2 x3 x4 x5 x6) (h : fn (F := Ideal) x0 x1 x2 x3 x4 x5 x6 = fun _ => 1#1) (r : Fin 16384) (j : Fin 2048) :
    ∃ y : ℝ, x0 (ix2 ⟨r.val, by omega⟩ ⟨j.val, by omega⟩) = (y : EReal) := by
  have e := congrFun h (Shape.Idx.first Facts.h_S_)
  unfold fn at e
  have e' := Host.reduce_andi_all _ _ _ _ _ e (ix2 r j)
  refine real_of_lt _ (Ideal.ofBits .f32 0x7F800000#32) (Eq.trans (Eq.symm ?_) e')
  pointwise []

open Cert.Pre_sample_pool_finite in
/-- The pooled columns of the samples' rows are real numbers, and so are the buffer's entries of this layer. -/
theorem sample [Facts] (x0 x1 x2 x3 x4 x5 x6 x7) (h : fn (F := Ideal) x0 x1 x2 x3 x4 x5 x6 x7 = fun _ => 1#1) :
    (∀ (r : Fin 512) (j : Fin 2048), ∃ y : ℝ, x0 (ix2 ⟨16384 + r.val, by omega⟩ ⟨j.val, by omega⟩) = (y : EReal))
      ∧ ∀ (b : Fin 8) (r : Fin 15) (j : Fin 2048), ∃ y : ℝ, x1 (ix4 0 b r j) = (y : EReal) := by
  have e := congrFun h (Shape.Idx.first Facts.h_S_)
  unfold fn at e
  obtain ⟨e1, e2⟩ := IntOp.andi_eq_one.mp e
  refine ⟨fun r j => ?_, fun b r j => ?_⟩
  · have e' := Host.reduce_andi_all _ _ _ _ _ e1 (ix2 r j)
    refine real_of_lt _ (Ideal.ofBits .f32 0x7F800000#32) (Eq.trans (Eq.symm ?_) e')
    pointwise []
  · have e' := Host.reduce_andi_all _ _ _ _ _ e2 (ix3 b r j)
    refine real_of_lt _ (Ideal.ofBits .f32 0x7F800000#32) (Eq.trans (Eq.symm ?_) e')
    pointwise []

end Cert.Finite
end
-- ==== Proof.Mix.lean ====
module

public import proofs.«01_k».proof.Proof.Gen.MixIdeal.Value
public import proofs.«01_k».proof.Proof.Gen.MixRefIdeal.Run
public import proofs.«01_k».proof.Proof.Gen.MixRefIdeal.Read
public import Idealize.ShloMosaic.Lib.Pipeline.ValueKit
public import proofs.«01_k».proof.Proof.MixPoint
public import proofs.«01_k».proof.Proof.Finite

@[expose] public section

set_option maxRecDepth 16384

noncomputable section

namespace Cert.MixIdeal.Final

open Cert.MixIdeal Cert.MixIdeal.Gen Idealize.ShloMosaic Idealize.ShloMosaic.TcCoe Idealize.SL.Sem
open Idealize.ShloMosaic.Pipeline (Dat)

open Cert.ReadAt Cert.Pool Cert.MixRead

variable (m : (ℓ : Loc nD τ sig) → Buf (Elt Ideal) ℓ) (c : Dev nD)

section Out

variable (hX : ∀ b c' i, ∃ r : ℝ, ext (arg0 m c) b c' i = r)
include hX

set_option maxHeartbeats 1000000 in
/-- What a grid point stores of the first result: at every index of its block, the reference at the array index under it. -/
theorem out9 (t : Fin cfg0.N) (y : S256x4096.Idx) (i : Cert.MixRefIdeal.S16384x4096.Idx)
    (hi : (i 0).val = 256 * t.val + (y 0).val ∧ (i 1).val = (y 1).val) : (outsAt0 m c t.val t.isLt).1 y = res m c i := by
  by_cases h0' : t.val % 16 = 0
  rw [outsAt0_A m c t h0']
  frame_out
  canon_tiles x h using (View.cover_of_tiledBy _ ![128, 256] (by sl_kernel_rfl) y)
  case piece16 =>
    idx_vars x
    exact pool3 m c hX t _ _ _ _ (fun k => step (cov_lvl (by omega) fun q hq => ((add19 _ _ _ _).trans (step (cov_lvl (by omega) fun q hq => ((add18 _ _ _ _).trans (step (cov_lvl (by omega) fun q hq => ((add17 _ _ _ _).trans (step (base (cov_win h0' (by omega) rfl (by omega) (by omega))) (base (cov_win h0' (by omega) rfl (by omega) (by omega)))))) (cov_lvl (by omega) fun q hq => ((add17 _ _ _ _).trans (step (base (cov_win h0' (by omega) rfl (by omega) (by omega))) (base (cov_win h0' (by omega) rfl (by omega) (by omega))))))))) (cov_lvl (by omega) fun q hq => ((add18 _ _ _ _).trans (step (cov_lvl (by omega) fun q hq => ((add17 _ _ _ _).trans (step (base (cov_win h0' (by omega) rfl (by omega) (by omega))) (base (cov_win h0' (by omega) rfl (by omega) (by omega)))))) (cov_lvl (by omega) fun q hq => ((add17 _ _ _ _).trans (step (base (cov_win h0' (by omega) rfl (by omega) (by omega))) (base (cov_win h0' (by omega) rfl (by omega) (by omega)))))))))))) (cov_lvl (by omega) fun q hq => ((add19 _ _ _ _).trans (step (cov_lvl (by omega) fun q hq => ((add18 _ _ _ _).trans (step (cov_lvl (by omega) fun q hq => ((add17 _ _ _ _).trans (step (base (cov_win h0' (by omega) rfl (by omega) (by omega))) (base (cov_win h0' (by omega) rfl (by omega) (by omega)))))) (cov_lvl (by omega) fun q hq => ((add17 _ _ _ _).trans (step (base (cov_win h0' (by omega) rfl (by omega) (by omega))) (base (cov_win h0' (by omega) rfl (by omega) (by omega))))))))) (cov_lvl (by omega) fun q hq => ((add18 _ _ _ _).trans (step (cov_lvl (by omega) fun q hq => ((add17 _ _ _ _).trans (step (base (cov_win h0' (by omega) rfl (by omega) (by omega))) (base (cov_win h0' (by omega) rfl (by omega) (by omega)))))) (cov_lvl (by omega) fun q hq => ((add17 _ _ _ _).trans (step (base (cov_win h0' (by omega) rfl (by omega) (by omega))) (base (cov_win h0' (by omega) rfl (by omega) (by omega))))))))))))) i ⟨by rw [hi.1, h0], hi.2.trans h1⟩
  case piece17 =>
    idx_vars x
    exact pool2 m c hX t _ _ _ _ (fun k => step (cov_lvl (by omega) fun q hq => ((add14 _ _ _ _).trans (step (cov_lvl (by omega) fun q hq => ((add13 _ _ _ _).trans (step (base (cov_win h0' (by omega) rfl (by omega) (by omega))) (base (cov_win h0' (by omega) rfl (by omega) (by omega)))))) (cov_lvl (by omega) fun q hq => ((add13 _ _ _ _).trans (step (base (cov_win h0' (by omega) rfl (by omega) (by omega))) (base (cov_win h0' (by omega) rfl (by omega) (by omega))))))))) (cov_lvl (by omega) fun q hq => ((add14 _ _ _ _).trans (step (cov_lvl (by omega) fun q hq => ((add13 _ _ _ _).trans (step (base (cov_win h0' (by omega) rfl (by omega) (by omega))) (base (cov_win h0' (by omega) rfl (by omega) (by omega)))))) (cov_lvl (by omega) fun q hq => ((add13 _ _ _ _).trans (step (base (cov_win h0' (by omega) rfl (by omega) (by omega))) (base (cov_win h0' (by omega) rfl (by omega) (by omega)))))))))) i ⟨by rw [hi.1, h0], hi.2.trans h1⟩
  case piece18 =>
    idx_vars x
    exact pool1 m c hX t _ _ _ _ (fun k => step (cov_lvl (by omega) fun q hq => ((add11 _ _ _ _).trans (step (base (cov_win h0' (by omega) rfl (by omega) (by omega))) (base (cov_win h0' (by omega) rfl (by omega) (by omega)))))) (cov_lvl (by omega) fun q hq => ((add11 _ _ _ _).trans (step (base (cov_win h0' (by omega) rfl (by omega) (by omega))) (base (cov_win h0' (by omega) rfl (by omega) (by omega))))))) i ⟨by rw [hi.1, h0], hi.2.trans h1⟩
  case piece19 =>
    idx_vars x
    exact pool0 m c hX t _ _ _ _ (fun k => step (base (cov_win h0' (by omega) rfl (by omega) (by omega))) (base (cov_win h0' (by omega) rfl (by omega) (by omega)))) i ⟨by rw [hi.1, h0], hi.2.trans (h1.trans (by omega))⟩
  rotate_left 16
  rw [outsAt0_B m c t h0']
  frame_out
  canon_tiles x h using (View.cover_of_tiledBy _ ![128, 256] (by sl_kernel_rfl) y)
  case piece16 =>
    idx_vars x
    exact pool3 m c hX t _ _ _ _ (fun k => step (cov_lvl (by omega) fun q hq => ((add19 _ _ _ _).trans (step (cov_lvl (by omega) fun q hq => ((add18 _ _ _ _).trans (step (cov_lvl (by omega) fun q hq => ((add17 _ _ _ _).trans (step (base (ld_win h0' (by omega) rfl (by omega) (by omega))) (base (ld_win h0' (by omega) rfl (by omega) (by omega)))))) (ld_lvl (by omega) fun q hq => ((add17 _ _ _ _).trans (step (base (ld_win h0' (by omega) rfl (by omega) (by omega))) (base (ld_win h0' (by omega) rfl (by omega) (by omega))))))))) (ld_lvl (by omega) fun q hq => ((add18 _ _ _ _).trans (step (cov_lvl (by omega) fun q hq => ((add17 _ _ _ _).trans (step (base (ld_win h0' (by omega) rfl (by omega) (by omega))) (base (ld_win h0' (by omega) rfl (by omega) (by omega)))))) (ld_lvl (by omega) fun q hq => ((add17 _ _ _ _).trans (step (base (ld_win h0' (by omega) rfl (by omega) (by omega))) (base (ld_win h0' (by omega) rfl (by omega) (by omega)))))))))))) (cov_lvl (by omega) fun q hq => ((add19 _ _ _ _).trans (step (cov_lvl (by omega) fun q hq => ((add18 _ _ _ _).trans (step (cov_lvl (by omega) fun q hq => ((add17 _ _ _ _).trans (step (base (ld_win h0' (by omega) rfl (by omega) (by omega))) (base (ld_win h0' (by omega) rfl (by omega) (by omega)))))) (ld_lvl (by omega) fun q hq => ((add17 _ _ _ _).trans (step (base (ld_win h0' (by omega) rfl (by omega) (by omega))) (base (ld_win h0' (by omega) rfl (by omega) (by omega))))))))) (ld_lvl (by omega) fun q hq => ((add18 _ _ _ _).trans (step (cov_lvl (by omega) fun q hq => ((add17 _ _ _ _).trans (step (base (ld_win h0' (by omega) rfl (by omega) (by omega))) (base (ld_win h0' (by omega) rfl (by omega) (by omega)))))) (ld_lvl (by omega) fun q hq => ((add17 _ _ _ _).trans (step (base (ld_win h0' (by omega) rfl (by omega) (by omega))) (base (ld_win h0' (by omega) rfl (by omega) (by omega))))))))))))) i ⟨by rw [hi.1, h0], hi.2.trans h1⟩
  case piece17 =>
    idx_vars x
    exact pool2 m c hX t _ _ _ _ (fun k => step (cov_lvl (by omega) fun q hq => ((add14 _ _ _ _).trans (step (cov_lvl (by omega) fun q hq => ((add13 _ _ _ _).trans (step (base (ld_win h0' (by omega) rfl (by omega) (by omega))) (base (ld_win h0' (by omega) rfl (by omega) (by omega)))))) (ld_lvl (by omega) fun q hq => ((add13 _ _ _ _).trans (step (base (ld_win h0' (by omega) rfl (by omega) (by omega))) (base (ld_win h0' (by omega) rfl (by omega) (by omega))))))))) (cov_lvl (by omega) fun q hq => ((add14 _ _ _ _).trans (step (cov_lvl (by omega) fun q hq => ((add13 _ _ _ _).trans (step (base (ld_win h0' (by omega) rfl (by omega) (by omega))) (base (ld_win h0' (by omega) rfl (by omega) (by omega)))))) (ld_lvl (by omega) fun q hq => ((add13 _ _ _ _).trans (step (base (ld_win h0' (by omega) rfl (by omega) (by omega))) (base (ld_win h0' (by omega) rfl (by omega) (by omega)))))))))) i ⟨by rw [hi.1, h0], hi.2.trans h1⟩
  case piece18 =>
    idx_vars x
    exact pool1 m c hX t _ _ _ _ (fun k => step (cov_lvl (by omega) fun q hq => ((add11 _ _ _ _).trans (step (base (ld_win h0' (by omega) rfl (by omega) (by omega))) (base (ld_win h0' (by omega) rfl (by omega) (by omega)))))) (cov_lvl (by omega) fun q hq => ((add11 _ _ _ _).trans (step (base (ld_win h0' (by omega) rfl (by omega) (by omega))) (base (ld_win h0' (by omega) rfl (by omega) (by omega))))))) i ⟨by rw [hi.1, h0], hi.2.trans h1⟩
  case piece19 =>
    idx_vars x
    exact pool0 m c hX t _ _ _ _ (fun k => step (base (cov_own (by omega) rfl (by omega) (by omega))) (base (ld_win h0' (by omega) rfl (by omega) (by omega)))) i ⟨by rw [hi.1, h0], hi.2.trans (h1.trans (by omega))⟩
  iterate 2
    case piece0 =>
      idx_vars x
      refine Eq.trans ?_ (gated m c t 128 (by omega) x0 7 1792 rfl x1 i ⟨hi.1.trans (congrArg (256 * t.val + ·) h0), hi.2.trans (h1.trans (by show 3840 + x1.val = 2048 + (1792 + x1.val); omega))⟩)
      unfold gate
      pointwise [k0_pay3, k0_pay64, k0_pay30, k0_pay1]
    case piece1 =>
      idx_vars x
      refine Eq.trans ?_ (gated m c t 0 (by omega) x0 7 1792 rfl x1 i ⟨hi.1.trans (congrArg (256 * t.val + ·) (h0.trans (Nat.zero_add _).symm)), hi.2.trans (h1.trans (by show 3840 + x1.val = 2048 + (1792 + x1.val); omega))⟩)
      unfold gate
      pointwise [k0_pay2, k0_pay64, k0_pay30, k0_pay1]
    case piece2 =>
      idx_vars x
      refine Eq.trans ?_ (gated m c t 128 (by omega) x0 6 1536 rfl x1 i ⟨hi.1.trans (congrArg (256 * t.val + ·) h0), hi.2.trans (h1.trans (by show 3584 + x1.val = 2048 + (1536 + x1.val); omega))⟩)
      unfold gate
      pointwise [k0_pay63, k0_pay30, k0_pay60, k0_pay61]
    case piece3 =>
      idx_vars x
      refine Eq.trans ?_ (gated m c t 0 (by omega) x0 6 1536 rfl x1 i ⟨hi.1.trans (congrArg (256 * t.val + ·) (h0.trans (Nat.zero_add _).symm)), hi.2.trans (h1.trans (by show 3584 + x1.val = 2048 + (1536 + x1.val); omega))⟩)
      unfold gate
      pointwise [k0_pay62, k0_pay30, k0_pay60, k0_pay61]
    case piece4 =>
      idx_vars x
      refine Eq.trans ?_ (gated m c t 128 (by omega) x0 5 1280 rfl x1 i ⟨hi.1.trans (congrArg (256 * t.val + ·) h0), hi.2.trans (h1.trans (by show 3328 + x1.val = 2048 + (1280 + x1.val); omega))⟩)
      unfold gate
      pointwise [k0_pay59, k0_pay55, k0_pay30, k0_pay56, k0_pay58]
    case piece5 =>
      idx_vars x
      refine Eq.trans ?_ (gated m c t 0 (by omega) x0 5 1280 rfl x1 i ⟨hi.1.trans (congrArg (256 * t.val + ·) (h0.trans (Nat.zero_add _).symm)), hi.2.trans (h1.trans (by show 3328 + x1.val = 2048 + (1280 + x1.val); omega))⟩)
      unfold gate
      pointwise [k0_pay57, k0_pay30, k0_pay55, k0_pay56]
    case piece6 =>
      idx_vars x
      refine Eq.trans ?_ (gated m c t 128 (by omega) x0 4 1024 rfl x1 i ⟨hi.1.trans (congrArg (256 * t.val + ·) h0), hi.2.trans (h1.trans (by show 3072 + x1.val = 2048 + (1024 + x1.val); omega))⟩)
      unfold gate
      pointwise [k0_pay54, k0_pay30, k0_pay51, k0_pay52]
    case piece7 =>
      idx_vars x
      refine Eq.trans ?_ (gated m c t 0 (by omega) x0 4 1024 rfl x1 i ⟨hi.1.trans (congrArg (256 * t.val + ·) (h0.trans (Nat.zero_add _).symm)), hi.2.trans (h1.trans (by show 3072 + x1.val = 2048 + (1024 + x1.val); omega))⟩)
      unfold gate
      pointwise [k0_pay53, k0_pay30, k0_pay51, k0_pay52]
    case piece8 =>
      idx_vars x
      refine Eq.trans ?_ (gated m c t 128 (by omega) x0 3 768 rfl x1 i ⟨hi.1.trans (congrArg (256 * t.val + ·) h0), hi.2.trans (h1.trans (by show 2816 + x1.val = 2048 + (768 + x1.val); omega))⟩)
      unfold gate
      pointwise [k0_pay50, k0_pay30, k0_pay47, k0_pay48]
    case piece9 =>
      idx_vars x
      refine Eq.trans ?_ (gated m c t 0 (by omega) x0 3 768 rfl x1 i ⟨hi.1.trans (congrArg (256 * t.val + ·) (h0.trans (Nat.zero_add _).symm)), hi.2.trans (h1.trans (by show 2816 + x1.val = 2048 + (768 + x1.val); omega))⟩)
      unfold gate
      pointwise [k0_pay49, k0_pay30, k0_pay47, k0_pay48]
    case piece10 =>
      idx_vars x
      refine Eq.trans ?_ (gated m c t 128 (by omega) x0 2 512 rfl x1 i ⟨hi.1.trans (congrArg (256 * t.val + ·) h0), hi.2.trans (h1.trans (by show 2560 + x1.val = 2048 + (512 + x1.val); omega))⟩)
      unfold gate
      pointwise [k0_pay46, k0_pay41, k0_pay30, k0_pay42]
    case piece11 =>
      idx_vars x
      refine Eq.trans ?_ (gated m c t 0 (by omega) x0 2 512 rfl x1 i ⟨hi.1.trans (congrArg (256 * t.val + ·) (h0.trans (Nat.zero_add _).symm)), hi.2.trans (h1.trans (by show 2560 + x1.val = 2048 + (512 + x1.val); omega))⟩)
      unfold gate
      pointwise [k0_pay45, k0_pay43, k0_pay30, k0_pay44, k0_pay41, k0_pay42]
    case piece12 =>
      idx_vars x
      refine Eq.trans ?_ (gated m c t 128 (by omega) x0 1 256 rfl x1 i ⟨hi.1.trans (congrArg (256 * t.val + ·) h0), hi.2.trans (h1.trans (by show 2304 + x1.val = 2048 + (256 + x1.val); omega))⟩)
      unfold gate
      pointwise [k0_pay40, k0_pay30, k0_pay37, k0_pay38]
    case piece13 =>
      idx_vars x
      refine Eq.trans ?_ (gated m c t 0 (by omega) x0 1 256 rfl x1 i ⟨hi.1.trans (congrArg (256 * t.val + ·) (h0.trans (Nat.zero_add _).symm)), hi.2.trans (h1.trans (by show 2304 + x1.val = 2048 + (256 + x1.val); omega))⟩)
      unfold gate
      pointwise [k0_pay39, k0_pay30, k0_pay37, k0_pay38]
    case piece14 =>
      idx_vars x
      refine Eq.trans ?_ (gated m c t 128 (by omega) x0 0 0 rfl x1 i ⟨hi.1.trans (congrArg (256 * t.val + ·) h0), hi.2.trans (h1.trans (by show 2048 + x1.val = 2048 + (0 + x1.val); omega))⟩)
      unfold gate
      pointwise [k0_pay36, k0_pay34, k0_pay35, k0_pay31, k0_pay32, k0_pay30]
    case piece15 =>
      idx_vars x
      refine Eq.trans ?_ (gated m c t 0 (by omega) x0 0 0 rfl x1 i ⟨hi.1.trans (congrArg (256 * t.val + ·) (h0.trans (Nat.zero_add _).symm)), hi.2.trans (h1.trans (by show 2048 + x1.val = 2048 + (0 + x1.val); omega))⟩)
      unfold gate
      pointwise [k0_pay33, k0_pay31, k0_pay32, k0_pay30]

end Out

section Final

variable (hX : ∀ b c' i, ∃ r : ℝ, ext (arg0 m c) b c' i = r)

include hX in
/-- The first result array after the run. -/
theorem final9 : (dats m 0 c).arrAt 9 (cfgs 0).N = res m c := by
  refine (dats m 0 c).arrAt_eq_of_covers 9 _ (by decide +kernel) fun t _ y => ?_
  rw [after0_9]
  refine out9 m c hX t y _ ⟨?_, ?_⟩
  · blk_simp [idx t]
    omega
  · blk_simp [idx t]

/-- What a grid point stores of the second result. -/
theorem out10 (t : Fin cfg0.N) (y : S1x15x2048.Idx) : (outsAt0 m c t.val t.isLt).2.1 y = iblk m c 0 t (ix2 ⟨241 + (y 1).val, by idx_bounds; omega⟩ ⟨(y 2).val, by idx_bounds; omega⟩) := by
  idx_vars y
  by_cases h0 : t.val % 16 = 0
  · rw [outsAt0_A m c t h0]
    frame_out
    pointwise [k0_pay25, k0_pay24]
  · rw [outsAt0_B m c t h0]
    frame_out
    pointwise [k0_pay25, k0_pay24]

/-- The second result's blocks are written at each sequence's last point. -/
theorem last : ∀ t : Fin cfg0.N, (cfg0.win 10).flush t = true → t.val % 16 = 15 := by decide +kernel

/-- The second result array after the run. -/
theorem final10 : (dats m 0 c).arrAt 10 (cfgs 0).N = Cert.MixRefIdeal.Read.val_main_v68 (F := Ideal) (arg0 m c) := by
  refine (dats m 0 c).arrAt_eq_of_covers 10 _ (by decide +kernel) fun t ht y => ?_
  rw [after0_10]
  refine (out10 m c t y).trans ?_
  have h15 := last t ht
  have hy0 : (y 0).val < 1 := (y 0).isLt
  have e0 : ((((cfg0.win 10).blk t).view.emb y) 0).val = t.val / 16 := by blk_simp [idx t]
  have e1 : ((((cfg0.win 10).blk t).view.emb y) 1).val = (y 1).val := by blk_simp [idx t]
  have e2 : ((((cfg0.win 10).blk t).view.emb y) 2).val = (y 2).val := by blk_simp [idx t]
  refine (blk0 m c t _ _).trans (Eq.trans ?_ (tail_at (arg0 m c) (((cfg0.win 10).blk t).view.emb y)).symm)
  refine congrArg₂ (fun a b => arg0 m c (ix2 a b)) (Fin.ext ?_) (Fin.ext e2.symm)
  show 256 * t.val + (241 + (y 1).val) = _ * 4096 + (4081 + _)
  rw [e0, e1]
  omega

/-- Every entry of the padded columns is a real number when the pooled columns are. -/
theorem finite [Cert.Pre_prompt_pool_finite.Facts]
    (h : Cert.Pre_prompt_pool_finite.fn (F := Ideal) (arg0 m c) (arg1 m c) (arg2 m c) (arg3 m c) (arg4 m c) (arg5 m c) (arg6 m c) = fun _ => 1#1)
    (b : Fin 4) (j : Fin 2048) (i : ℕ) : ∃ r : ℝ, ext (arg0 m c) b j i = r := by
  unfold ext
  split_ifs with h1 h2
  · exact ⟨0, rfl⟩
  · exact Cert.Finite.prompt _ _ _ _ _ _ _ h ⟨b.val * 4096 + (i - 15), by omega⟩ j
  · exact ⟨0, rfl⟩

end Final

end Cert.MixIdeal.Final
end
-- ==== Proof.MixSRead.lean ====
/- The sample mixer's reference, read at an index: the pooled columns, the gated columns, and the buffer's rows. -/
module

public import proofs.«01_k».proof.Proof.Gen.MixSRefIdeal.Read
public import proofs.«01_k».proof.Proof.Pool
public import proofs.«01_k».proof.Proof.MixRead
public import Idealize.ShloMosaic.Lib.Pipeline.ValueKit

@[expose] public section

set_option maxRecDepth 16384

noncomputable section

namespace Cert.MixSRead

open Cert.MixRead (lnv)
open Idealize.ShloMosaic Cert.MixSRefIdeal Cert.MixSRefIdeal.Read Cert.Pool

variable (x0 : FVec Ideal S16896x6144 .f32) (x1 : FVec Ideal S4x8x15x2048 .f32) (x2 : FVec Ideal S4x512x512 .f32) (x3 x4 x5 : FVec Ideal S2048 .f32)
  (x6 : FVec Ideal S8x128x128 .f32) (x7 : FVec Ideal S8x128 .f32)

/-- A sequence's pooled column: the fifteen rows kept from before, then the rows. -/
def ext (b : Fin 8) (c : Fin 2048) (i : ℕ) : EReal :=
  if h : i < 15 then x1 (ix4 0 b ⟨i, h⟩ c) else if h' : i < 79 then x0 (ix2 ⟨16384 + (b.val * 64 + (i - 15)), by omega⟩ ⟨c.val, by omega⟩) else 0

theorem ext_eq (b : Fin 8) (c : Fin 2048) (i : ℕ) : col (val_main_v5 (F := Ideal) x0 x1) b c i = ext x0 x1 b c i := by
  unfold col ext
  by_cases h' : i < 79
  · rw [dif_pos h']
    by_cases h : i < 15
    · rw [dif_pos h]
      pointwise [val_main_v5, val_main_v4, val_main_v3, h]
    · rw [dif_neg h, dif_pos h']
      pointwise [val_main_v5, val_main_v2, val_main_v1, val_main_v0, h]
  · rw [dif_neg h', dif_neg (by omega), dif_neg h']

/-- The running sum with its leading zero. -/
theorem v8_at (b : Fin 8) (q : Fin 80) (c : Fin 2048) :
    val_main_v8 (F := Ideal) x0 x1 (ix3 b q c) = ∑ i ∈ Finset.range q.val, ext x0 x1 b c i := by
  obtain ⟨_ | n, hn⟩ := q
  · rw [Finset.sum_range_zero]
    pointwise [val_main_v8, val_main_v6, val_main_cst]
  · have h : ¬n + 1 < 1 := by omega
    pointwise [val_main_v8, val_main_v7, h]
    have e0 : ∀ i, val_main_call0_call0_v0 (F := Ideal) i = (0 : EReal) := fun i => by
      pointwise [val_main_call0_call0_v0, val_main_call0_call0_cst]
    have e1 : (⟨n + 1 - 1, by omega⟩ : Fin 79) = ⟨n, by omega⟩ := rfl
    refine (cumsum_host (P := 78) (by omega) _ _ _ _ e0 b _ c).trans ?_
    exact Finset.sum_congr rfl fun i _ => ext_eq x0 x1 b c i

/-- The entry at a row. -/
theorem v5_at (b : Fin 8) (q : Fin 64) (c : Fin 2048) (h : 15 + q.val < 79) :
    val_main_v5 (F := Ideal) x0 x1 (ix3 b ⟨15 + q.val, h⟩ c) = x0 (ix2 ⟨16384 + (b.val * 64 + q.val), by omega⟩ ⟨c.val, by omega⟩) := by
  pointwise [val_main_v5, val_main_v2, val_main_v1, val_main_v0, h]

/-- The count of the rows available at a row. -/
theorem avail (q : Fin 64) : val_main_v12 (F := Ideal) (ix3 0 q 0) = IntOp.addi (BitVec.ofNat 32 q.val) 16#32 := by
  pointwise [val_main_v12, val_main_v11, val_main_v10, val_main_v9, val_main_c]

/-- The count of the entries up to a row, as the integers compute it. -/
theorem cnt_add (w n a : ℕ) (hw : w < 2 ^ 31) (hn : n + a < 2 ^ 31) :
    FloatOps.sitofp (F := Ideal) .f32 (IntOp.minsi (BitVec.ofNat 32 w) (IntOp.addi (BitVec.ofNat 32 n) (BitVec.ofNat 32 a))) = cnt w (n + a) := by
  have e : IntOp.addi (BitVec.ofNat 32 n) (BitVec.ofNat 32 a) = BitVec.ofNat 32 (n + a) := (BitVec.ofNat_add n a).symm
  rw [e, cnt_eq w (n + a) hw hn]

/-- The pooled columns of windows of 2, scaled. -/
theorem pool2 (hX : ∀ b c i, ∃ r : ℝ, ext x0 x1 b c i = r) (b : Fin 8) (q : Fin 64) (j : Fin 512) (s : EReal) :
    val_main_v25 (F := Ideal) x0 x1 x2 (ix3 b q j) * s = mix 1 (fun k => ext x0 x1 b ⟨0 + k.val, by omega⟩) (15 + q.val) (q.val + 16)
      (fun k => x0 (ix2 ⟨16384 + (b.val * 64 + q.val), by omega⟩ ⟨0 + k.val, by omega⟩)) (fun k => x2 (ix3 0 k j)) s := by
  rw [← mix_eq 1 _ (15 + q.val) (14 + q.val) _ _ _ _ (fun _ => hX _ _) (by omega) (by omega), ← cnt_add _ _ 16 (by omega) (by omega),
    show 15 + q.val + 1 = 16 + q.val by omega]
  pointwise [val_main_v25, val_main_v24, val_main_v23, val_main_v22, val_main_v21, val_main_v20, val_main_v19, val_main_v18, val_main_v17, val_main_v16, val_main_v15, val_main_v14, val_main_v13, avail, val_main_c_0]
  simp only [v8_at, v5_at]
  rfl

/-- The pooled columns of windows of 4, scaled. -/
theorem pool4 (hX : ∀ b c i, ∃ r : ℝ, ext x0 x1 b c i = r) (b : Fin 8) (q : Fin 64) (j : Fin 512) (s : EReal) :
    val_main_v38 (F := Ideal) x0 x1 x2 (ix3 b q j) * s = mix 2 (fun k => ext x0 x1 b ⟨512 + k.val, by omega⟩) (15 + q.val) (q.val + 16)
      (fun k => x0 (ix2 ⟨16384 + (b.val * 64 + q.val), by omega⟩ ⟨512 + k.val, by omega⟩)) (fun k => x2 (ix3 1 k j)) s := by
  rw [← mix_eq 2 _ (15 + q.val) (12 + q.val) _ _ _ _ (fun _ => hX _ _) (by omega) (by omega), ← cnt_add _ _ 16 (by omega) (by omega),
    show 15 + q.val + 1 = 16 + q.val by omega]
  pointwise [val_main_v38, val_main_v37, val_main_v36, val_main_v35, val_main_v34, val_main_v33, val_main_v32, val_main_v31, val_main_v30, val_main_v29, val_main_v28, val_main_v27, val_main_v26, avail, val_main_c_1]
  simp only [v8_at, v5_at]
  rfl

/-- The pooled columns of windows of 8, scaled. -/
theorem pool8 (hX : ∀ b c i, ∃ r : ℝ, ext x0 x1 b c i = r) (b : Fin 8) (q : Fin 64) (j : Fin 512) (s : EReal) :
    val_main_v51 (F := Ideal) x0 x1 x2 (ix3 b q j) * s = mix 3 (fun k => ext x0 x1 b ⟨1024 + k.val, by omega⟩) (15 + q.val) (q.val + 16)
      (fun k => x0 (ix2 ⟨16384 + (b.val * 64 + q.val), by omega⟩ ⟨1024 + k.val, by omega⟩)) (fun k => x2 (ix3 2 k j)) s := by
  rw [← mix_eq 3 _ (15 + q.val) (8 + q.val) _ _ _ _ (fun _ => hX _ _) (by omega) (by omega), ← cnt_add _ _ 16 (by omega) (by omega),
    show 15 + q.val + 1 = 16 + q.val by omega]
  pointwise [val_main_v51, val_main_v50, val_main_v49, val_main_v48, val_main_v47, val_main_v46, val_main_v45, val_main_v44, val_main_v43, val_main_v42, val_main_v41, val_main_v40, val_main_v39, avail, val_main_c_2]
  simp only [v8_at, v5_at]
  rfl

/-- The pooled columns of windows of 16, scaled. -/
theorem pool16 (hX : ∀ b c i, ∃ r : ℝ, ext x0 x1 b c i = r) (b : Fin 8) (q : Fin 64) (j : Fin 512) (s : EReal) :
    val_main_v64 (F := Ideal) x0 x1 x2 (ix3 b q j) * s = mix 4 (fun k => ext x0 x1 b ⟨1536 + k.val, by omega⟩) (15 + q.val) (q.val + 16)
      (fun k => x0 (ix2 ⟨16384 + (b.val * 64 + q.val), by omega⟩ ⟨1536 + k.val, by omega⟩)) (fun k => x2 (ix3 3 k j)) s := by
  rw [← mix_eq 4 _ (15 + q.val) (0 + q.val) _ _ _ _ (fun _ => hX _ _) (by omega) (by omega), ← cnt_add _ _ 16 (by omega) (by omega),
    show 15 + q.val + 1 = 16 + q.val by omega]
  pointwise [val_main_v64, val_main_v63, val_main_v62, val_main_v61, val_main_v60, val_main_v59, val_main_v58, val_main_v57, val_main_v56, val_main_v55, val_main_v54, val_main_v53, val_main_v52, avail, val_main_c_3]
  simp only [v8_at, v5_at]
  rfl

/-- The reference's layer norm at an index. -/
theorem norm_at (b : Fin 8) (q : Fin 64) (c : Fin 2048) : val_main_v93 (F := Ideal) x0 x4 x5 (ix3 b q c)
    = lnv (fun j => x0 (ix2 ⟨16384 + (b.val * 64 + q.val), by omega⟩ ⟨4096 + j.val, by omega⟩)) (fun j => x4 (ix1 j)) (fun j => x5 (ix1 j)) c := by
  unfold lnv
  pointwise [val_main_v93, val_main_v92, val_main_v91, val_main_v90, val_main_v89, val_main_v88, val_main_v87, val_main_v86, val_main_v85,
    val_main_v84, val_main_v83, val_main_v82, val_main_v81, val_main_v80, val_main_v79, val_main_v78, val_main_v77, val_main_v76, val_main_v75,
    val_main_v74, val_main_v73, val_main_v72, val_main_v71, val_main_cst_4, val_main_cst_5, val_main_cst_6, val_main_cst_7, val_main_cst_8,
    val_main_v1, val_main_v0]

/-- One gated entry: the gate times the chunk's mixed row and its bias. -/
def gate (u : EReal) (i : ℕ) (w n : Fin 64 → EReal) (b : EReal) : EReal :=
  u * (∑ j : Fin 64, Scalar.select (IntOp.cmpi .sge (BitVec.ofNat 32 i) (BitVec.ofNat 32 j.val)) (w j * n j) 0 + b)

/-- The reference's gated columns at an index. -/
theorem gate_at (b : Fin 8) (q : Fin 64) (c : Fin 2048) : val_main_v106 (F := Ideal) x0 x4 x5 x6 x7 (ix3 b q c)
    = gate (x0 (ix2 ⟨16384 + (b.val * 64 + q.val), by omega⟩ ⟨2048 + c.val, by omega⟩)) q.val
        (fun j => x6 (ix3 ⟨c.val / 256, by omega⟩ ⟨q.val, by omega⟩ ⟨j.val, by omega⟩))
        (fun j => val_main_v93 (F := Ideal) x0 x4 x5 (ix3 b j c))
        (x7 (ix2 ⟨c.val / 256, by omega⟩ ⟨q.val, by omega⟩)) := by
  unfold gate
  pointwise [val_main_v106, val_main_v105, val_main_v104, val_main_v103, val_main_v102, val_main_v101, val_main_v100, val_main_v99, val_main_v98, val_main_v97,
    val_main_v96, val_main_v95, val_main_v94, val_main_v70, val_main_v1, val_main_v0, val_main_call1_v5, val_main_call1_v6, val_main_call1_v0, val_main_call1_v1, val_main_call1_v2, val_main_call1_v3, val_main_call1_v4,
    val_main_call1_c, val_main_call1_cst]
  refine congrArg₂ _ rfl (congrArg₂ _ (Finset.sum_congr rfl fun j _ => ?_) rfl)
  exact congrArg₂ (fun c y => Scalar.select c y (0 : EReal)) (congrArg (fun a => IntOp.cmpi .sge a _) (BitVec.add_zero _)) (mul_comm _ _)

/-- The first result's pooled columns. -/
theorem lo_at (i : S512x4096.Idx) (h : (i 1).val < 2048) : val_main_v109 (F := Ideal) x0 x1 x2 x3 x4 x5 x6 x7 i
    = val_main_v65 (F := Ideal) x0 x1 x2 (ix3 ⟨(i 0).val / 64, by idx_bounds; omega⟩ ⟨(i 0).val % 64, by omega⟩ ⟨(i 1).val, h⟩) * x3 (ix1 ⟨(i 1).val, h⟩) := by
  idx_vars i
  have h' : i1.val < 2048 := h
  pointwise [val_main_v109, val_main_v108, val_main_v107, val_main_v68, val_main_v67, val_main_v66, h']

/-- The first result's gated columns. -/
theorem hi_at (i : S512x4096.Idx) (h : ¬(i 1).val < 2048) : val_main_v109 (F := Ideal) x0 x1 x2 x3 x4 x5 x6 x7 i
    = val_main_v106 (F := Ideal) x0 x4 x5 x6 x7 (ix3 ⟨(i 0).val / 64, by idx_bounds; omega⟩ ⟨(i 0).val % 64, by omega⟩ ⟨(i 1).val - 2048, by idx_bounds; omega⟩) := by
  idx_vars i
  have h' : ¬i1.val < 2048 := h
  pointwise [val_main_v109, val_main_v108, val_main_v107, h']

/-- The second result: the last fifteen rows of each sequence's pooled columns. -/
theorem tail_at (i : S8x15x2048.Idx) : val_main_v69 (F := Ideal) x0 x1 i
    = x0 (ix2 ⟨16384 + ((i 0).val * 64 + (49 + (i 1).val)), by idx_bounds; omega⟩ ⟨(i 2).val, by idx_bounds; omega⟩) := by
  idx_vars i
  have h : ¬64 + i1.val < 15 := by omega
  have e : 64 + i1.val - 15 = 49 + i1.val := by omega
  pointwise [val_main_v69, val_main_v5, val_main_v2, val_main_v1, val_main_v0, h]
  simp only [e]

/-- A pooled column of the first result, by sequence and row. -/
theorem lo_row (b : Fin 8) (q : Fin 64) (j : Fin 2048) :
    val_main_v109 (F := Ideal) x0 x1 x2 x3 x4 x5 x6 x7 (ix2 ⟨b.val * 64 + q.val, by omega⟩ ⟨j.val, by omega⟩)
      = val_main_v65 (F := Ideal) x0 x1 x2 (ix3 b q j) * x3 (ix1 j) := by
  refine (lo_at x0 x1 x2 x3 x4 x5 x6 x7 _ j.isLt).trans ?_
  have e0 : (b.val * 64 + q.val) / 64 = b.val := by omega
  have e1 : (b.val * 64 + q.val) % 64 = q.val := by omega
  exact congrArg (fun i => val_main_v65 (F := Ideal) x0 x1 x2 i * x3 (ix1 j)) (congrArg₂ (fun b q => ix3 b q j) (Fin.ext e0) (Fin.ext e1))

/-- A gated column of the first result, by sequence and row. -/
theorem hi_row (b : Fin 8) (q : Fin 64) (j : Fin 2048) :
    val_main_v109 (F := Ideal) x0 x1 x2 x3 x4 x5 x6 x7 (ix2 ⟨b.val * 64 + q.val, by omega⟩ ⟨2048 + j.val, by omega⟩)
      = val_main_v106 (F := Ideal) x0 x4 x5 x6 x7 (ix3 b q j) := by
  refine (hi_at x0 x1 x2 x3 x4 x5 x6 x7 _ (by show ¬2048 + j.val < 2048; omega)).trans ?_
  have e0 : (b.val * 64 + q.val) / 64 = b.val := by omega
  have e1 : (b.val * 64 + q.val) % 64 = q.val := by omega
  have e2 : 2048 + j.val - 2048 = j.val := by omega
  refine congrArg (val_main_v106 (F := Ideal) x0 x4 x5 x6 x7) ?_
  exact (congrArg₂ (fun b q => ix3 b q _) (Fin.ext e0) (Fin.ext e1)).trans (congrArg (fun j => ix3 b q j) (Fin.ext e2))

/-- The columns of windows of 2. -/
theorem grp0 (hX : ∀ b c i, ∃ r : ℝ, ext x0 x1 b c i = r) (b : Fin 8) (q : Fin 64) (j : Fin 512) :
    val_main_v109 (F := Ideal) x0 x1 x2 x3 x4 x5 x6 x7 (ix2 ⟨b.val * 64 + q.val, by omega⟩ ⟨0 + j.val, by omega⟩)
      = mix 1 (fun k => ext x0 x1 b ⟨0 + k.val, by omega⟩) (15 + q.val) (q.val + 16)
          (fun k => x0 (ix2 ⟨16384 + (b.val * 64 + q.val), by omega⟩ ⟨0 + k.val, by omega⟩)) (fun k => x2 (ix3 0 k j)) (x3 (ix1 ⟨0 + j.val, by omega⟩)) := by
  refine (lo_row x0 x1 x2 x3 x4 x5 x6 x7 b q ⟨0 + j.val, by omega⟩).trans ?_
  rw [← pool2 x0 x1 x2 hX]
  have h : 0 + j.val < 512 := by omega
  pointwise [val_main_v65, h]

/-- The columns of windows of 4. -/
theorem grp1 (hX : ∀ b c i, ∃ r : ℝ, ext x0 x1 b c i = r) (b : Fin 8) (q : Fin 64) (j : Fin 512) :
    val_main_v109 (F := Ideal) x0 x1 x2 x3 x4 x5 x6 x7 (ix2 ⟨b.val * 64 + q.val, by omega⟩ ⟨512 + j.val, by omega⟩)
      = mix 2 (fun k => ext x0 x1 b ⟨512 + k.val, by omega⟩) (15 + q.val) (q.val + 16)
          (fun k => x0 (ix2 ⟨16384 + (b.val * 64 + q.val), by omega⟩ ⟨512 + k.val, by omega⟩)) (fun k => x2 (ix3 1 k j)) (x3 (ix1 ⟨512 + j.val, by omega⟩)) := by
  refine (lo_row x0 x1 x2 x3 x4 x5 x6 x7 b q ⟨512 + j.val, by omega⟩).trans ?_
  rw [← pool4 x0 x1 x2 hX]
  have h : ¬512 + j.val < 512 := by omega
  have h' : 512 + j.val - 512 < 512 := by omega
  have e : (⟨512 + j.val - 512, h'⟩ : Fin 512) = j := Fin.ext (by show 512 + j.val - 512 = j.val; omega)
  pointwise [val_main_v65, h, h']

/-- The columns of windows of 8. -/
theorem grp2 (hX : ∀ b c i, ∃ r : ℝ, ext x0 x1 b c i = r) (b : Fin 8) (q : Fin 64) (j : Fin 512) :
    val_main_v109 (F := Ideal) x0 x1 x2 x3 x4 x5 x6 x7 (ix2 ⟨b.val * 64 + q.val, by omega⟩ ⟨1024 + j.val, by omega⟩)
      = mix 3 (fun k => ext x0 x1 b ⟨1024 + k.val, by omega⟩) (15 + q.val) (q.val + 16)
          (fun k => x0 (ix2 ⟨16384 + (b.val * 64 + q.val), by omega⟩ ⟨1024 + k.val, by omega⟩)) (fun k => x2 (ix3 2 k j)) (x3 (ix1 ⟨1024 + j.val, by omega⟩)) := by
  refine (lo_row x0 x1 x2 x3 x4 x5 x6 x7 b q ⟨1024 + j.val, by omega⟩).trans ?_
  rw [← pool8 x0 x1 x2 hX]
  have h : ¬1024 + j.val < 512 := by omega
  have h' : ¬1024 + j.val - 512 < 512 := by omega
  have h'' : 1024 + j.val - 512 - 512 < 512 := by omega
  have e : (⟨1024 + j.val - 512 - 512, h''⟩ : Fin 512) = j := Fin.ext (by show 1024 + j.val - 512 - 512 = j.val; omega)
  pointwise [val_main_v65, h, h', h'']
  rw [e]

/-- The columns of windows of 16. -/
theorem grp3 (hX : ∀ b c i, ∃ r : ℝ, ext x0 x1 b c i = r) (b : Fin 8) (q : Fin 64) (j : Fin 512) :
    val_main_v109 (F := Ideal) x0 x1 x2 x3 x4 x5 x6 x7 (ix2 ⟨b.val * 64 + q.val, by omega⟩ ⟨1536 + j.val, by omega⟩)
      = mix 4 (fun k => ext x0 x1 b ⟨1536 + k.val, by omega⟩) (15 + q.val) (q.val + 16)
          (fun k => x0 (ix2 ⟨16384 + (b.val * 64 + q.val), by omega⟩ ⟨1536 + k.val, by omega⟩)) (fun k => x2 (ix3 3 k j)) (x3 (ix1 ⟨1536 + j.val, by omega⟩)) := by
  refine (lo_row x0 x1 x2 x3 x4 x5 x6 x7 b q ⟨1536 + j.val, by omega⟩).trans ?_
  rw [← pool16 x0 x1 x2 hX]
  have h : ¬1536 + j.val < 512 := by omega
  have h' : ¬1536 + j.val - 512 < 512 := by omega
  have h'' : ¬1536 + j.val - 512 - 512 < 512 := by omega
  have h3 : 1536 + j.val - 512 - 512 - 512 < 512 := by omega
  have e : (⟨1536 + j.val - 512 - 512 - 512, h3⟩ : Fin 512) = j := Fin.ext (by show 1536 + j.val - 512 - 512 - 512 = j.val; omega)
  pointwise [val_main_v65, h, h', h'', h3]
  rw [e]

end Cert.MixSRead
end
-- ==== Proof.MixSPoint.lean ====
module

public import proofs.«01_k».proof.Proof.Gen.MixSIdeal.Value
public import proofs.«01_k».proof.Proof.Gen.MixSRefIdeal.Run
public import proofs.«01_k».proof.Proof.Gen.MixSRefIdeal.Read
public import Idealize.ShloMosaic.Lib.Pipeline.ValueKit
public import proofs.«01_k».proof.Proof.ReadAt
public import proofs.«01_k».proof.Proof.MixSRead

@[expose] public section

set_option maxRecDepth 16384

noncomputable section

namespace Cert.MixSIdeal.Final

open Cert.MixSIdeal Cert.MixSIdeal.Gen Idealize.ShloMosaic Idealize.ShloMosaic.TcCoe Idealize.SL.Sem
open Idealize.ShloMosaic.Pipeline (Dat)

open Cert.ReadAt

variable (m : (ℓ : Loc nD τ sig) → Buf (Elt Ideal) ℓ) (c : Dev nD)

open Cert.Pool Cert.MixSRead
open Cert.MixRead (lnv)

/-- The program's arguments and its first result. -/
abbrev arg0 : FVec Ideal Cert.MixSRefIdeal.S16896x6144 .f32 := m ((c : Thread nD τ).loc main_arg0)
abbrev arg1 : FVec Ideal Cert.MixSRefIdeal.S4x8x15x2048 .f32 := m ((c : Thread nD τ).loc main_arg1)
abbrev arg2 : FVec Ideal Cert.MixSRefIdeal.S4x512x512 .f32 := m ((c : Thread nD τ).loc main_arg2)
abbrev arg3 : FVec Ideal Cert.MixSRefIdeal.S2048 .f32 := m ((c : Thread nD τ).loc main_arg3)
abbrev arg4 : FVec Ideal Cert.MixSRefIdeal.S2048 .f32 := m ((c : Thread nD τ).loc main_arg4)
abbrev arg5 : FVec Ideal Cert.MixSRefIdeal.S2048 .f32 := m ((c : Thread nD τ).loc main_arg5)
abbrev arg6 : FVec Ideal Cert.MixSRefIdeal.S8x128x128 .f32 := m ((c : Thread nD τ).loc main_arg6)
abbrev arg7 : FVec Ideal Cert.MixSRefIdeal.S8x128 .f32 := m ((c : Thread nD τ).loc main_arg7)
abbrev res : FVec Ideal Cert.MixSRefIdeal.S512x4096 .f32 :=
  Cert.MixSRefIdeal.Read.val_main_v109 (F := Ideal) (arg0 m c) (arg1 m c) (arg2 m c) (arg3 m c) (arg4 m c) (arg5 m c) (arg6 m c) (arg7 m c)

/-- Every window's block index at every grid point. -/
theorem idx : ∀ t : Fin cfg0.N, win0_0.index t = ![256 + t.val, 0] ∧ win0_1.index t = ![256 + t.val, 1] ∧ win0_2.index t = ![256 + t.val, 2] ∧ win0_3.index t = ![0, t.val, 0, 0]
    ∧ win0_4.index t = ![0, 0, 0] ∧ win0_5.index t = ![0, 0] ∧ win0_6.index t = ![0, 0] ∧ win0_7.index t = ![0, 0] ∧ win0_8.index t = ![0, 0, 0] ∧ win0_9.index t = ![0, 0]
    ∧ win0_10.index t = ![t.val, 0] ∧ win0_11.index t = ![t.val, 0, 0] ∧ win0_12.index t = ![t.val, 0, 0] :=
  (by decide +kernel : ∀ t : Fin grid0.N, _)

/-- The number of grid points. -/
theorem lt8 (t : Fin cfg0.N) : t.val < 8 := t.isLt

/-- The sequence of a grid point. -/
abbrev seq (t : Fin cfg0.N) : Fin 8 := ⟨t.val, lt8 t⟩

/-- The column the windows of a grid point slide over, by the row of the window rows' buffer. -/
def win (t : Fin cfg0.N) (j : Fin 2048) (n : ℕ) : EReal := ext (arg0 m c) (arg1 m c) (seq t) j (n - 17)

/-- The point's own rows, and the rows kept from before. -/
theorem blk0 (t : Fin cfg0.N) (r : Fin 64) (j : Fin 2048) :
    iblk m c 0 t (ix2 r j) = arg0 m c (ix2 ⟨16384 + (t.val * 64 + r.val), by have := lt8 t; omega⟩ ⟨j.val, by omega⟩) := by
  have e : 64 * (256 + t.val) + r.val = 16384 + (t.val * 64 + r.val) := by omega
  blk_point [iblk, V, idx t, e]
theorem blk3 (t : Fin cfg0.N) (r : Fin 15) (j : Fin 2048) : iblk m c 3 t (ix4 0 0 r j) = arg1 m c (ix4 0 (seq t) r j) := by
  blk_point [iblk, V, idx t]

/-- The window rows' buffer at the rows of the point's own block. -/
theorem own (t : Fin cfg0.N) (r : Fin 64) (j : Fin 2048) (n : ℕ) (hn : 32 + r.val = n) : k0_pay5 (iblk m c 0 t) (ix2 r j) = win m c t j n := by
  refine Eq.trans (by pointwise [k0_pay5]) ((blk0 m c t r j).trans ?_)
  unfold win ext
  rw [dif_neg (by omega), dif_pos (by omega)]
  exact congrArg (fun a => arg0 m c (ix2 a ⟨j.val, by omega⟩)) (Fin.ext (by show 16384 + (t.val * 64 + r.val) = 16384 + (t.val * 64 + (n - 17 - 15)); omega))

/-- The window rows' buffer at the rows kept from before. -/
theorem past (t : Fin cfg0.N) (r : Fin 15) (j : Fin 2048) (n : ℕ) (hn : 17 + r.val = n) : k0_pay4 (iblk m c 3 t) (ix2 r j) = win m c t j n := by
  refine Eq.trans (by pointwise [k0_pay4]) ((blk3 m c t r j).trans ?_)
  unfold win ext
  rw [dif_pos (by omega)]
  exact congrArg (fun a => arg1 m c (ix4 0 (seq t) a j)) (Fin.ext (by show r.val = n - 17; omega))

section Loads

variable {m c}
variable {L : List (View.Piece (Elt Ideal) S96x2048 .f32)} {p0 p1 k0 k1 : ℕ}
variable {v : View sig .tc .vmem S96x2048 .f32} {inb : ∀ a, (![32, 0] : Fin 2 → ℕ) a + (![64, 2048] : Fin 2 → ℕ) a ≤ S96x2048.size a}
variable {inb0 : ∀ a, (![17, 0] : Fin 2 → ℕ) a + (![15, 2048] : Fin 2 → ℕ) a ≤ S96x2048.size a}
variable {inb' : ∀ a, (![p0, p1] : Fin 2 → ℕ) a + (![k0, k1] : Fin 2 → ℕ) a ≤ S96x2048.size a}
variable {t : Fin cfg0.N} {r : Fin k0} {j : Fin k1} {J : Fin 2048} {n : ℕ}

/-- A load of the window rows' buffer, at any row the windows reach. -/
theorem cov_win (h : p0 + r.val = n) (hj : p1 + j.val = J.val) (hn : 17 ≤ n) (hn' : n < 96) :
    v.readCov (⟨Rect.unit (s := S96x2048) ![32, 0] ![64, 2048] inb, k0_pay5 (iblk m c 0 t)⟩ :: ⟨Rect.unit (s := S96x2048) ![17, 0] ![15, 2048] inb0, k0_pay4 (iblk m c 3 t)⟩ :: L)
      (Rect.unit (s := S96x2048) ![p0, p1] ![k0, k1] inb').toLoadRect (ix2 r j)
      = win m c t J n := by
  by_cases h32 : 32 ≤ n
  · refine (readCov_hit v inb _ _ inb' (ix2 r j) ?_).trans ?_
    · show (32 ≤ p0 + r.val ∧ p0 + r.val - 32 < 64) ∧ (0 ≤ p1 + j.val ∧ p1 + j.val - 0 < 2048)
      omega
    · refine (own m c t _ _ n (by show 32 + (p0 + r.val - 32) = n; omega)).trans ?_
      exact congrArg (fun J => win m c t J n) (Fin.ext hj)
  · refine (readCov_miss v inb _ _ inb' (ix2 r j) (Or.inl (by show p0 + r.val < 32; omega))).trans ?_
    refine (readCov_hit v inb0 _ _ inb' (ix2 r j) ?_).trans ?_
    · show (17 ≤ p0 + r.val ∧ p0 + r.val - 17 < 15) ∧ (0 ≤ p1 + j.val ∧ p1 + j.val - 0 < 2048)
      omega
    · refine (past m c t _ _ n (by show 17 + (p0 + r.val - 17) = n; omega)).trans ?_
      exact congrArg (fun J => win m c t J n) (Fin.ext hj)

end Loads

section Levels

variable {P : List (View.Piece (Elt Ideal) S96x512 .f32)} {p0 k0 : ℕ} {v : View sig .tc .vmem S96x512 .f32}
variable {inb : ∀ a, (![16, 0] : Fin 2 → ℕ) a + (![80, 512] : Fin 2 → ℕ) a ≤ S96x512.size a}
variable {inb' : ∀ a, (![p0, 0] : Fin 2 → ℕ) a + (![k0, 512] : Fin 2 → ℕ) a ≤ S96x512.size a}
variable {w : (Rect.unit (s := S96x512) ![16, 0] ![80, 512] inb).shape.Idx → Elt Ideal .f32} {r : Fin k0} {j : Fin 512} {x : EReal}

/-- A load of a level's buffer reads the last level stored there. -/
theorem cov_lvl (h16 : 16 ≤ p0 + r.val ∧ p0 + r.val < 96) (hw : ∀ q : Fin 80, 16 + q.val = p0 + r.val → w (ix2 q j) = x) :
    v.readCov (⟨Rect.unit (s := S96x512) ![16, 0] ![80, 512] inb, w⟩ :: P) (Rect.unit (s := S96x512) ![p0, 0] ![k0, 512] inb').toLoadRect (ix2 r j) = x := by
  refine (readCov_hit v inb w P inb' (ix2 r j) ?_).trans ?_
  · show (16 ≤ p0 + r.val ∧ p0 + r.val - 16 < 80) ∧ (0 ≤ 0 + j.val ∧ 0 + j.val - 0 < 512)
    omega
  · refine Eq.trans ?_ (hw ⟨p0 + r.val - 16, by omega⟩ (by show 16 + (p0 + r.val - 16) = p0 + r.val; omega))
    exact congrArg (fun j => w (ix2 _ j)) (Fin.ext (by show 0 + j.val - 0 = j.val; omega))

end Levels

section Adds

variable (A B : Vec Ideal S80x512 .f32) (r : Fin 80) (j : Fin 512)

/-- A stored level is the sum of its two loads. -/
theorem add9 : k0_pay9 A B (ix2 r j) = A (ix2 r j) + B (ix2 r j) := by pointwise [k0_pay9]
/-- A stored level is the sum of its two loads. -/
theorem add11 : k0_pay11 A B (ix2 r j) = A (ix2 r j) + B (ix2 r j) := by pointwise [k0_pay11]
/-- A stored level is the sum of its two loads. -/
theorem add12 : k0_pay12 A B (ix2 r j) = A (ix2 r j) + B (ix2 r j) := by pointwise [k0_pay12]
/-- A stored level is the sum of its two loads. -/
theorem add15 : k0_pay15 A B (ix2 r j) = A (ix2 r j) + B (ix2 r j) := by pointwise [k0_pay15]
/-- A stored level is the sum of its two loads. -/
theorem add16 : k0_pay16 A B (ix2 r j) = A (ix2 r j) + B (ix2 r j) := by pointwise [k0_pay16]
/-- A stored level is the sum of its two loads. -/
theorem add17 : k0_pay17 A B (ix2 r j) = A (ix2 r j) + B (ix2 r j) := by pointwise [k0_pay17]

end Adds

/-- The second grid coordinate is zero. -/
theorem coord1 : ∀ t : Fin cfg0.N, (grid0.coords t 1).val = 0 := (by decide +kernel : ∀ t : Fin grid0.N, _)

/-- The count of the rows available, as the point computes it. -/
theorem count_at (t : Fin cfg0.N) (p w : ℕ) (hp : p < 64) (hw : w < 2 ^ 31) :
    FloatOps.sitofp (F := Ideal) .f32 (IntOp.minsi (BitVec.ofNat 32 w)
      (IntOp.addi (IntOp.addi (IntOp.addi (Scalar.muli (BitVec.ofNat 32 (grid0.coords t 1).val) 64#32) (BitVec.ofNat 32 p)) 1#32) 15#32)) = cnt w (p + 16) := by
  have e : IntOp.addi (IntOp.addi (IntOp.addi (Scalar.muli (BitVec.ofNat 32 0) 64#32) (BitVec.ofNat 32 p)) 1#32) 15#32 = BitVec.ofNat 32 (p + 16) := by
    show (BitVec.ofNat 32 0 * BitVec.ofNat 32 64 + BitVec.ofNat 32 p + BitVec.ofNat 32 1) + BitVec.ofNat 32 15 = _
    rw [← BitVec.ofNat_mul, ← BitVec.ofNat_add, ← BitVec.ofNat_add, ← BitVec.ofNat_add]
    congr 1; omega
  rw [coord1 t, e, cnt_eq w _ hw (by omega)]

/-- A window of the point's rows is the window of the column. -/
theorem win_tree (t : Fin cfg0.N) (j : Fin 2048) (p : Fin 64) (k : ℕ) (hk : 2 ^ k ≤ 16) :
    tree (win m c t j) k (32 + p.val) = tree (ext (arg0 m c) (arg1 m c) (seq t) j) k (15 + p.val) := by
  refine tree_shift (lo := 17) (hi := 95) (d := 0) (e := 17) (by omega) ?_ k _ _ (by omega) (by omega) ?_
  · intro r r' h1 h2 h3
    show ext _ _ _ _ (r - 17) = _
    have e : r - 17 = r' := by omega
    rw [e]
  · omega

/-- The matrices and the scales of the pooled columns. -/
theorem blk4 (t : Fin cfg0.N) (g : Fin 4) (k j : Fin 512) : iblk m c 4 t (ix3 g k j) = arg2 m c (ix3 g k j) := by
  blk_point [iblk, V, idx t]
theorem blk5 (t : Fin cfg0.N) (j : Fin 2048) : iblk m c 5 t (ix2 0 j) = arg3 m c (ix1 j) := by
  blk_point [iblk, V, idx t]

/-- The array index under a row of the point's block. -/
theorem row_eq (t : Fin cfg0.N) (p : Fin 64) (j : ℕ) (i : Cert.MixSRefIdeal.S512x4096.Idx) (hj : j < 4096) (hi : (i 0).val = 64 * t.val + p.val ∧ (i 1).val = j) :
    i = ix2 ⟨(seq t).val * 64 + p.val, by have := lt8 t; omega⟩ ⟨j, hj⟩ := by
  refine funext (Fin.forall_fin_two.mpr ⟨Fin.ext (hi.1.trans ?_), Fin.ext hi.2⟩)
  show 64 * t.val + p.val = t.val * 64 + p.val
  omega

/-- One pooled entry from the point's sums, counts, rows, matrix and scale. -/
theorem entry (t : Fin cfg0.N) (p : Fin 64) (k : ℕ) (hk : 2 ^ k ≤ 16) (o : ℕ) (ho : o + 512 ≤ 2048) (g : Fin 4) (q : Fin 512) :
    (∑ x : Fin 512, (tree (win m c t ⟨o + x.val, by omega⟩) k (32 + p.val)
      * Ideal.div 1 (FloatOps.sitofp (F := Ideal) .f32 (IntOp.minsi (BitVec.ofNat 32 (2 ^ k))
        (IntOp.addi (IntOp.addi (IntOp.addi (Scalar.muli (BitVec.ofNat 32 (grid0.coords t 1).val) 64#32) (BitVec.ofNat 32 p.val)) 1#32) 15#32)))
      - iblk m c 0 t (ix2 p ⟨o + x.val, by omega⟩)) * iblk m c 4 t (ix3 g x q)) * iblk m c 5 t (ix2 0 ⟨o + q.val, by omega⟩)
      = mix k (fun x => ext (arg0 m c) (arg1 m c) (seq t) ⟨o + x.val, by omega⟩) (15 + p.val) (p.val + 16)
          (fun x => arg0 m c (ix2 ⟨16384 + ((seq t).val * 64 + p.val), by have := lt8 t; omega⟩ ⟨o + x.val, by omega⟩)) (fun x => arg2 m c (ix3 g x q))
          (arg3 m c (ix1 ⟨o + q.val, by omega⟩)) := by
  unfold mix
  rw [blk5, count_at t p.val _ p.isLt (by omega)]
  refine congrArg (· * _) (Finset.sum_congr rfl fun x _ => ?_)
  rw [win_tree m c t _ p k hk, blk4, blk0 m c t p _]

section Pools

variable (hX : ∀ b c' i, ∃ r : ℝ, ext (arg0 m c) (arg1 m c) b c' i = r)
include hX

/-- The entries of the windows of 2 that the point stores. -/
theorem pool0 (t : Fin cfg0.N) (A B : Vec Ideal S64x512 .f32) (p : Fin 64) (q : Fin 512)
    (h : ∀ k : Fin 512, A (ix2 p k) + B (ix2 p k) = tree (win m c t ⟨0 + k.val, by omega⟩) 1 (32 + p.val))
    (i : Cert.MixSRefIdeal.S512x4096.Idx) (hi : (i 0).val = 64 * t.val + p.val ∧ (i 1).val = 0 + q.val) :
    k0_pay8 (k0_pay7 (grid0.coords t) (iblk m c 0 t) A B (View.ld (iblk m c 4 t) (Rect.unit (s := S4x512x512) ![0, 0, 0] ![1, 512, 512] inb_S4x512x512_S1x512x512_0_0_0)) (View.ld (iblk m c 5 t) (Rect.unit (s := S1x2048) ![0, 0] ![1, 512] inb_S1x2048_S1x512_0_0))) (ix2 p q)
      = res m c i := by
  rw [row_eq t p _ i (by omega) hi]
  refine Eq.trans ?_ (grp0 _ _ _ _ _ _ _ _ hX (seq t) p q).symm
  refine Eq.trans ?_ (entry m c t p 1 (by omega) 0 (by omega) 0 q)
  pointwise [k0_pay8, k0_pay7, k0_pay6, h]
  rfl

/-- The entries of the windows of 4 that the point stores. -/
theorem pool1 (t : Fin cfg0.N) (A B : Vec Ideal S64x512 .f32) (p : Fin 64) (q : Fin 512)
    (h : ∀ k : Fin 512, A (ix2 p k) + B (ix2 p k) = tree (win m c t ⟨512 + k.val, by omega⟩) 2 (32 + p.val))
    (i : Cert.MixSRefIdeal.S512x4096.Idx) (hi : (i 0).val = 64 * t.val + p.val ∧ (i 1).val = 512 + q.val) :
    k0_pay10 (iblk m c 0 t) (k0_pay6 (grid0.coords t)) A B (View.ld (iblk m c 4 t) (Rect.unit (s := S4x512x512) ![1, 0, 0] ![1, 512, 512] inb_S4x512x512_S1x512x512_1_0_0)) (View.ld (iblk m c 5 t) (Rect.unit (s := S1x2048) ![0, 512] ![1, 512] inb_S1x2048_S1x512_0_512)) (ix2 p q)
      = res m c i := by
  rw [row_eq t p _ i (by omega) hi]
  refine Eq.trans ?_ (grp1 _ _ _ _ _ _ _ _ hX (seq t) p q).symm
  refine Eq.trans ?_ (entry m c t p 2 (by omega) 512 (by omega) 1 q)
  pointwise [k0_pay10, k0_pay6, h]
  rfl

/-- The entries of the windows of 8 that the point stores. -/
theorem pool2 (t : Fin cfg0.N) (A B : Vec Ideal S64x512 .f32) (p : Fin 64) (q : Fin 512)
    (h : ∀ k : Fin 512, A (ix2 p k) + B (ix2 p k) = tree (win m c t ⟨1024 + k.val, by omega⟩) 3 (32 + p.val))
    (i : Cert.MixSRefIdeal.S512x4096.Idx) (hi : (i 0).val = 64 * t.val + p.val ∧ (i 1).val = 1024 + q.val) :
    k0_pay14 (k0_pay13 (iblk m c 0 t) (k0_pay6 (grid0.coords t)) A B (View.ld (iblk m c 4 t) (Rect.unit (s := S4x512x512) ![2, 0, 0] ![1, 512, 512] inb_S4x512x512_S1x512x512_2_0_0))) (View.ld (iblk m c 5 t) (Rect.unit (s := S1x2048) ![0, 1024] ![1, 512] inb_S1x2048_S1x512_0_1024)) (ix2 p q)
      = res m c i := by
  rw [row_eq t p _ i (by omega) hi]
  refine Eq.trans ?_ (grp2 _ _ _ _ _ _ _ _ hX (seq t) p q).symm
  refine Eq.trans ?_ (entry m c t p 3 (by omega) 1024 (by omega) 2 q)
  pointwise [k0_pay14, k0_pay13, k0_pay6, h]
  rfl

/-- The entries of the windows of 16 that the point stores. -/
theorem pool3 (t : Fin cfg0.N) (A B : Vec Ideal S64x512 .f32) (p : Fin 64) (q : Fin 512)
    (h : ∀ k : Fin 512, A (ix2 p k) + B (ix2 p k) = tree (win m c t ⟨1536 + k.val, by omega⟩) 4 (32 + p.val))
    (i : Cert.MixSRefIdeal.S512x4096.Idx) (hi : (i 0).val = 64 * t.val + p.val ∧ (i 1).val = 1536 + q.val) :
    k0_pay21 (k0_pay18 A B) (k0_pay19 (iblk m c 0 t)) (k0_pay20 (k0_pay6 (grid0.coords t))) (View.ld (iblk m c 4 t) (Rect.unit (s := S4x512x512) ![3, 0, 0] ![1, 512, 512] inb_S4x512x512_S1x512x512_3_0_0)) (View.ld (iblk m c 5 t) (Rect.unit (s := S1x2048) ![0, 1536] ![1, 512] inb_S1x2048_S1x512_0_1536)) (ix2 p q)
      = res m c i := by
  rw [row_eq t p _ i (by omega) hi]
  refine Eq.trans ?_ (grp3 _ _ _ _ _ _ _ _ hX (seq t) p q).symm
  refine Eq.trans ?_ (entry m c t p 4 (by omega) 1536 (by omega) 3 q)
  pointwise [k0_pay21, k0_pay18, k0_pay19, k0_pay20, k0_pay6, h]
  rfl

end Pools

/-- The gates, the gate values' rows, the norm's weights, the mixing matrices and their biases. -/
theorem blk1 (t : Fin cfg0.N) (p : Fin 64) (j : Fin 2048) :
    iblk m c 1 t (ix2 p j) = arg0 m c (ix2 ⟨16384 + ((seq t).val * 64 + p.val), by have := lt8 t; omega⟩ ⟨2048 + j.val, by omega⟩) := by
  have e : 64 * (256 + t.val) + p.val = 16384 + (t.val * 64 + p.val) := by omega
  blk_point [iblk, V, idx t, e]
theorem blk2 (t : Fin cfg0.N) (p : Fin 64) (j : Fin 2048) :
    iblk m c 2 t (ix2 p j) = arg0 m c (ix2 ⟨16384 + ((seq t).val * 64 + p.val), by have := lt8 t; omega⟩ ⟨4096 + j.val, by omega⟩) := by
  have e : 64 * (256 + t.val) + p.val = 16384 + (t.val * 64 + p.val) := by omega
  blk_point [iblk, V, idx t, e]
theorem blk6 (t : Fin cfg0.N) (j : Fin 2048) : iblk m c 6 t (ix2 0 j) = arg4 m c (ix1 j) := by
  blk_point [iblk, V, idx t]
theorem blk7 (t : Fin cfg0.N) (j : Fin 2048) : iblk m c 7 t (ix2 0 j) = arg5 m c (ix1 j) := by
  blk_point [iblk, V, idx t]
theorem blk8 (t : Fin cfg0.N) (h : Fin 8) (i j : Fin 128) : iblk m c 8 t (ix3 h i j) = arg6 m c (ix3 h i j) := by
  blk_point [iblk, V, idx t]
theorem blk9 (t : Fin cfg0.N) (h : Fin 8) (i : Fin 128) : iblk m c 9 t (ix2 i h) = arg7 m c (ix2 h i) := by
  blk_point [iblk, V, idx t]

/-- The point's normalized rows are the reference's. -/
theorem nrm (t : Fin cfg0.N) (p : Fin 64) (j : Fin 2048) :
    k0_pay27 (k0_pay25 (iblk m c 2 t)) (k0_pay26 (iblk m c 2 t)) (iblk m c 6 t) (iblk m c 7 t) (ix2 p j)
      = Cert.MixSRefIdeal.Read.val_main_v93 (F := Ideal) (arg0 m c) (arg4 m c) (arg5 m c) (ix3 (seq t) p j) := by
  rw [norm_at]
  unfold lnv
  pointwise [k0_pay27, k0_pay25, k0_pay26]
  simp only [blk2 m c t, blk6 m c t, blk7 m c t]

/-- One gated entry from the point's gate, matrix, normalized rows and bias. -/
theorem gated (t : Fin cfg0.N) (a : Fin 64) (h : Fin 8) (d : ℕ) (hd : d = 256 * h.val) (b : Fin 256)
    (i : Cert.MixSRefIdeal.S512x4096.Idx) (hi : (i 0).val = 64 * t.val + a.val ∧ (i 1).val = 2048 + (d + b.val)) :
    gate (iblk m c 1 t (ix2 a ⟨d + b.val, by omega⟩)) a.val (fun j => iblk m c 8 t (ix3 h ⟨a.val, by omega⟩ ⟨j.val, by omega⟩))
      (fun j => k0_pay27 (k0_pay25 (iblk m c 2 t)) (k0_pay26 (iblk m c 2 t)) (iblk m c 6 t) (iblk m c 7 t) (ix2 j ⟨d + b.val, by omega⟩))
      (iblk m c 9 t (ix2 ⟨a.val, by omega⟩ h)) = res m c i := by
  rw [row_eq t a _ i (by omega) hi]
  refine Eq.trans ?_ (hi_row _ _ _ _ _ _ _ _ (seq t) a ⟨d + b.val, by omega⟩).symm
  rw [gate_at]
  have e3 : (d + b.val) / 256 = h.val := by omega
  simp only [e3, blk1 m c t, blk8 m c t, blk9 m c t, nrm m c t]

end Cert.MixSIdeal.Final
end
-- ==== Proof.MixS.lean ====
module

public import proofs.«01_k».proof.Proof.Gen.MixSIdeal.Value
public import proofs.«01_k».proof.Proof.Gen.MixSRefIdeal.Run
public import proofs.«01_k».proof.Proof.Gen.MixSRefIdeal.Read
public import Idealize.ShloMosaic.Lib.Pipeline.ValueKit
public import proofs.«01_k».proof.Proof.ReadAt
public import proofs.«01_k».proof.Proof.MixSPoint
public import proofs.«01_k».proof.Proof.Finite

@[expose] public section

set_option maxRecDepth 16384

noncomputable section

namespace Cert.MixSIdeal.Final

open Cert.MixSIdeal Cert.MixSIdeal.Gen Idealize.ShloMosaic Idealize.ShloMosaic.TcCoe Idealize.SL.Sem
open Idealize.ShloMosaic.Pipeline (Dat)

open Cert.ReadAt

variable (m : (ℓ : Loc nD τ sig) → Buf (Elt Ideal) ℓ) (c : Dev nD)

open Cert.Pool Cert.MixSRead

section Out

variable (hX : ∀ b c' i, ∃ r : ℝ, ext (arg0 m c) (arg1 m c) b c' i = r)
include hX

set_option maxHeartbeats 1000000 in
/-- What a grid point stores of the first result: at every index of its block, the reference at the array index under it. -/
theorem out10 (t : Fin cfg0.N) (y : S64x4096.Idx) (i : Cert.MixSRefIdeal.S512x4096.Idx)
    (hi : (i 0).val = 64 * t.val + (y 0).val ∧ (i 1).val = (y 1).val) : (outsAt0 m c t).1 y = res m c i := by
  unfold outsAt0
  frame_out
  canon_tiles x h using (View.cover_of_tiledBy _ ![64, 256] (by sl_kernel_rfl) y)
  case piece0 =>
    idx_vars x
    refine Eq.trans ?_ (gated m c t x0 7 1792 rfl x1 i ⟨hi.1.trans (congrArg (64 * t.val + ·) h0), hi.2.trans (h1.trans (by show 3840 + x1.val = 2048 + (1792 + x1.val); omega))⟩)
    unfold gate
    pointwise [k0_pay41, k0_pay29, k0_pay30, k0_pay27]
  case piece1 =>
    idx_vars x
    refine Eq.trans ?_ (gated m c t x0 6 1536 rfl x1 i ⟨hi.1.trans (congrArg (64 * t.val + ·) h0), hi.2.trans (h1.trans (by show 3584 + x1.val = 2048 + (1536 + x1.val); omega))⟩)
    unfold gate
    pointwise [k0_pay40, k0_pay29, k0_pay30, k0_pay27]
  case piece2 =>
    idx_vars x
    refine Eq.trans ?_ (gated m c t x0 5 1280 rfl x1 i ⟨hi.1.trans (congrArg (64 * t.val + ·) h0), hi.2.trans (h1.trans (by show 3328 + x1.val = 2048 + (1280 + x1.val); omega))⟩)
    unfold gate
    pointwise [k0_pay39, k0_pay37, k0_pay38, k0_pay29, k0_pay30, k0_pay27]
  case piece3 =>
    idx_vars x
    refine Eq.trans ?_ (gated m c t x0 4 1024 rfl x1 i ⟨hi.1.trans (congrArg (64 * t.val + ·) h0), hi.2.trans (h1.trans (by show 3072 + x1.val = 2048 + (1024 + x1.val); omega))⟩)
    unfold gate
    pointwise [k0_pay36, k0_pay29, k0_pay30, k0_pay27]
  case piece4 =>
    idx_vars x
    refine Eq.trans ?_ (gated m c t x0 3 768 rfl x1 i ⟨hi.1.trans (congrArg (64 * t.val + ·) h0), hi.2.trans (h1.trans (by show 2816 + x1.val = 2048 + (768 + x1.val); omega))⟩)
    unfold gate
    pointwise [k0_pay35, k0_pay34, k0_pay29, k0_pay30, k0_pay27]
  case piece5 =>
    idx_vars x
    refine Eq.trans ?_ (gated m c t x0 2 512 rfl x1 i ⟨hi.1.trans (congrArg (64 * t.val + ·) h0), hi.2.trans (h1.trans (by show 2560 + x1.val = 2048 + (512 + x1.val); omega))⟩)
    unfold gate
    pointwise [k0_pay33, k0_pay29, k0_pay30, k0_pay27]
  case piece6 =>
    idx_vars x
    refine Eq.trans ?_ (gated m c t x0 1 256 rfl x1 i ⟨hi.1.trans (congrArg (64 * t.val + ·) h0), hi.2.trans (h1.trans (by show 2304 + x1.val = 2048 + (256 + x1.val); omega))⟩)
    unfold gate
    pointwise [k0_pay32, k0_pay29, k0_pay30, k0_pay27]
  case piece7 =>
    idx_vars x
    refine Eq.trans ?_ (gated m c t x0 0 0 rfl x1 i ⟨hi.1.trans (congrArg (64 * t.val + ·) h0), hi.2.trans (h1.trans (by show 2048 + x1.val = 2048 + (0 + x1.val); omega))⟩)
    unfold gate
    pointwise [k0_pay31, k0_pay29, k0_pay30, k0_pay27]
  case piece8 =>
    idx_vars x
    exact pool3 m c hX t _ _ _ _ (fun k => step (cov_lvl (by omega) fun q hq => ((add17 _ _ _ _).trans (step (cov_lvl (by omega) fun q hq => ((add16 _ _ _ _).trans (step (cov_lvl (by omega) fun q hq => ((add15 _ _ _ _).trans (step (base (cov_win (by omega) rfl (by omega) (by omega))) (base (cov_win (by omega) rfl (by omega) (by omega)))))) (cov_lvl (by omega) fun q hq => ((add15 _ _ _ _).trans (step (base (cov_win (by omega) rfl (by omega) (by omega))) (base (cov_win (by omega) rfl (by omega) (by omega))))))))) (cov_lvl (by omega) fun q hq => ((add16 _ _ _ _).trans (step (cov_lvl (by omega) fun q hq => ((add15 _ _ _ _).trans (step (base (cov_win (by omega) rfl (by omega) (by omega))) (base (cov_win (by omega) rfl (by omega) (by omega)))))) (cov_lvl (by omega) fun q hq => ((add15 _ _ _ _).trans (step (base (cov_win (by omega) rfl (by omega) (by omega))) (base (cov_win (by omega) rfl (by omega) (by omega)))))))))))) (cov_lvl (by omega) fun q hq => ((add17 _ _ _ _).trans (step (cov_lvl (by omega) fun q hq => ((add16 _ _ _ _).trans (step (cov_lvl (by omega) fun q hq => ((add15 _ _ _ _).trans (step (base (cov_win (by omega) rfl (by omega) (by omega))) (base (cov_win (by omega) rfl (by omega) (by omega)))))) (cov_lvl (by omega) fun q hq => ((add15 _ _ _ _).trans (step (base (cov_win (by omega) rfl (by omega) (by omega))) (base (cov_win (by omega) rfl (by omega) (by omega))))))))) (cov_lvl (by omega) fun q hq => ((add16 _ _ _ _).trans (step (cov_lvl (by omega) fun q hq => ((add15 _ _ _ _).trans (step (base (cov_win (by omega) rfl (by omega) (by omega))) (base (cov_win (by omega) rfl (by omega) (by omega)))))) (cov_lvl (by omega) fun q hq => ((add15 _ _ _ _).trans (step (base (cov_win (by omega) rfl (by omega) (by omega))) (base (cov_win (by omega) rfl (by omega) (by omega))))))))))))) i ⟨hi.1.trans (congrArg (64 * t.val + ·) h0), hi.2.trans h1⟩
  case piece9 =>
    idx_vars x
    exact pool2 m c hX t _ _ _ _ (fun k => step (cov_lvl (by omega) fun q hq => ((add12 _ _ _ _).trans (step (cov_lvl (by omega) fun q hq => ((add11 _ _ _ _).trans (step (base (cov_win (by omega) rfl (by omega) (by omega))) (base (cov_win (by omega) rfl (by omega) (by omega)))))) (cov_lvl (by omega) fun q hq => ((add11 _ _ _ _).trans (step (base (cov_win (by omega) rfl (by omega) (by omega))) (base (cov_win (by omega) rfl (by omega) (by omega))))))))) (cov_lvl (by omega) fun q hq => ((add12 _ _ _ _).trans (step (cov_lvl (by omega) fun q hq => ((add11 _ _ _ _).trans (step (base (cov_win (by omega) rfl (by omega) (by omega))) (base (cov_win (by omega) rfl (by omega) (by omega)))))) (cov_lvl (by omega) fun q hq => ((add11 _ _ _ _).trans (step (base (cov_win (by omega) rfl (by omega) (by omega))) (base (cov_win (by omega) rfl (by omega) (by omega)))))))))) i ⟨hi.1.trans (congrArg (64 * t.val + ·) h0), hi.2.trans h1⟩
  case piece10 =>
    idx_vars x
    exact pool1 m c hX t _ _ _ _ (fun k => step (cov_lvl (by omega) fun q hq => ((add9 _ _ _ _).trans (step (base (cov_win (by omega) rfl (by omega) (by omega))) (base (cov_win (by omega) rfl (by omega) (by omega)))))) (cov_lvl (by omega) fun q hq => ((add9 _ _ _ _).trans (step (base (cov_win (by omega) rfl (by omega) (by omega))) (base (cov_win (by omega) rfl (by omega) (by omega))))))) i ⟨hi.1.trans (congrArg (64 * t.val + ·) h0), hi.2.trans h1⟩
  case piece11 =>
    idx_vars x
    exact pool0 m c hX t _ _ _ _ (fun k => step (base (cov_win (by omega) rfl (by omega) (by omega))) (base (cov_win (by omega) rfl (by omega) (by omega)))) i ⟨hi.1.trans (congrArg (64 * t.val + ·) h0), hi.2.trans (h1.trans (by omega))⟩

/-- The first result array after the run. -/
theorem final10 : (dats m 0 c).arrAt 10 (cfgs 0).N = res m c := by
  refine (dats m 0 c).arrAt_eq_of_covers 10 _ (by decide +kernel) fun t _ y => ?_
  rw [after0_10]
  refine out10 m c hX t y _ ⟨?_, ?_⟩
  · blk_simp [idx t]
    omega
  · blk_simp [idx t]

end Out

/-- What a grid point stores of the second result. -/
theorem out11 (t : Fin cfg0.N) (y : S1x15x2048.Idx) : (outsAt0 m c t).2.1 y = iblk m c 0 t (ix2 ⟨49 + (y 1).val, by idx_bounds; omega⟩ ⟨(y 2).val, by idx_bounds; omega⟩) := by
  idx_vars y
  unfold outsAt0
  frame_out
  pointwise [k0_pay23, k0_pay22]

/-- The second result array after the run. -/
theorem final11 : (dats m 0 c).arrAt 11 (cfgs 0).N = Cert.MixSRefIdeal.Read.val_main_v69 (F := Ideal) (arg0 m c) (arg1 m c) := by
  refine (dats m 0 c).arrAt_eq_of_covers 11 _ (by decide +kernel) fun t ht y => ?_
  rw [after0_11]
  refine (out11 m c t y).trans ?_
  have hy0 : (y 0).val < 1 := (y 0).isLt
  have e0 : ((((cfg0.win 11).blk t).view.emb y) 0).val = t.val := by blk_simp [idx t]
  have e1 : ((((cfg0.win 11).blk t).view.emb y) 1).val = (y 1).val := by blk_simp [idx t]
  have e2 : ((((cfg0.win 11).blk t).view.emb y) 2).val = (y 2).val := by blk_simp [idx t]
  refine (blk0 m c t _ _).trans (Eq.trans ?_ (tail_at (arg0 m c) (arg1 m c) (((cfg0.win 11).blk t).view.emb y)).symm)
  refine congrArg₂ (fun a b => arg0 m c (ix2 a b)) (Fin.ext ?_) (Fin.ext e2.symm)
  show 16384 + (t.val * 64 + (49 + (y 1).val)) = 16384 + (_ * 64 + (49 + _))
  rw [e0, e1]

/-- What a grid point stores of the third result. -/
theorem out12 (t : Fin cfg0.N) (y : S1x64x2048.Idx) : (outsAt0 m c t).2.2 y
    = k0_pay27 (k0_pay25 (iblk m c 2 t)) (k0_pay26 (iblk m c 2 t)) (iblk m c 6 t) (iblk m c 7 t) (ix2 ⟨(y 1).val, by idx_bounds; omega⟩ ⟨(y 2).val, by idx_bounds; omega⟩) := by
  idx_vars y
  unfold outsAt0
  frame_out
  pointwise [k0_pay28]

/-- The third result array after the run. -/
theorem final12 : (dats m 0 c).arrAt 12 (cfgs 0).N = Cert.MixSRefIdeal.Read.val_main_v93 (F := Ideal) (arg0 m c) (arg4 m c) (arg5 m c) := by
  refine (dats m 0 c).arrAt_eq_of_covers 12 _ (by decide +kernel) fun t ht y => ?_
  rw [after0_12]
  refine (out12 m c t y).trans ((nrm m c t _ _).trans ?_)
  have hy0 : (y 0).val < 1 := (y 0).isLt
  have e0 : ((((cfg0.win 12).blk t).view.emb y) 0).val = t.val := by blk_simp [idx t]
  have e1 : ((((cfg0.win 12).blk t).view.emb y) 1).val = (y 1).val := by blk_simp [idx t]
  have e2 : ((((cfg0.win 12).blk t).view.emb y) 2).val = (y 2).val := by blk_simp [idx t]
  refine congrArg _ (funext fun a => Fin.ext ?_)
  match a with
  | 0 => exact e0.symm
  | 1 => exact e1.symm
  | 2 => exact e2.symm

/-- Every entry of the columns is a real number when the pooled columns and the rows kept from before are. -/
theorem finite [Cert.Pre_sample_pool_finite.Facts]
    (h : Cert.Pre_sample_pool_finite.fn (F := Ideal) (arg0 m c) (arg1 m c) (arg2 m c) (arg3 m c) (arg4 m c) (arg5 m c) (arg6 m c) (arg7 m c) = fun _ => 1#1)
    (b : Fin 8) (j : Fin 2048) (i : ℕ) : ∃ r : ℝ, ext (arg0 m c) (arg1 m c) b j i = r := by
  have f := Cert.Finite.sample _ _ _ _ _ _ _ _ h
  unfold ext
  split_ifs with h1 h2
  · exact f.2 b ⟨i, h1⟩ j
  · exact f.1 ⟨b.val * 64 + (i - 15), by omega⟩ j
  · exact ⟨0, rfl⟩

end Cert.MixSIdeal.Final
end
-- ==== Proof.RouteHost.lean ====
/- The arrays the router's call reads: the weights and biases as its host side lays them out, and each window's block of them. -/
module

public import proofs.«01_k».proof.Proof.Gen.RouteIdeal.Value
public import Idealize.ShloMosaic.Lib.Pipeline.ValueKit
public import Idealize.ShloMosaic.Lib.StableHlo.ReadAt

@[expose] public section

set_option maxRecDepth 16384

noncomputable section

namespace Cert.RouteIdeal.Final

open Cert.RouteIdeal Cert.RouteIdeal.Gen Idealize.ShloMosaic Idealize.ShloMosaic.TcCoe Idealize.SL.Sem
open Idealize.ShloMosaic.Pipeline (Dat)

variable (m : (ℓ : Loc nD τ sig) → Buf (Elt Ideal) ℓ)

/-- The windows' block indices: point `t` takes row block `t` of the rows and column block `t` of the gates. -/
theorem idx : ∀ t : Fin cfg0.N, win0_0.index t = ![t.val, 0] ∧ win0_1.index t = ![0, 0] ∧ win0_2.index t = ![0, 0]
    ∧ win0_3.index t = ![0, 0] ∧ win0_4.index t = ![0, 0] ∧ win0_7.index t = ![0, t.val] :=
  (by decide +kernel : ∀ t : Fin grid0.N, _)

/-- The router's weights as the call's host side lays them out: a row per logit, zero rows below. -/
def wr (W : FVec Ideal S4096x4 .f32) (E : FVec Ideal S4096x16 .f32) : FVec Ideal S32x4096 .f32 :=
  pad S32x4096 ![0, 0] ![12, 0] ![0, 0] (transpose S20x4096 [1, 0] (concatenate S4096x20 1 [⟨S4096x4, W⟩, ⟨S4096x16, E⟩] concatenates_S4096x4_S4096x16_S4096x20_d1)
    transposes_S4096x20_S20x4096_1_0) (sitofp .f32 (constantI S_ 32 0#32)) pads_S20x4096_S32x4096_0120_000 h_S_

/-- The biases, as a column of the same rows. -/
def br (w : FVec Ideal S4 .f32) (e : FVec Ideal S16 .f32) : FVec Ideal S32x128 .f32 :=
  broadcastInDim S32x128 ![0, 1] bcast_S32x1_S32x128_0_1 (broadcastInDim S32x1 ![0] bcast_S32_S32x1_0
    (pad S32 ![0] ![12] ![0] (concatenate S20 0 [⟨S4, w⟩, ⟨S16, e⟩] concatenates_S4_S16_S20_d0) (sitofp .f32 (constantI S_ 32 0#32)) pads_S20_S32_0120 h_S_))

theorem V_hi (c : Dev nD) : V m c main_v3
    = truncf .bf16 (wr (m ((c : Thread nD τ).loc main_arg2)) (m ((c : Thread nD τ).loc main_arg4))) bitsLt_bf16_f32 := by
  simp only [V, hostOps0, hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq]
  rfl

theorem V_lo (c : Dev nD) : V m c main_v6
    = truncf .bf16 (subf (wr (m ((c : Thread nD τ).loc main_arg2)) (m ((c : Thread nD τ).loc main_arg4)))
        (extf .f32 (truncf .bf16 (wr (m ((c : Thread nD τ).loc main_arg2)) (m ((c : Thread nD τ).loc main_arg4))) bitsLt_bf16_f32) bitsLt_bf16_f32)) bitsLt_bf16_f32 := by
  simp only [V, hostOps0, hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq]
  rfl

theorem V_br (c : Dev nD) : V m c main_v10 = br (m ((c : Thread nD τ).loc main_arg3)) (m ((c : Thread nD τ).loc main_arg5)) := by
  simp only [V, hostOps0, hostOps0_1, hostOps0_2, hostOps0_3, hostOps0_4, List.flatten_cons, List.flatten_nil, List.append_nil, List.cons_append, List.nil_append]
  after_reads_simp
  simp -implicitDefEqProofs only [StableHlo.TRef.toBuf, StableHlo.TRef.ofBuf, cast_cast, cast_eq]
  rfl

theorem V_g (c : Dev nD) : V m c main_v11 = broadcastInDim S1x4096 ![1] bcast_S4096_S1x4096_1 (m ((c : Thread nD τ).loc main_arg1)) := by
  simp only [V, hostOps0, hostOps0_1, hostOps0_2, hostOps0_3, hostOps0_4, List.flatten_cons, List.flatten_nil, List.append_nil, List.cons_append, List.nil_append]
  after_reads_simp

theorem wr_grp (W E) (j : Fin 32) (h : j.val < 4) (k : Fin 4096) : wr W E (ix2 j k) = W (ix2 k (⟨j.val, h⟩ : Fin 4)) := by
  have h2 : j.val < 20 := by omega
  pointwise [wr, h, h2]

theorem wr_exp (W E) (j : Fin 32) (h : 4 ≤ j.val) (h' : j.val < 20) (k : Fin 4096) : wr W E (ix2 j k) = E (ix2 k (⟨j.val - 4, by omega⟩ : Fin 16)) := by
  have h2 : ¬ j.val < 4 := by omega
  pointwise [wr, h2, h']

theorem br_grp (W E) (j : Fin 32) (h : j.val < 4) : br W E (ix2 j 0) = W (ix1 (⟨j.val, h⟩ : Fin 4)) := by
  have h2 : j.val < 20 := by omega
  pointwise [br, h, h2]

theorem br_exp (W E) (j : Fin 32) (h : 4 ≤ j.val) (h' : j.val < 20) : br W E (ix2 j 0) = E (ix1 (⟨j.val - 4, by omega⟩ : Fin 16)) := by
  have h2 : ¬ j.val < 4 := by omega
  pointwise [br, h2, h']

theorem blk0 (c : Dev nD) (t : Fin cfg0.N) (q : Fin 512) (k : Fin 4096) : iblk m c 0 t (ix2 q k)
    = m ((c : Thread nD τ).loc main_arg0) (ix2 (⟨t.val * 512 + q.val, by have : t.val < 33 := t.isLt; omega⟩ : Fin 16896) k) := by
  have := V_main_arg0 m c
  blk_point [iblk, this, idx t]

theorem blk1 (c : Dev nD) (t : Fin cfg0.N) (k : Fin 4096) : iblk m c 1 t (ix2 0 k) = m ((c : Thread nD τ).loc main_arg1) (ix1 k) := by
  have := V_g m c
  blk_simp [iblk, idx t, this]
  pointwise
  blk_point [idx t]

theorem blk2 (c : Dev nD) (t : Fin cfg0.N) (y) : iblk m c 2 t y = V m c main_v3 y := by
  blk_point [iblk, idx t]

theorem blk3 (c : Dev nD) (t : Fin cfg0.N) (y) : iblk m c 3 t y = V m c main_v6 y := by
  blk_point [iblk, idx t]

theorem blk4 (c : Dev nD) (t : Fin cfg0.N) (y) : iblk m c 4 t y = V m c main_v10 y := by
  blk_point [iblk, idx t]

end Cert.RouteIdeal.Final

end
-- ==== Proof.RouteCol.lean ====
/- The scalar mathematics of the router's two gates: the first greatest of four numbers, the greatest two of four, and the
   reference's softmax weights in the kernel's form. -/
module

public import Idealize.ShloMosaic.Lib.Pipeline.ValueKit

@[expose] public section

set_option maxRecDepth 16384

noncomputable section

namespace Cert.Gate

open Idealize.ShloMosaic

/-- The greatest of four. -/
def top (a b c d : EReal) : EReal := max (max (max a b) c) d

/-- The position of the first greatest of four. -/
def first (a b c d : EReal) : BitVec 32 :=
  if a = top a b c d then 0#32 else if b = top a b c d then 1#32 else if c = top a b c d then 2#32 else 3#32

/-- The greatest of four once the first greatest is taken out. -/
def next (a b c d : EReal) : EReal :=
  if a = top a b c d then max (max b c) d else if b = top a b c d then max (max a c) d
  else if c = top a b c d then max (max a b) d else max (max a b) c

theorem sortedFrom_get {n : ℕ} (B : Fin n → Fin n → Bool) (k : Fin n) : some (sortedFrom B k) = (sortPositions n B)[k.val]? := by
  simp [sortedFrom]

/-- The greatest two of four, by a sort, are the greatest and the greatest of the rest. -/
theorem sorted_two (x : Fin 4 → EReal) (B : Fin 4 → Fin 4 → Bool) (hB : ∀ k k', B k k' = decide (x k' < x k)) :
    x (sortedFrom B 0) = top (x 0) (x 1) (x 2) (x 3) ∧ x (sortedFrom B 1) = next (x 0) (x 1) (x 2) (x 3) := by
  have e : List.finRange 4 = [0, 1, 2, 3] := by decide
  have h0 := sortedFrom_get B 0
  have h1 := sortedFrom_get B 1
  simp only [sortPositions, e, stableSort, insertBefore] at h0 h1
  by_cases c01 : x 0 < x 1 <;> by_cases c02 : x 0 < x 2 <;> by_cases c03 : x 0 < x 3 <;>
  by_cases c12 : x 1 < x 2 <;> by_cases c13 : x 1 < x 3 <;> by_cases c23 : x 2 < x 3 <;>
  simp [insertBefore, hB, c01, c02, c03, c12, c13, c23] at h0 h1 <;>
  rw [h0, h1] <;> clear h0 h1 hB e <;> simp only [top, next] <;>
  generalize x 0 = a at * <;> generalize x 1 = b at * <;> generalize x 2 = c at * <;> generalize x 3 = d at * <;>
  grind

/-! ### Real values -/

theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩

theorem real_sum {n : ℕ} (f : Fin n → EReal) (h : ∀ k, ∃ r : ℝ, f k = r) : ∃ r : ℝ, ∑ k, f k = r := by
  refine Finset.induction_on (motive := fun s => ∃ r : ℝ, ∑ k ∈ s, f k = r) Finset.univ ⟨0, by simp⟩ fun a s ha ih => ?_
  rw [Finset.sum_insert ha]
  exact real_add (h a) ih

theorem real_sub_self {x : EReal} (hx : ∃ r : ℝ, x = r) : x - x = 0 := by
  obtain ⟨a, rfl⟩ := hx; rw [← EReal.coe_sub, sub_self]; rfl

/-- A row scaled by the root of its mean square, with a positive constant added to the mean, is real. -/
theorem real_norm {n : ℕ} (x : Fin n → EReal) (h : ∀ k, ∃ r : ℝ, x k = r) :
    ∃ r : ℝ, Ideal.rsqrt (Ideal.div (∑ k, x k * x k) (Ideal.ofBits .f32 0x45800000#32) + Ideal.ofBits .f32 0x358637BD#32) = r := by
  choose a ha using h
  have hs : ∑ k, x k * x k = ((∑ k, a k * a k : ℝ) : EReal) := by
    refine Finset.induction_on (motive := fun s => ∑ k ∈ s, x k * x k = ((∑ k ∈ s, a k * a k : ℝ) : EReal)) Finset.univ (by simp) fun b s hb ih => ?_
    rw [Finset.sum_insert hb, Finset.sum_insert hb, ih, ha b, EReal.coe_add, EReal.coe_mul]
  have hp : (0 : ℝ) ≤ ∑ k, a k * a k := Finset.sum_nonneg fun k _ => mul_self_nonneg _
  have h1 : Ideal.ofBits .f32 0x45800000#32 = ((4096 : ℝ) : EReal) := by
    simp [Ideal.ofBits, Ideal.ieee]; rw [← EReal.coe_mul]; norm_num
  have h2 : ∃ e : ℝ, 0 < e ∧ Ideal.ofBits .f32 0x358637BD#32 = (e : EReal) := by
    refine ⟨_, ?_, by simp [Ideal.ofBits, Ideal.ieee]; rfl⟩
    norm_num
  obtain ⟨e, he, h2⟩ := h2
  rw [hs, h1, h2, Ideal.div_coe (by norm_num), ← EReal.coe_mul, ← EReal.coe_add, Ideal.rsqrt_coe]
  have : 0 < (∑ k, a k * a k) * (1 / 4096) + e := by positivity
  rw [if_neg (by linarith), if_neg this.ne']
  exact ⟨_, rfl⟩

/-- Every entry of a row scaled by the root of its mean square is real: an infinite mean square has the root's inverse zero. -/
theorem real_scaled {n : ℕ} (x : Fin n → EReal) (k : Fin n) :
    ∃ r : ℝ, x k * Ideal.rsqrt (Ideal.div (∑ k, x k * x k) (Ideal.ofBits .f32 0x45800000#32) + Ideal.ofBits .f32 0x358637BD#32) = r := by
  by_cases h : ∀ k, ∃ r : ℝ, x k = r
  · exact real_mul (h k) (real_norm x h)
  · have hi : ∃ b, x b * x b = ⊤ := by
      rw [not_forall] at h
      obtain ⟨b, hb⟩ := h
      refine ⟨b, ?_⟩
      generalize x b = y at hb
      induction y using EReal.rec with
      | bot => rfl
      | top => rfl
      | coe r => exact absurd ⟨r, rfl⟩ hb
    have hn : ∀ b, 0 ≤ x b * x b := by
      intro b
      generalize x b = y
      induction y using EReal.rec with
      | bot => simp
      | top => simp
      | coe r => rw [← EReal.coe_mul]; exact EReal.coe_nonneg.mpr (mul_self_nonneg r)
    have hs : ∑ b, x b * x b = ⊤ := by
      obtain ⟨b, hb⟩ := hi
      exact top_le_iff.mp (hb ▸ Finset.single_le_sum (f := fun b => x b * x b) (fun i _ => hn i) (Finset.mem_univ b))
    have h1 : Ideal.ofBits .f32 0x45800000#32 = ((4096 : ℝ) : EReal) := by
      simp [Ideal.ofBits, Ideal.ieee]; rw [← EReal.coe_mul]; norm_num
    have h2 : ∃ e : ℝ, Ideal.ofBits .f32 0x358637BD#32 = (e : EReal) := ⟨_, by simp [Ideal.ofBits, Ideal.ieee]; rfl⟩
    obtain ⟨e, h2⟩ := h2
    rw [hs, h1, h2, Ideal.div_coe (by norm_num), EReal.top_mul_coe_of_pos (by norm_num), EReal.top_add_coe]
    exact ⟨0, mul_zero _⟩

/-! ### The gates -/

/-- The one of four at a position. -/
def pick (p : BitVec 32) (a b c d : EReal) : EReal :=
  if p = 0#32 then a else if p = 1#32 then b else if p = 2#32 then c else d

/-- The sum of the four exponentials off the greatest. -/
def esum (a b c d : EReal) : EReal :=
  Ideal.exp (a - top a b c d) + Ideal.exp (b - top a b c d) + Ideal.exp (c - top a b c d) + Ideal.exp (d - top a b c d)

/-- The second expert's weight against the first's. -/
def ratio (a b c d : EReal) : EReal := Ideal.exp (next a b c d - top a b c d)

/-- The expert logits of the chosen group, by place in the group. -/
def chosen (L : Fin 20 → EReal) (j : Fin 4) : EReal :=
  pick (first (L 0) (L 1) (L 2) (L 3)) (L ⟨4 + j.val, by omega⟩) (L ⟨8 + j.val, by omega⟩) (L ⟨12 + j.val, by omega⟩) (L ⟨16 + j.val, by omega⟩)

/-- The ratio of the chosen group's two best experts. -/
def share (L : Fin 20 → EReal) : EReal := ratio (chosen L 0) (chosen L 1) (chosen L 2) (chosen L 3)

/-- The two gates of a token with logits `L`, and zero elsewhere. -/
def gate (L : Fin 20 → EReal) (r : ℕ) : EReal :=
  if r = 0 then Ideal.div 1 (esum (L 0) (L 1) (L 2) (L 3)) * Ideal.div 1 (1 + share L)
  else if r = 1 then Ideal.div 1 (esum (L 0) (L 1) (L 2) (L 3)) * Ideal.div (share L) (1 + share L) else 0

theorem first_cases (a b c d : EReal) : first a b c d = 0#32 ∧ a = top a b c d ∨ first a b c d = 1#32 ∧ b = top a b c d
    ∨ first a b c d = 2#32 ∧ c = top a b c d ∨ first a b c d = 3#32 ∧ d = top a b c d := by
  have hd : a ≠ top a b c d → b ≠ top a b c d → c ≠ top a b c d → d = top a b c d := by
    unfold top; grind
  unfold first
  split_ifs with h1 h2 h3
  · exact Or.inl ⟨rfl, h1⟩
  · exact Or.inr (Or.inl ⟨rfl, h2⟩)
  · exact Or.inr (Or.inr (Or.inl ⟨rfl, h3⟩))
  · exact Or.inr (Or.inr (Or.inr ⟨rfl, hd h1 h2 h3⟩))

theorem real_top {a b c d : EReal} (ha : ∃ r : ℝ, a = r) (hb : ∃ r : ℝ, b = r) (hc : ∃ r : ℝ, c = r) (hd : ∃ r : ℝ, d = r) :
    ∃ r : ℝ, top a b c d = r := by
  rcases first_cases a b c d with h | h | h | h <;> rw [← h.2] <;> assumption

theorem next_le (a b c d : EReal) : next a b c d ≤ top a b c d := by
  unfold next top; grind

/-- Masking the first greatest with the least value leaves the greatest of the rest. -/
theorem masked (a b c d : EReal) : max (max (max (if first a b c d = 0#32 then ⊥ else a) (if first a b c d = 1#32 then ⊥ else b))
    (if first a b c d = 2#32 then ⊥ else c)) (if first a b c d = 3#32 then ⊥ else d) = next a b c d := by
  unfold next first
  generalize top a b c d = t
  by_cases h1 : a = t
  · simp only [if_pos h1]; simp
  by_cases h2 : b = t
  · simp only [if_neg h1, if_pos h2]; simp
  by_cases h3 : c = t
  · simp only [if_neg h1, if_neg h2, if_pos h3]; simp
  simp only [if_neg h1, if_neg h2, if_neg h3]; simp

end Cert.Gate
-- ==== Proof.RoutePay.lean ====
/- The kernel's two gate rows at a column, in terms of the column's logits. -/
module

public import proofs.«01_k».proof.Proof.RouteHost
public import proofs.«01_k».proof.Proof.RouteCol

@[expose] public section

set_option maxRecDepth 16384

noncomputable section

namespace Cert.RouteIdeal.Final

open Cert.RouteIdeal Cert.RouteIdeal.Gen Idealize.ShloMosaic Idealize.ShloMosaic.TcCoe Idealize.SL.Sem
open Cert.Gate

theorem select_eq {α : Type} (p r : BitVec 32) (x y : α) : Scalar.select (IntOp.cmpi .eq p r) x y = if p = r then x else y := by
  by_cases h : p = r
  · subst h; simp [Scalar.select, IntOp.cmpi]
  · have : (p == r) = false := by simpa using h
    simp [Scalar.select, IntOp.cmpi, this, h]

theorem bits_bot : Ideal.ofBits .f32 0xFF800000#32 = (⊥ : EReal) := by simp [Ideal.ofBits, Ideal.ieee]

section column

variable (A : FVec Ideal S512x4096 .bf16) (P : FVec Ideal S32x512 .f32) (lo : Vec Ideal S32x4096 .bf16) (b : Vec Ideal S32x1 .f32) (q : Fin 512)

/-- The logits of the block's column `q`. -/
def logit (j : Fin 20) : EReal := k0_pay10 A P lo b (ix2 (⟨j.val, by omega⟩ : Fin 32) q)

theorem row11 : k0_pay11 A P lo b (ix2 0 q) = logit A P lo b q 0 := by pointwise [k0_pay11, logit]
theorem row12 : k0_pay12 A P lo b (ix2 0 q) = logit A P lo b q 1 := by pointwise [k0_pay12, logit]
theorem row13 : k0_pay13 A P lo b (ix2 0 q) = logit A P lo b q 2 := by pointwise [k0_pay13, logit]
theorem row14 : k0_pay14 A P lo b (ix2 0 q) = logit A P lo b q 3 := by pointwise [k0_pay14, logit]
theorem row15 : k0_pay15 A P lo b (ix2 0 q) = logit A P lo b q 4 := by pointwise [k0_pay15, logit]
theorem row16 : k0_pay16 A P lo b (ix2 0 q) = logit A P lo b q 5 := by pointwise [k0_pay16, logit]
theorem row17 : k0_pay17 A P lo b (ix2 0 q) = logit A P lo b q 6 := by pointwise [k0_pay17, logit]
theorem row18 : k0_pay18 A P lo b (ix2 0 q) = logit A P lo b q 7 := by pointwise [k0_pay18, logit]
theorem row19 : k0_pay19 A P lo b (ix2 0 q) = logit A P lo b q 8 := by pointwise [k0_pay19, logit]
theorem row20 : k0_pay20 A P lo b (ix2 0 q) = logit A P lo b q 9 := by pointwise [k0_pay20, logit]
theorem row21 : k0_pay21 A P lo b (ix2 0 q) = logit A P lo b q 10 := by pointwise [k0_pay21, logit]
theorem row22 : k0_pay22 A P lo b (ix2 0 q) = logit A P lo b q 11 := by pointwise [k0_pay22, logit]
theorem row23 : k0_pay23 A P lo b (ix2 0 q) = logit A P lo b q 12 := by pointwise [k0_pay23, logit]
theorem row24 : k0_pay24 A P lo b (ix2 0 q) = logit A P lo b q 13 := by pointwise [k0_pay24, logit]
theorem row25 : k0_pay25 A P lo b (ix2 0 q) = logit A P lo b q 14 := by pointwise [k0_pay25, logit]
theorem row26 : k0_pay26 A P lo b (ix2 0 q) = logit A P lo b q 15 := by pointwise [k0_pay26, logit]
theorem row27 : k0_pay27 A P lo b (ix2 0 q) = logit A P lo b q 16 := by pointwise [k0_pay27, logit]
theorem row28 : k0_pay28 A P lo b (ix2 0 q) = logit A P lo b q 17 := by pointwise [k0_pay28, logit]
theorem row29 : k0_pay29 A P lo b (ix2 0 q) = logit A P lo b q 18 := by pointwise [k0_pay29, logit]
theorem row30 : k0_pay30 A P lo b (ix2 0 q) = logit A P lo b q 19 := by pointwise [k0_pay30, logit]

theorem row31 : k0_pay31 A P lo b (ix2 0 q) = top (logit A P lo b q 0) (logit A P lo b q 1) (logit A P lo b q 2) (logit A P lo b q 3) := by
  rw [← row11, ← row12, ← row13, ← row14]
  pointwise [k0_pay31, top]

theorem row32 : k0_pay32 A P lo b (ix2 0 q) = first (logit A P lo b q 0) (logit A P lo b q 1) (logit A P lo b q 2) (logit A P lo b q 3) := by
  unfold first
  rw [← row31, ← row11, ← row12, ← row13]
  pointwise [k0_pay32]

theorem row33 : k0_pay33 A P lo b (ix2 0 q) = esum (logit A P lo b q 0) (logit A P lo b q 1) (logit A P lo b q 2) (logit A P lo b q 3) := by
  unfold esum
  rw [← row31, ← row11, ← row12, ← row13, ← row14]
  pointwise [k0_pay33]

end column

theorem row34 (v : FVec Ideal S1x512 .f32) (q : Fin 512) : k0_pay34 v (ix2 0 q) = Ideal.div 1 (v (ix2 0 q)) := by pointwise [k0_pay34]

section chosen

variable (v53 v54 v55 v56 v57 v58 v59 v60 v61 v62 v63 v64 v65 v66 v67 v68 : FVec Ideal S1x512 .f32) (v81 : IVec S1x512 32) (q : Fin 512)

theorem row35 : k0_pay35 v53 v57 v61 v65 v81 (ix2 0 q) = pick (v81 (ix2 0 q)) (v53 (ix2 0 q)) (v57 (ix2 0 q)) (v61 (ix2 0 q)) (v65 (ix2 0 q)) := by
  simp only [pick, ← select_eq]; pointwise [k0_pay35]
theorem row36 : k0_pay36 v53 v57 v61 v65 v81 (ix2 0 q) = pick (v81 (ix2 0 q)) (v53 (ix2 0 q)) (v57 (ix2 0 q)) (v61 (ix2 0 q)) (v65 (ix2 0 q)) := by
  simp only [pick, ← select_eq]; pointwise [k0_pay36]
theorem row37 : k0_pay37 v53 v57 v61 v65 v81 (ix2 0 q) = pick (v81 (ix2 0 q)) (v53 (ix2 0 q)) (v57 (ix2 0 q)) (v61 (ix2 0 q)) (v65 (ix2 0 q)) := by
  simp only [pick, ← select_eq]; pointwise [k0_pay37]
theorem row38 : k0_pay38 v53 v57 v61 v65 v81 (ix2 0 q) = pick (v81 (ix2 0 q)) (v53 (ix2 0 q)) (v57 (ix2 0 q)) (v61 (ix2 0 q)) (v65 (ix2 0 q)) := by
  simp only [pick, ← select_eq]; pointwise [k0_pay38]

end chosen

section best

variable (v94 v103 v112 v121 v130 v133 : FVec Ideal S1x512 .f32) (v137 : IVec S1x512 32) (q : Fin 512)

theorem row47 (h : v133 (ix2 0 q) = top (v103 (ix2 0 q)) (v112 (ix2 0 q)) (v121 (ix2 0 q)) (v130 (ix2 0 q)))
    (h' : v137 (ix2 0 q) = if v121 (ix2 0 q) = v133 (ix2 0 q) then 2#32 else 3#32) :
    k0_pay47 v103 v112 v121 v130 v133 v137 (ix2 0 q) = ratio (v103 (ix2 0 q)) (v112 (ix2 0 q)) (v121 (ix2 0 q)) (v130 (ix2 0 q)) := by
  have e41 : k0_pay41 v103 v112 v133 v137 (ix2 0 q) = first (v103 (ix2 0 q)) (v112 (ix2 0 q)) (v121 (ix2 0 q)) (v130 (ix2 0 q)) := by
    unfold first
    rw [← h, ← h']
    pointwise [k0_pay41]
  unfold ratio
  rw [← masked, ← e41, ← h, ← bits_bot]
  simp only [← select_eq]
  pointwise [k0_pay47, k0_pay45, k0_pay44, k0_pay43, k0_pay42]

theorem row49 : k0_pay49 v94 v103 v112 v121 v130 v133 v137 (ix2 0 q)
    = v94 (ix2 0 q) * Ideal.div 1 (1 + k0_pay47 v103 v112 v121 v130 v133 v137 (ix2 0 q)) := by
  pointwise [k0_pay49, k0_pay48]

theorem row50 : k0_pay50 v94 v103 v112 v121 v130 v133 v137 (ix2 0 q)
    = v94 (ix2 0 q) * Ideal.div (k0_pay47 v103 v112 v121 v130 v133 v137 (ix2 0 q)) (1 + k0_pay47 v103 v112 v121 v130 v133 v137 (ix2 0 q)) := by
  pointwise [k0_pay50, k0_pay48]

end best

end Cert.RouteIdeal.Final

end
-- ==== Proof.RouteSort.lean ====
/- The head of a row of four sorted by falling value. -/
module

public import Idealize.ShloMosaic.Lib.Pipeline.ValueKit
public import proofs.«01_k».proof.Proof.RouteCol

@[expose] public section

set_option maxRecDepth 16384

noncomputable section

namespace Cert.Gate

open Idealize.ShloMosaic

theorem sort_row {R : ℕ} (y : FVec Ideal (⟨2, ![R, 4]⟩ : Shape) .f32) (i : IVec (⟨2, ![R, 4]⟩ : Shape) 32) (cmp : Ideal .f32 × BitVec 32 → Ideal .f32 × BitVec 32 → BitVec 1)
    (r : Fin R) (j : Fin 4) : (Host.sort2 (⟨2, ![R, 4]⟩ : Shape) 1 cmp y i).1 (ix2 r j)
      = y (ix2 r (sortedFrom (fun k k' : Fin 4 => cmp (y (ix2 r k), i (ix2 r k)) (y (ix2 r k'), i (ix2 r k')) == 1#1) j)) := by
  have e : ∀ j k' : Fin 4, Shape.Idx.along (ix2 r j : (⟨2, ![R, 4]⟩ : Shape).Idx) (1 : Fin 2) k' = ix2 r k' := by
    intro j k'; funext x; apply Fin.ext; fin_cases x <;> rfl
  have h : (Host.sort2 (⟨2, ![R, 4]⟩ : Shape) 1 cmp y i).1 (ix2 r j)
      = y (Shape.Idx.along (ix2 r j) (1 : Fin 2) (sortedFrom (fun k k' : Fin 4 => cmp (y (Shape.Idx.along (ix2 r j) (1 : Fin 2) k), i (Shape.Idx.along (ix2 r j) (1 : Fin 2) k))
          (y (Shape.Idx.along (ix2 r j) (1 : Fin 2) k'), i (Shape.Idx.along (ix2 r j) (1 : Fin 2) k')) == 1#1) j)) := by
    unfold Host.sort2
    rw [dif_pos (by decide : 1 < 2)]
    rfl
  rw [h]
  simp only [e]
  exact congrArg y (e _ _)

/-- The greatest two of a row of four, at the head of the row sorted by falling value. -/
theorem sort_two {R : ℕ} (y : FVec Ideal (⟨2, ![R, 4]⟩ : Shape) .f32) (i : IVec (⟨2, ![R, 4]⟩ : Shape) 32) (r : Fin R) :
    ∃ z : FVec Ideal (⟨2, ![R, 4]⟩ : Shape) .f32, (Host.sort2 (⟨2, ![R, 4]⟩ : Shape) 1 (fun l r => FloatOps.cmpfTotal (F := Ideal) (φ := .f32) CmpDirection.gt l.1 r.1) y i).1 = z
      ∧ z (ix2 r 0) = top (y (ix2 r 0)) (y (ix2 r 1)) (y (ix2 r 2)) (y (ix2 r 3))
      ∧ z (ix2 r 1) = next (y (ix2 r 0)) (y (ix2 r 1)) (y (ix2 r 2)) (y (ix2 r 3)) := by
  have hB : ∀ k k' : Fin 4, (FloatOps.cmpfTotal (F := Ideal) (φ := .f32) CmpDirection.gt (y (ix2 r k)) (y (ix2 r k')) == 1#1) = decide (y (ix2 r k') < y (ix2 r k)) := by
    intro k k'
    have : FloatOps.cmpfTotal (F := Ideal) (φ := .f32) CmpDirection.gt (y (ix2 r k)) (y (ix2 r k')) = BitVec.ofBool (decide (y (ix2 r k') < y (ix2 r k))) := rfl
    rw [this]
    cases decide (y (ix2 r k') < y (ix2 r k)) <;> decide
  have h := sorted_two (fun j => y (ix2 r j)) (fun k k' => FloatOps.cmpfTotal (F := Ideal) (φ := .f32) CmpDirection.gt (y (ix2 r k)) (y (ix2 r k')) == 1#1) hB
  refine ⟨_, rfl, ?_, ?_⟩
  · rw [sort_row]; exact h.1
  · rw [sort_row]; exact h.2

theorem topK_two {R : ℕ} (y : FVec Ideal (⟨2, ![R, 4]⟩ : Shape) .f32) (h : (⟨2, ![R, 4]⟩ : Shape).Slices (fun _ => 0) (⟨2, ![R, 2]⟩ : Shape)) (r : Fin R) :
    (Host.topK (⟨2, ![R, 2]⟩ : Shape) 1 (FloatOps.cmpfTotal (F := Ideal) (φ := .f32) .gt) y h).1 (ix2 r 0) = top (y (ix2 r 0)) (y (ix2 r 1)) (y (ix2 r 2)) (y (ix2 r 3))
      ∧ (Host.topK (⟨2, ![R, 2]⟩ : Shape) 1 (FloatOps.cmpfTotal (F := Ideal) (φ := .f32) .gt) y h).1 (ix2 r 1) = next (y (ix2 r 0)) (y (ix2 r 1)) (y (ix2 r 2)) (y (ix2 r 3)) := by
  obtain ⟨z, hz, hz0, hz1⟩ := sort_two y (fun i => if hd : 1 < (⟨2, ![R, 4]⟩ : Shape).rank then iotaInDim (⟨2, ![R, 4]⟩ : Shape) 32 ⟨1, hd⟩ i else 0#32) r
  have e : (Host.topK (⟨2, ![R, 2]⟩ : Shape) 1 (FloatOps.cmpfTotal (F := Ideal) (φ := .f32) .gt) y h).1 = extractStridedSlice (⟨2, ![R, 2]⟩ : Shape) (fun _ => 0) z h := by
    rw [← hz]; rfl
  rw [e, ← hz0, ← hz1]
  clear hz0 hz1 hz e
  constructor
  · refine congrArg z (funext fun x => Fin.ext ?_)
    fin_cases x <;> simp
  · refine congrArg z (funext fun x => Fin.ext ?_)
    fin_cases x <;> simp

end Cert.Gate

end
-- ==== Proof.RouteRead.lean ====
/- The reference's gates at a token, in terms of the token's logits. -/
module

public import proofs.«01_k».proof.Proof.Gen.RouteRefIdeal.Read
public import proofs.«01_k».proof.Proof.RouteSort

@[expose] public section

set_option maxRecDepth 16384

noncomputable section

namespace Cert.RouteRefIdeal.Final

open Cert.RouteRefIdeal Cert.RouteRefIdeal.Gen Cert.RouteRefIdeal.Read Idealize.ShloMosaic Idealize.ShloMosaic.TcCoe Idealize.SL.Sem
open Cert.Gate

theorem bits_bot : Ideal.ofBits .f32 0xFF800000#32 = (⊥ : EReal) := by simp [Ideal.ofBits, Ideal.ieee]

theorem select_eq {α : Type} (p r : BitVec 32) (x y : α) : Scalar.select (IntOp.cmpi .eq p r) x y = if p = r then x else y := by
  by_cases h : p = r
  · subst h; simp [Scalar.select, IntOp.cmpi]
  · have : (p == r) = false := by simpa using h
    simp [Scalar.select, IntOp.cmpi, this, h]

theorem exp_zero : Ideal.exp 0 = 1 := by
  have := Ideal.exp_coe 0
  simpa using this

theorem fold_four {α : Type} (op : α → α → α) [Std.Commutative op] [Std.Associative op] (b : α) (f : Fin 4 → α) :
    Finset.fold op b f Finset.univ = op (f 0) (op (f 1) (op (f 2) (op (f 3) b))) := by
  have e : (Finset.univ : Finset (Fin 4)) = {0, 1, 2, 3} := by decide
  rw [e, Finset.fold_insert (by decide), Finset.fold_insert (by decide), Finset.fold_insert (by decide), Finset.fold_singleton]

theorem fold_two {α : Type} (op : α → α → α) [Std.Commutative op] [Std.Associative op] (b : α) (f : Fin 2 → α) :
    Finset.fold op b f Finset.univ = op (f 0) (op (f 1) b) := by
  have e : (Finset.univ : Finset (Fin 2)) = {0, 1} := by decide
  rw [e, Finset.fold_insert (by decide), Finset.fold_singleton]

theorem min_first (a b c d : EReal) : IntOp.minsi (if a = top a b c d then BitVec.ofNat 32 (0 : Fin 4).val else 4#32)
    (IntOp.minsi (if b = top a b c d then BitVec.ofNat 32 (1 : Fin 4).val else 4#32) (IntOp.minsi (if c = top a b c d then BitVec.ofNat 32 (2 : Fin 4).val else 4#32)
      (IntOp.minsi (if d = top a b c d then BitVec.ofNat 32 (3 : Fin 4).val else 4#32) 2147483647#32))) = first a b c d := by
  have h := first_cases a b c d
  unfold first at h ⊢
  generalize top a b c d = t at *
  by_cases ha : a = t <;> by_cases hb : b = t <;> by_cases hc : c = t <;> by_cases hd : d = t <;>
    simp only [ha, hb, hc, hd, if_true, if_false] at h ⊢ <;> first | decide | (exfalso; revert h; decide)

variable (x0 : FVec Ideal S16896x4096 .f32) (x1 : FVec Ideal S4096 .f32) (x2 : FVec Ideal S4096x4 .f32) (x3 : FVec Ideal S4 .f32)
  (x4 : FVec Ideal S4096x16 .f32) (x5 : FVec Ideal S16 .f32) (r : Fin 16896)

/-- A token's group logits. -/
abbrev u (j : Fin 4) : EReal := val_main_v16 (F := Ideal) x0 x1 x2 x3 (ix2 r j)

/-- A token's expert logits. -/
abbrev w (j : Fin 16) : EReal := val_main_v38 (F := Ideal) x0 x1 x4 x5 (ix2 r j)

/-- The greatest of a token's group logits. -/
abbrev utop : EReal := top (u x0 x1 x2 x3 r 0) (u x0 x1 x2 x3 r 1) (u x0 x1 x2 x3 r 2) (u x0 x1 x2 x3 r 3)

/-- A token's group. -/
abbrev ufirst : BitVec 32 := first (u x0 x1 x2 x3 r 0) (u x0 x1 x2 x3 r 1) (u x0 x1 x2 x3 r 2) (u x0 x1 x2 x3 r 3)

/-- The sum of the exponentials of a token's group logits off their greatest. -/
abbrev usum : EReal := esum (u x0 x1 x2 x3 r 0) (u x0 x1 x2 x3 r 1) (u x0 x1 x2 x3 r 2) (u x0 x1 x2 x3 r 3)

/-- The logit of the chosen group's expert `k`. -/
abbrev cw (k : Fin 4) : EReal := pick (ufirst x0 x1 x2 x3 r) (w x0 x1 x4 x5 r ⟨k.val, by omega⟩) (w x0 x1 x4 x5 r ⟨4 + k.val, by omega⟩)
  (w x0 x1 x4 x5 r ⟨8 + k.val, by omega⟩) (w x0 x1 x4 x5 r ⟨12 + k.val, by omega⟩)

theorem v17 : val_main_v17 (F := Ideal) x0 x1 x2 x3 (ix1 r) = utop x0 x1 x2 x3 r := by
  pointwise [val_main_v17]
  rw [fold_four]
  simp [val_main_cst_2, constant, bits_bot, top, max_assoc]

theorem v28 : val_main_v28 (F := Ideal) x0 x1 x2 x3 (ix1 r) = utop x0 x1 x2 x3 r := by
  pointwise [val_main_v28]
  rw [fold_four]
  simp [val_main_cst_5, constant, bits_bot, top, max_assoc]

theorem v21 (j : Fin 4) : val_main_v21 (F := Ideal) x0 x1 x2 x3 (ix2 r j) = utop x0 x1 x2 x3 r := by
  rw [← v17]
  pointwise [val_main_v21, val_main_v20, val_main_v19, val_main_v18, val_main_cst_3]
  rw [bits_bot]; simp

theorem v23 (j : Fin 4) : val_main_v23 (F := Ideal) x0 x1 x2 x3 (ix2 r j) = Ideal.exp (u x0 x1 x2 x3 r j - utop x0 x1 x2 x3 r) := by
  rw [← v21 x0 x1 x2 x3 r j]
  pointwise [val_main_v23, val_main_v22]

theorem v24 : val_main_v24 (F := Ideal) x0 x1 x2 x3 (ix1 r) = usum x0 x1 x2 x3 r := by
  pointwise [val_main_v24, val_main_cst_4]
  simp only [v23, Fin.sum_univ_four]
  simp [esum]

theorem v27 (j : Fin 4) : val_main_v27 (F := Ideal) x0 x1 x2 x3 (ix2 r j)
    = Ideal.div (Ideal.exp (u x0 x1 x2 x3 r j - utop x0 x1 x2 x3 r)) (usum x0 x1 x2 x3 r) := by
  rw [← v24, ← v23]
  pointwise [val_main_v27, val_main_v26, val_main_v25]

theorem v33 (j : Fin 4) : val_main_v33 (F := Ideal) x0 x1 x2 x3 (ix2 r j)
    = if u x0 x1 x2 x3 r j = utop x0 x1 x2 x3 r then BitVec.ofNat 32 j.val else 4#32 := by
  rw [← v28]
  pointwise [val_main_v33, val_main_v31, val_main_v30, val_main_v29, val_main_v32, val_main_call0_v1, val_main_call0_v2, val_main_call0_v0, val_main_c]
  rfl

theorem v34 : val_main_v34 (F := Ideal) x0 x1 x2 x3 (ix1 r) = ufirst x0 x1 x2 x3 r := by
  pointwise [val_main_v34]
  rw [fold_four]
  simp only [v33, utop]
  exact min_first _ _ _ _

theorem v39 (g k : Fin 4) : val_main_v39 (F := Ideal) x0 x1 x4 x5 (ix3 r g k) = w x0 x1 x4 x5 r ⟨4 * g.val + k.val, by omega⟩ := by
  pointwise [val_main_v39]
  have e : g.val * 4 + k.val = 4 * g.val + k.val := by omega
  simp only [e]

theorem v45 (j : Fin 4) : val_main_v45 (F := Ideal) x0 x1 x2 x3 (ix2 r j) = IntOp.cmpi .eq (BitVec.ofNat 32 j.val) (ufirst x0 x1 x2 x3 r) := by
  rw [← v34]
  pointwise [val_main_v45, val_main_v44, val_main_v43, val_main_v42, val_main_v41, val_main_v40]

theorem v47 (g k : Fin 4) : val_main_v47 (F := Ideal) x0 x1 x2 x3 x4 x5 (ix3 r g k)
    = if BitVec.ofNat 32 g.val = ufirst x0 x1 x2 x3 r then w x0 x1 x4 x5 r ⟨4 * g.val + k.val, by omega⟩ else 0 := by
  rw [← select_eq, ← v45, ← v39]
  pointwise [val_main_v47, val_main_call1_v1, val_main_call1_v2, val_main_call1_v0, val_main_cst_7, val_main_v46]
  exact congrArg (Scalar.select _ _) Ideal.ofBits_zero_f32

theorem sum_pick (p : BitVec 32) (hp : p = 0#32 ∨ p = 1#32 ∨ p = 2#32 ∨ p = 3#32) (a b c d : EReal) :
    (if BitVec.ofNat 32 (0 : Fin 4).val = p then a else 0) + (if BitVec.ofNat 32 (1 : Fin 4).val = p then b else 0)
      + (if BitVec.ofNat 32 (2 : Fin 4).val = p then c else 0) + (if BitVec.ofNat 32 (3 : Fin 4).val = p then d else 0) = pick p a b c d := by
  rcases hp with rfl | rfl | rfl | rfl <;> simp [pick]

theorem hfirst (a b c d : EReal) : first a b c d = 0#32 ∨ first a b c d = 1#32 ∨ first a b c d = 2#32 ∨ first a b c d = 3#32 := by
  rcases first_cases a b c d with h | h | h | h <;> simp [h.1]

theorem v48 (k : Fin 4) : val_main_v48 (F := Ideal) x0 x1 x2 x3 x4 x5 (ix2 r k) = cw x0 x1 x2 x3 x4 x5 r k := by
  pointwise [val_main_v48, val_main_cst_8]
  simp only [v47, Fin.sum_univ_four]
  rw [sum_pick _ (hfirst _ _ _ _)]
  simp [cw]

theorem values (k : Fin 2) : val_main_values (F := Ideal) x0 x1 x2 x3 x4 x5 (ix2 r k)
    = if k = 0 then top (cw x0 x1 x2 x3 x4 x5 r 0) (cw x0 x1 x2 x3 x4 x5 r 1) (cw x0 x1 x2 x3 x4 x5 r 2) (cw x0 x1 x2 x3 x4 x5 r 3)
      else next (cw x0 x1 x2 x3 x4 x5 r 0) (cw x0 x1 x2 x3 x4 x5 r 1) (cw x0 x1 x2 x3 x4 x5 r 2) (cw x0 x1 x2 x3 x4 x5 r 3) := by
  simp only [← v48]
  rcases (by omega : k.val = 0 ∨ k.val = 1) with hk | hk
  · obtain rfl : k = 0 := Fin.ext hk
    rw [if_pos rfl]; unfold val_main_values; exact (topK_two (val_main_v48 (F := Ideal) x0 x1 x2 x3 x4 x5) sliceFits_S16896x4_S16896x2 r).1
  · obtain rfl : k = 1 := Fin.ext hk
    rw [if_neg (by decide)]; unfold val_main_values; exact (topK_two (val_main_v48 (F := Ideal) x0 x1 x2 x3 x4 x5) sliceFits_S16896x4_S16896x2 r).2

theorem v50 (hr : ∃ z : ℝ, utop x0 x1 x2 x3 r = z) : val_main_v50 (F := Ideal) x0 x1 x2 x3 (ix1 r) = Ideal.div 1 (usum x0 x1 x2 x3 r) := by
  have h49 : ∀ j : Fin 4, val_main_v49 (F := Ideal) x0 x1 x2 x3 (ix2 r j)
      = if BitVec.ofNat 32 j.val = ufirst x0 x1 x2 x3 r then val_main_v27 (F := Ideal) x0 x1 x2 x3 (ix2 r j) else 0 := by
    intro j
    rw [← select_eq, ← v45]
    pointwise [val_main_v49, val_main_call2_v1, val_main_call2_v0, val_main_cst_9]
    exact congrArg (Scalar.select _ _) Ideal.ofBits_zero_f32
  pointwise [val_main_v50, val_main_cst_10]
  simp only [h49, Fin.sum_univ_four, v27]
  rw [sum_pick _ (hfirst _ _ _ _)]
  have e0 : Ideal.exp (utop x0 x1 x2 x3 r - utop x0 x1 x2 x3 r) = 1 := by
    rw [real_sub_self hr]; exact exp_zero
  rcases first_cases (u x0 x1 x2 x3 r 0) (u x0 x1 x2 x3 r 1) (u x0 x1 x2 x3 r 2) (u x0 x1 x2 x3 r 3) with h | h | h | h <;>
    rw [h.1, h.2] <;> simp [pick, e0]

/-- The chosen group's greatest expert logit, and the next. -/
abbrev ctop : EReal := top (cw x0 x1 x2 x3 x4 x5 r 0) (cw x0 x1 x2 x3 x4 x5 r 1) (cw x0 x1 x2 x3 x4 x5 r 2) (cw x0 x1 x2 x3 x4 x5 r 3)
abbrev cnext : EReal := next (cw x0 x1 x2 x3 x4 x5 r 0) (cw x0 x1 x2 x3 x4 x5 r 1) (cw x0 x1 x2 x3 x4 x5 r 2) (cw x0 x1 x2 x3 x4 x5 r 3)

theorem v56 (k : Fin 2) : val_main_v56 (F := Ideal) x0 x1 x2 x3 x4 x5 (ix2 r k) = ctop x0 x1 x2 x3 x4 x5 r := by
  have h52 : val_main_v52 (F := Ideal) x0 x1 x2 x3 x4 x5 (ix1 r) = ctop x0 x1 x2 x3 x4 x5 r := by
    pointwise [val_main_v52]
    rw [fold_two, values, values]
    have := next_le (cw x0 x1 x2 x3 x4 x5 r 0) (cw x0 x1 x2 x3 x4 x5 r 1) (cw x0 x1 x2 x3 x4 x5 r 2) (cw x0 x1 x2 x3 x4 x5 r 3)
    simp [val_main_cst_11, constant, bits_bot, this]
  rw [← h52]
  pointwise [val_main_v56, val_main_v55, val_main_v54, val_main_v53, val_main_cst_12]
  rw [bits_bot]; simp

theorem v58 (hc : ∃ z : ℝ, ctop x0 x1 x2 x3 x4 x5 r = z) (k : Fin 2) : val_main_v58 (F := Ideal) x0 x1 x2 x3 x4 x5 (ix2 r k)
    = if k = 0 then 1 else Ideal.exp (cnext x0 x1 x2 x3 x4 x5 r - ctop x0 x1 x2 x3 x4 x5 r) := by
  have e : val_main_v58 (F := Ideal) x0 x1 x2 x3 x4 x5 (ix2 r k)
      = Ideal.exp (val_main_values (F := Ideal) x0 x1 x2 x3 x4 x5 (ix2 r k) - val_main_v56 (F := Ideal) x0 x1 x2 x3 x4 x5 (ix2 r k)) := by
    pointwise [val_main_v58, val_main_v57]
  rw [e, v56, values]
  by_cases h : k = 0
  · rw [if_pos h, if_pos h, real_sub_self hc]; exact exp_zero
  · rw [if_neg h, if_neg h]

theorem v64 (hr : ∃ z : ℝ, utop x0 x1 x2 x3 r = z) (hc : ∃ z : ℝ, ctop x0 x1 x2 x3 x4 x5 r = z) (k : Fin 2) :
    val_main_v64 (F := Ideal) x0 x1 x2 x3 x4 x5 (ix2 r k) = Ideal.div 1 (usum x0 x1 x2 x3 r)
      * Ideal.div (if k = 0 then 1 else Ideal.exp (cnext x0 x1 x2 x3 x4 x5 r - ctop x0 x1 x2 x3 x4 x5 r))
          (1 + Ideal.exp (cnext x0 x1 x2 x3 x4 x5 r - ctop x0 x1 x2 x3 x4 x5 r)) := by
  have h59 : val_main_v59 (F := Ideal) x0 x1 x2 x3 x4 x5 (ix1 r) = 1 + Ideal.exp (cnext x0 x1 x2 x3 x4 x5 r - ctop x0 x1 x2 x3 x4 x5 r) := by
    pointwise [val_main_v59, val_main_cst_13]
    simp only [v58 x0 x1 x2 x3 x4 x5 r hc, Fin.sum_univ_two]
    simp
  rw [← h59, ← v58 x0 x1 x2 x3 x4 x5 r hc k, ← v50 x0 x1 x2 x3 r hr]
  pointwise [val_main_v64, val_main_v63, val_main_v62, val_main_v61, val_main_v60, val_main_v51]

/-- The logits of a token: its groups' first, then its experts'. -/
def logits (j : Fin 20) : EReal := if h : j.val < 4 then u x0 x1 x2 x3 r ⟨j.val, h⟩ else w x0 x1 x4 x5 r ⟨j.val - 4, by omega⟩

theorem v67 (hr : ∃ z : ℝ, utop x0 x1 x2 x3 r = z) (hc : ∃ z : ℝ, ctop x0 x1 x2 x3 x4 x5 r = z) (k : Fin 8) :
    val_main_v67 (F := Ideal) x0 x1 x2 x3 x4 x5 (ix2 k r) = gate (logits x0 x1 x2 x3 x4 x5 r) k.val := by
  have e : val_main_v67 (F := Ideal) x0 x1 x2 x3 x4 x5 (ix2 k r) = if h : k.val < 2 then val_main_v64 (F := Ideal) x0 x1 x2 x3 x4 x5 (ix2 r ⟨k.val, h⟩) else 0 := by
    pointwise [val_main_v67, val_main_v65, val_main_v66, val_main_cst_14]
  have hs : share (logits x0 x1 x2 x3 x4 x5 r) = Ideal.exp (cnext x0 x1 x2 x3 x4 x5 r - ctop x0 x1 x2 x3 x4 x5 r) := rfl
  have hu : esum (logits x0 x1 x2 x3 x4 x5 r 0) (logits x0 x1 x2 x3 x4 x5 r 1) (logits x0 x1 x2 x3 x4 x5 r 2) (logits x0 x1 x2 x3 x4 x5 r 3) = usum x0 x1 x2 x3 r := rfl
  rw [e]
  unfold gate
  rw [hs, hu]
  by_cases h0 : k.val = 0
  · rw [dif_pos (by omega), if_pos h0, v64 x0 x1 x2 x3 x4 x5 r hr hc, if_pos (Fin.ext h0)]
  by_cases h1 : k.val = 1
  · rw [dif_pos (by omega), if_neg h0, if_pos h1, v64 x0 x1 x2 x3 x4 x5 r hr hc, if_neg (fun h => h0 (congrArg Fin.val h))]
  · rw [dif_neg (by omega), if_neg h0, if_neg h1]

end Cert.RouteRefIdeal.Final

end
-- ==== Proof.RouteLogit.lean ====
/- The kernel's logits are the reference's: the two halves of each split sum to the whole, and the products with a
   vanishing half are zero because every entry is real. -/
module

public import proofs.«01_k».proof.Proof.RoutePay
public import proofs.«01_k».proof.Proof.RouteRead

@[expose] public section

set_option maxRecDepth 16384

noncomputable section

namespace Cert.RouteIdeal.Final

open Cert.RouteIdeal Cert.RouteIdeal.Gen Idealize.ShloMosaic Idealize.ShloMosaic.TcCoe Idealize.SL.Sem
open Cert.Gate Cert.RouteRefIdeal.Read

variable (m : (ℓ : Loc nD τ sig) → Buf (Elt Ideal) ℓ) (c : Dev nD) (t : Fin cfg0.N) (q : Fin 512)

/-- The row of the whole that the block's row `q` is. -/
def row : Fin 16896 := ⟨t.val * 512 + q.val, by have : t.val < 33 := t.isLt; omega⟩

theorem norm_eq (k : Fin 4096) : k0_pay6 (iblk m c 0 t) (iblk m c 1 t) (ix2 q k)
    = val_main_v12 (F := Ideal) (m ((c : Thread nD τ).loc main_arg0)) (m ((c : Thread nD τ).loc main_arg1)) (ix2 (row t q) k) := by
  pointwise [k0_pay6, val_main_v12, val_main_v11, val_main_v10, val_main_v9, val_main_v8, val_main_v7, val_main_v6, val_main_v5, val_main_v4, val_main_v3,
    val_main_v2, val_main_v1, val_main_v0, val_main_cst, val_main_cst_0, val_main_cst_1]
  simp only [blk0, blk1, row]

theorem norm_real (X : FVec Ideal S16896x4096 .f32) (G : FVec Ideal S4096 .f32)
    (h1 : ∀ k : Fin 4096, ∃ y : ℝ, G (ix1 k) = (y : EReal)) (r : Fin 16896) (k : Fin 4096) :
    ∃ z : ℝ, val_main_v12 (F := Ideal) X G (ix2 r k) = z := by
  pointwise [val_main_v12, val_main_v11, val_main_v10, val_main_v9, val_main_v8, val_main_v7, val_main_v6, val_main_v5, val_main_v4, val_main_v3,
    val_main_v2, val_main_v1, val_main_v0, val_main_cst, val_main_cst_0, val_main_cst_1]
  exact real_mul (real_scaled (fun k => X (ix2 r k)) k) (h1 k)

theorem v16_at (X : FVec Ideal S16896x4096 .f32) (G : FVec Ideal S4096 .f32) (W b) (r : Fin 16896) (j : Fin 4) :
    val_main_v16 (F := Ideal) X G W b (ix2 r j) = ∑ k : Fin 4096, val_main_v12 (F := Ideal) X G (ix2 r k) * W (ix2 k j) + b (ix1 j) := by
  pointwise [val_main_v16, val_main_v15, val_main_v14, val_main_v13]

theorem v38_at (X : FVec Ideal S16896x4096 .f32) (G : FVec Ideal S4096 .f32) (W b) (r : Fin 16896) (j : Fin 16) :
    val_main_v38 (F := Ideal) X G W b (ix2 r j) = ∑ k : Fin 4096, val_main_v12 (F := Ideal) X G (ix2 r k) * W (ix2 k j) + b (ix1 j) := by
  pointwise [val_main_v38, val_main_v37, val_main_v36, val_main_v35]

theorem logit_sum (x : Vec Ideal S512x4096 .f32) (g : Vec Ideal S1x4096 .f32) (hi lo : Vec Ideal S32x4096 .bf16) (b : Vec Ideal S32x1 .f32) (j : Fin 20)
    (h : Fin 4096 → EReal) (w : Fin 4096 → EReal) (bj : EReal) (hh : ∀ k, ∃ z : ℝ, h k = z)
    (eh : ∀ k, k0_pay6 x g (ix2 q k) = h k) (ew : ∀ k, hi (ix2 (⟨j.val, by omega⟩ : Fin 32) k) = w k) (el : ∀ k, lo (ix2 (⟨j.val, by omega⟩ : Fin 32) k) = 0)
    (eb : b (ix2 (⟨j.val, by omega⟩ : Fin 32) 0) = bj) :
    logit (k0_pay7 x g) (k0_pay9 x g hi hi) lo b q j = ∑ k, h k * w k + bj := by
  unfold logit
  pointwise [k0_pay10, k0_pay9, k0_pay7]
  simp only [eh, ew, el, eb]
  have e1 : ∀ k, w k * (h k - h k) = 0 := fun k => by rw [real_sub_self (hh k), mul_zero]
  simp [e1, mul_comm]

theorem bias_at (j : Fin 32) : View.ld (iblk m c 4 t) (Rect.unit ![0, 0] ![32, 1] inb_S32x128_S32x1_0_0) (ix2 j 0) = V m c main_v10 (ix2 j 0) := by
  rw [← blk4 m c t]
  refine congrArg (iblk m c 4 t) (funext fun a => Fin.ext ?_)
  fin_cases a <;> simp [Rect.unit, ix2]

section real

variable (h1 : ∀ k : Fin 4096, ∃ y : ℝ, m ((c : Thread nD τ).loc main_arg1) (ix1 k) = (y : EReal))
  (h2 : ∀ (k : Fin 4096) (j : Fin 4), ∃ y : ℝ, m ((c : Thread nD τ).loc main_arg2) (ix2 k j) = (y : EReal))
  (h3 : ∀ j : Fin 4, ∃ y : ℝ, m ((c : Thread nD τ).loc main_arg3) (ix1 j) = (y : EReal))
  (h4 : ∀ (k : Fin 4096) (j : Fin 16), ∃ y : ℝ, m ((c : Thread nD τ).loc main_arg4) (ix2 k j) = (y : EReal))
  (h5 : ∀ j : Fin 16, ∃ y : ℝ, m ((c : Thread nD τ).loc main_arg5) (ix1 j) = (y : EReal))

/-- The reference's logits of a row. -/
abbrev rl (r : Fin 16896) : Fin 20 → EReal := Cert.RouteRefIdeal.Final.logits (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5)) r

include h1 h2 h4 in
theorem logit_eq (j : Fin 20) : logit (k0_pay7 (iblk m c 0 t) (iblk m c 1 t)) (k0_pay9 (iblk m c 0 t) (iblk m c 1 t) (iblk m c 2 t) (iblk m c 2 t))
    (iblk m c 3 t) (View.ld (iblk m c 4 t) (Rect.unit ![0, 0] ![32, 1] inb_S32x128_S32x1_0_0)) q j = rl m c (row t q) j := by
  have hb := bias_at m c t (⟨j.val, by omega⟩ : Fin 32)
  have hlo : ∀ k, iblk m c 3 t (ix2 (⟨j.val, by omega⟩ : Fin 32) k)
      = wr (m ((c : Thread nD τ).loc main_arg2)) (m ((c : Thread nD τ).loc main_arg4)) (ix2 (⟨j.val, by omega⟩ : Fin 32) k)
        - wr (m ((c : Thread nD τ).loc main_arg2)) (m ((c : Thread nD τ).loc main_arg4)) (ix2 (⟨j.val, by omega⟩ : Fin 32) k) := by
    intro k; rw [blk3, V_lo]; rfl
  have hhi : ∀ k, iblk m c 2 t (ix2 (⟨j.val, by omega⟩ : Fin 32) k)
      = wr (m ((c : Thread nD τ).loc main_arg2)) (m ((c : Thread nD τ).loc main_arg4)) (ix2 (⟨j.val, by omega⟩ : Fin 32) k) := by
    intro k; rw [blk2, V_hi]; rfl
  by_cases h : j.val < 4
  · rw [logit_sum q _ _ _ _ _ j _ (fun k => m ((c : Thread nD τ).loc main_arg2) (ix2 k (⟨j.val, h⟩ : Fin 4))) (m ((c : Thread nD τ).loc main_arg3) (ix1 (⟨j.val, h⟩ : Fin 4)))
      (norm_real _ _ h1 (row t q)) (norm_eq m c t q) (fun k => by rw [hhi, wr_grp _ _ _ h]) (fun k => by rw [hlo, wr_grp _ _ _ h, real_sub_self (h2 _ _)])
      (by rw [hb, V_br, br_grp _ _ _ h])]
    show _ = Cert.RouteRefIdeal.Final.logits _ _ _ _ _ _ _ _
    unfold Cert.RouteRefIdeal.Final.logits
    rw [dif_pos h, Cert.RouteRefIdeal.Final.u, v16_at]
  · have h' : 4 ≤ j.val := by omega
    rw [logit_sum q _ _ _ _ _ j _ (fun k => m ((c : Thread nD τ).loc main_arg4) (ix2 k (⟨j.val - 4, by omega⟩ : Fin 16))) (m ((c : Thread nD τ).loc main_arg5) (ix1 (⟨j.val - 4, by omega⟩ : Fin 16)))
      (norm_real _ _ h1 (row t q)) (norm_eq m c t q) (fun k => by rw [hhi, wr_exp _ _ _ h' j.isLt]) (fun k => by rw [hlo, wr_exp _ _ _ h' j.isLt, real_sub_self (h4 _ _)])
      (by rw [hb, V_br, br_exp _ _ _ h' j.isLt])]
    show _ = Cert.RouteRefIdeal.Final.logits _ _ _ _ _ _ _ _
    unfold Cert.RouteRefIdeal.Final.logits
    rw [dif_neg h, Cert.RouteRefIdeal.Final.w, v38_at]

include h1 h2 h3 in
theorem real_utop (r : Fin 16896) : ∃ z : ℝ, Cert.RouteRefIdeal.Final.utop (m ((c : Thread nD τ).loc main_arg0)) (m ((c : Thread nD τ).loc main_arg1))
    (m ((c : Thread nD τ).loc main_arg2)) (m ((c : Thread nD τ).loc main_arg3)) r = z := by
  have hu : ∀ j : Fin 4, ∃ z : ℝ, Cert.RouteRefIdeal.Final.u (m ((c : Thread nD τ).loc main_arg0)) (m ((c : Thread nD τ).loc main_arg1))
      (m ((c : Thread nD τ).loc main_arg2)) (m ((c : Thread nD τ).loc main_arg3)) r j = z := by
    intro j
    rw [Cert.RouteRefIdeal.Final.u, v16_at]
    exact real_add (real_sum _ fun k => real_mul (norm_real _ _ h1 r k) (h2 k j)) (h3 j)
  exact real_top (hu 0) (hu 1) (hu 2) (hu 3)

include h1 h4 h5 in
theorem real_ctop (r : Fin 16896) : ∃ z : ℝ, Cert.RouteRefIdeal.Final.ctop (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) r = z := by
  have hw : ∀ j : Fin 16, ∃ z : ℝ, Cert.RouteRefIdeal.Final.w (m ((c : Thread nD τ).loc main_arg0)) (m ((c : Thread nD τ).loc main_arg1))
      (m ((c : Thread nD τ).loc main_arg4)) (m ((c : Thread nD τ).loc main_arg5)) r j = z := by
    intro j
    rw [Cert.RouteRefIdeal.Final.w, v38_at]
    exact real_add (real_sum _ fun k => real_mul (norm_real _ _ h1 r k) (h4 k j)) (h5 j)
  have hp : ∀ (p : BitVec 32) (j0 j1 j2 j3 : Fin 16), ∃ z : ℝ, pick p (Cert.RouteRefIdeal.Final.w (m ((c : Thread nD τ).loc main_arg0)) (m ((c : Thread nD τ).loc main_arg1))
      (m ((c : Thread nD τ).loc main_arg4)) (m ((c : Thread nD τ).loc main_arg5)) r j0) (Cert.RouteRefIdeal.Final.w (m ((c : Thread nD τ).loc main_arg0)) (m ((c : Thread nD τ).loc main_arg1))
      (m ((c : Thread nD τ).loc main_arg4)) (m ((c : Thread nD τ).loc main_arg5)) r j1) (Cert.RouteRefIdeal.Final.w (m ((c : Thread nD τ).loc main_arg0)) (m ((c : Thread nD τ).loc main_arg1))
      (m ((c : Thread nD τ).loc main_arg4)) (m ((c : Thread nD τ).loc main_arg5)) r j2) (Cert.RouteRefIdeal.Final.w (m ((c : Thread nD τ).loc main_arg0)) (m ((c : Thread nD τ).loc main_arg1))
      (m ((c : Thread nD τ).loc main_arg4)) (m ((c : Thread nD τ).loc main_arg5)) r j3) = z := by
    intro p j0 j1 j2 j3
    unfold pick
    split_ifs
    · exact hw j0
    · exact hw j1
    · exact hw j2
    · exact hw j3
  exact real_top (hp _ _ _ _ _) (hp _ _ _ _ _) (hp _ _ _ _ _) (hp _ _ _ _ _)

end real

end Cert.RouteIdeal.Final

end
-- ==== Proof.Route.lean ====
/- The value of the router's gates: the result array is the reference's term of the argument arrays. -/
module

public import proofs.«01_k».proof.Proof.Gen.RouteRefIdeal.Run
public import proofs.«01_k».proof.Proof.RouteLogit

@[expose] public section

set_option maxRecDepth 16384

noncomputable section

namespace Cert.RouteIdeal.Final

open Cert.RouteIdeal Cert.RouteIdeal.Gen Idealize.ShloMosaic Idealize.ShloMosaic.TcCoe Idealize.SL.Sem
open Idealize.ShloMosaic.Pipeline (Dat)
open Cert.Gate

/-- The reference's result as a function of its arguments. -/
abbrev ref (x0 : FVec Ideal S16896x4096 .f32) (x1 : FVec Ideal S4096 .f32) (x2 : FVec Ideal S4096x4 .f32) (x3 : FVec Ideal S4 .f32)
    (x4 : FVec Ideal S4096x16 .f32) (x5 : FVec Ideal S16 .f32) : FVec Ideal S8x16896 .f32 :=
  Cert.RouteRefIdeal.Read.val_main_v67 (F := Ideal) x0 x1 x2 x3 x4 x5

/-- The block of gates, row by row: the first and the second row as stored, and the rows below as first filled. -/
theorem canon_rows (w1 w0 : S1x512.Idx → Elt Ideal .f32) (z : S8x512.Idx → Elt Ideal .f32) (k : Fin 8) (q : Fin 512) :
    View.canon (Val := Elt Ideal) [(⟨Rect.unit (s := S8x512) ![1, 0] S1x512.size inb_S8x512_S1x512_1_0, w1⟩ : View.Piece (Elt Ideal) S8x512 .f32),
      ⟨Rect.unit (s := S8x512) ![0, 0] S1x512.size inb_S8x512_S1x512_0_0, w0⟩, ⟨Rect.unit (s := S8x512) ![0, 0] S8x512.size inb_S8x512_S8x512_0_0, z⟩] (ix2 k q)
      = if k.val = 0 then w0 (ix2 0 q) else if k.val = 1 then w1 (ix2 0 q) else z (ix2 k q) := by
  by_cases h1 : k.val = 1
  · rw [if_neg (by omega), if_pos h1]
    have he : (Rect.unit (s := S8x512) ![1, 0] S1x512.size inb_S8x512_S1x512_1_0).emb (ix2 (0 : Fin 1) q) = ix2 k q := by
      funext x; apply Fin.ext
      fin_cases x
      · show 1 + 1 * 0 = k.val; omega
      · show 0 + 1 * q.val = q.val; omega
    rw [← he]
    exact View.canon_cons_emb _ _ _ _
  rw [View.canon_cons_of_not_mem]
  swap
  · intro hm
    obtain ⟨i, hi, he⟩ := (LoadRect.mem_set _).mp hm (0 : Fin 2)
    have hi1 : i < 1 := hi
    have he' : k.val = 1 + 1 * i := he
    omega
  by_cases h0 : k.val = 0
  · rw [if_pos h0]
    have he : (Rect.unit (s := S8x512) ![0, 0] S1x512.size inb_S8x512_S1x512_0_0).emb (ix2 (0 : Fin 1) q) = ix2 k q := by
      funext x; apply Fin.ext
      fin_cases x
      · show 0 + 1 * 0 = k.val; omega
      · show 0 + 1 * q.val = q.val; omega
    rw [← he]
    exact View.canon_cons_emb _ _ _ _
  rw [View.canon_cons_of_not_mem]
  swap
  · intro hm
    obtain ⟨i, hi, he⟩ := (LoadRect.mem_set _).mp hm (0 : Fin 2)
    have hi1 : i < 1 := hi
    have he' : k.val = 0 + 1 * i := he
    omega
  rw [if_neg h0, if_neg h1]
  exact congrFun (View.canon_cons_unit_lit inb_S8x512_S8x512_0_0 z [] (by decide)) (ix2 k q)

section chosen

variable (v53 v54 v55 v56 v57 v58 v59 v60 v61 v62 v63 v64 v65 v66 v67 v68 : FVec Ideal S1x512 .f32) (v81 : IVec S1x512 32) (q : Fin 512)

theorem row39 : k0_pay39 v53 v54 v55 v56 v57 v58 v59 v60 v61 v62 v63 v64 v65 v66 v67 v68 v81 (ix2 0 q)
    = top (k0_pay35 v53 v57 v61 v65 v81 (ix2 0 q)) (k0_pay36 v54 v58 v62 v66 v81 (ix2 0 q)) (k0_pay37 v55 v59 v63 v67 v81 (ix2 0 q)) (k0_pay38 v56 v60 v64 v68 v81 (ix2 0 q)) := by
  pointwise [k0_pay39, top]

theorem row40 : k0_pay40 v53 v54 v55 v56 v57 v58 v59 v60 v61 v62 v63 v64 v65 v66 v67 v68 v81 (ix2 0 q)
    = if k0_pay37 v55 v59 v63 v67 v81 (ix2 0 q) = k0_pay39 v53 v54 v55 v56 v57 v58 v59 v60 v61 v62 v63 v64 v65 v66 v67 v68 v81 (ix2 0 q) then 2#32 else 3#32 := by
  pointwise [k0_pay40]

end chosen

section gates

variable (A : FVec Ideal S512x4096 .bf16) (P : FVec Ideal S32x512 .f32) (lo : Vec Ideal S32x4096 .bf16) (b : Vec Ideal S32x1 .f32) (q : Fin 512)

/-- What the body stores in the block's rows is the gates of the block's logits. -/
theorem gates (k : Fin 8) : View.canon (Val := Elt Ideal) [(⟨Rect.unit (s := S8x512) ![1, 0] S1x512.size inb_S8x512_S1x512_1_0,
        k0_pay50 (k0_pay34 (k0_pay33 A P lo b)) (k0_pay35 (k0_pay15 A P lo b) (k0_pay19 A P lo b) (k0_pay23 A P lo b) (k0_pay27 A P lo b) (k0_pay32 A P lo b))
          (k0_pay36 (k0_pay16 A P lo b) (k0_pay20 A P lo b) (k0_pay24 A P lo b) (k0_pay28 A P lo b) (k0_pay32 A P lo b))
          (k0_pay37 (k0_pay17 A P lo b) (k0_pay21 A P lo b) (k0_pay25 A P lo b) (k0_pay29 A P lo b) (k0_pay32 A P lo b))
          (k0_pay38 (k0_pay18 A P lo b) (k0_pay22 A P lo b) (k0_pay26 A P lo b) (k0_pay30 A P lo b) (k0_pay32 A P lo b))
          (k0_pay39 (k0_pay15 A P lo b) (k0_pay16 A P lo b) (k0_pay17 A P lo b) (k0_pay18 A P lo b) (k0_pay19 A P lo b) (k0_pay20 A P lo b) (k0_pay21 A P lo b) (k0_pay22 A P lo b)
            (k0_pay23 A P lo b) (k0_pay24 A P lo b) (k0_pay25 A P lo b) (k0_pay26 A P lo b) (k0_pay27 A P lo b) (k0_pay28 A P lo b) (k0_pay29 A P lo b) (k0_pay30 A P lo b) (k0_pay32 A P lo b))
          (k0_pay40 (k0_pay15 A P lo b) (k0_pay16 A P lo b) (k0_pay17 A P lo b) (k0_pay18 A P lo b) (k0_pay19 A P lo b) (k0_pay20 A P lo b) (k0_pay21 A P lo b) (k0_pay22 A P lo b)
            (k0_pay23 A P lo b) (k0_pay24 A P lo b) (k0_pay25 A P lo b) (k0_pay26 A P lo b) (k0_pay27 A P lo b) (k0_pay28 A P lo b) (k0_pay29 A P lo b) (k0_pay30 A P lo b) (k0_pay32 A P lo b))⟩ : View.Piece (Elt Ideal) S8x512 .f32),
      ⟨Rect.unit (s := S8x512) ![0, 0] S1x512.size inb_S8x512_S1x512_0_0,
        k0_pay49 (k0_pay34 (k0_pay33 A P lo b)) (k0_pay35 (k0_pay15 A P lo b) (k0_pay19 A P lo b) (k0_pay23 A P lo b) (k0_pay27 A P lo b) (k0_pay32 A P lo b))
          (k0_pay36 (k0_pay16 A P lo b) (k0_pay20 A P lo b) (k0_pay24 A P lo b) (k0_pay28 A P lo b) (k0_pay32 A P lo b))
          (k0_pay37 (k0_pay17 A P lo b) (k0_pay21 A P lo b) (k0_pay25 A P lo b) (k0_pay29 A P lo b) (k0_pay32 A P lo b))
          (k0_pay38 (k0_pay18 A P lo b) (k0_pay22 A P lo b) (k0_pay26 A P lo b) (k0_pay30 A P lo b) (k0_pay32 A P lo b))
          (k0_pay39 (k0_pay15 A P lo b) (k0_pay16 A P lo b) (k0_pay17 A P lo b) (k0_pay18 A P lo b) (k0_pay19 A P lo b) (k0_pay20 A P lo b) (k0_pay21 A P lo b) (k0_pay22 A P lo b)
            (k0_pay23 A P lo b) (k0_pay24 A P lo b) (k0_pay25 A P lo b) (k0_pay26 A P lo b) (k0_pay27 A P lo b) (k0_pay28 A P lo b) (k0_pay29 A P lo b) (k0_pay30 A P lo b) (k0_pay32 A P lo b))
          (k0_pay40 (k0_pay15 A P lo b) (k0_pay16 A P lo b) (k0_pay17 A P lo b) (k0_pay18 A P lo b) (k0_pay19 A P lo b) (k0_pay20 A P lo b) (k0_pay21 A P lo b) (k0_pay22 A P lo b)
            (k0_pay23 A P lo b) (k0_pay24 A P lo b) (k0_pay25 A P lo b) (k0_pay26 A P lo b) (k0_pay27 A P lo b) (k0_pay28 A P lo b) (k0_pay29 A P lo b) (k0_pay30 A P lo b) (k0_pay32 A P lo b))⟩,
      ⟨Rect.unit (s := S8x512) ![0, 0] S8x512.size inb_S8x512_S8x512_0_0, k0_pay4 (F := Ideal)⟩] (ix2 k q) = gate (logit A P lo b q) k.val := by
  rw [canon_rows, row49, row50, row47 _ _ _ _ _ _ _ (row39 _ _ _ _ _ _ _ _ _ _ _ _ _ _ _ _ _ _) (row40 _ _ _ _ _ _ _ _ _ _ _ _ _ _ _ _ _ _),
    row34, row33, row35, row36, row37, row38, row32, row15, row16, row17, row18, row19, row20, row21, row22, row23, row24, row25, row26, row27, row28, row29, row30]
  have hz : (k0_pay4 : FVec Ideal S8x512 .f32) (ix2 k q) = 0 := by pointwise [k0_pay4]
  rw [hz]
  rfl

end gates

variable (m : (ℓ : Loc nD τ sig) → Buf (Elt Ideal) ℓ) (c : Dev nD)

theorem outs_at (t : Fin cfg0.N) (k : Fin 8) (q : Fin 512) : (outsAt0 m c t.val t.isLt).2.2.1 (ix2 k q)
    = gate (logit (k0_pay7 (iblk m c 0 t) (iblk m c 1 t)) (k0_pay9 (iblk m c 0 t) (iblk m c 1 t) (iblk m c 2 t) (iblk m c 2 t))
        (iblk m c 3 t) (View.ld (iblk m c 4 t) (Rect.unit ![0, 0] ![32, 1] inb_S32x128_S32x1_0_0)) q) k.val := by
  by_cases h0 : t.val % 33 = 0
  · rw [outsAt0_A m c t h0]; frame_out
    exact gates _ _ _ _ q k
  · rw [outsAt0_B m c t h0]; frame_out
    exact gates _ _ _ _ q k

/-- The result array after the run, for a real gain, real weights and real biases. -/
theorem final (h1 : ∀ k : Fin 4096, ∃ y : ℝ, m ((c : Thread nD τ).loc main_arg1) (ix1 k) = (y : EReal))
    (h2 : ∀ (k : Fin 4096) (j : Fin 4), ∃ y : ℝ, m ((c : Thread nD τ).loc main_arg2) (ix2 k j) = (y : EReal))
    (h3 : ∀ j : Fin 4, ∃ y : ℝ, m ((c : Thread nD τ).loc main_arg3) (ix1 j) = (y : EReal))
    (h4 : ∀ (k : Fin 4096) (j : Fin 16), ∃ y : ℝ, m ((c : Thread nD τ).loc main_arg4) (ix2 k j) = (y : EReal))
    (h5 : ∀ j : Fin 16, ∃ y : ℝ, m ((c : Thread nD τ).loc main_arg5) (ix1 j) = (y : EReal)) : (dats m 0 c).arrAt 7 (cfgs 0).N
    = ref (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  obtain ⟨k, q, rfl⟩ : ∃ (k : Fin 8) (q : Fin 512), y = ix2 k q := ⟨y 0, y 1, by funext x; fin_cases x <;> rfl⟩
  have he : (((cfg0.win 7).blk t).view.emb (ix2 k q) : S8x16896.Idx) = ix2 k (row t q) := by
    funext x; apply Fin.ext
    fin_cases x
    · blk_simp [idx t, row]; rfl
    · simp [row, (idx t).2.2.2.2.2]
  have hL := funext (logit_eq m c t q h1 h2 h4)
  rw [outs_at, hL]
  refine Eq.trans ?_ (congrArg (ref _ _ _ _ _ _) he.symm)
  exact (Cert.RouteRefIdeal.Final.v67 _ _ _ _ _ _ (row t q) (real_utop m c h1 h2 h3 _) (real_ctop m c h1 h4 h5 _) k).symm

end Cert.RouteIdeal.Final

end
-- ==== Proof.RouteFinite.lean ====
/- What the router's precondition says: the entries of the gain, the weights and the biases are real numbers. -/
module

public import proofs.«01_k».proof.Pre_route_finite
public import proofs.«01_k».proof.Proof.Finite

@[expose] public section

noncomputable section

namespace Cert.Finite

open Idealize.ShloMosaic

open Cert.Pre_route_finite in
theorem route [Facts] (x0 x1 x2 x3 x4 x5) (h : fn (F := Ideal) x0 x1 x2 x3 x4 x5 = fun _ => 1#1) :
    (∀ k : Fin 4096, ∃ y : ℝ, x1 (ix1 k) = (y : EReal))
      ∧ (∀ (k : Fin 4096) (j : Fin 4), ∃ y : ℝ, x2 (ix2 k j) = (y : EReal)) ∧ (∀ j : Fin 4, ∃ y : ℝ, x3 (ix1 j) = (y : EReal))
      ∧ (∀ (k : Fin 4096) (j : Fin 16), ∃ y : ℝ, x4 (ix2 k j) = (y : EReal)) ∧ (∀ j : Fin 16, ∃ y : ℝ, x5 (ix1 j) = (y : EReal)) := by
  have e := congrFun h (Shape.Idx.first Facts.h_S_)
  unfold fn fn_part1 at e
  obtain ⟨e, e5⟩ := IntOp.andi_eq_one.mp e
  obtain ⟨e, e4⟩ := IntOp.andi_eq_one.mp e
  obtain ⟨e, e3⟩ := IntOp.andi_eq_one.mp e
  obtain ⟨e1, e2⟩ := IntOp.andi_eq_one.mp e
  refine ⟨fun k => ?_, fun k j => ?_, fun j => ?_, fun k j => ?_, fun j => ?_⟩
  · have e' := Host.reduce_andi_all _ _ _ _ _ e1 (ix1 k)
    refine real_of_lt _ (Ideal.ofBits .f32 0x7F800000#32) (Eq.trans (Eq.symm ?_) e')
    pointwise []
  · have e' := Host.reduce_andi_all _ _ _ _ _ e2 (ix2 k j)
    refine real_of_lt _ (Ideal.ofBits .f32 0x7F800000#32) (Eq.trans (Eq.symm ?_) e')
    pointwise []
  · have e' := Host.reduce_andi_all _ _ _ _ _ e3 (ix1 j)
    refine real_of_lt _ (Ideal.ofBits .f32 0x7F800000#32) (Eq.trans (Eq.symm ?_) e')
    pointwise []
  · have e' := Host.reduce_andi_all _ _ _ _ _ e4 (ix2 k j)
    refine real_of_lt _ (Ideal.ofBits .f32 0x7F800000#32) (Eq.trans (Eq.symm ?_) e')
    pointwise []
  · have e' := Host.reduce_andi_all _ _ _ _ _ e5 (ix1 j)
    refine real_of_lt _ (Ideal.ofBits .f32 0x7F800000#32) (Eq.trans (Eq.symm ?_) e')
    pointwise []

end Cert.Finite

end
-- ==== Proof.lean ====
/- The claims of this directory: for each of the seven programs its frame, its idealization's, its reference's, and that the
   idealized program computes the reference. -/
module

public import proofs.«01_k».proof.Defs
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixRefIdeal
public import proofs.«01_k».proof.Proof.Gen.MixS
public import proofs.«01_k».proof.Proof.Gen.MixS.Skeleton
public import proofs.«01_k».proof.Proof.Gen.MixS.Launch
public import proofs.«01_k».proof.Proof.Gen.MixS.Points
public import proofs.«01_k».proof.Proof.Gen.MixS.Frame
public import proofs.«01_k».proof.Proof.Gen.MixSIdeal
public import proofs.«01_k».proof.Proof.Gen.MixSIdeal.Skeleton
public import proofs.«01_k».proof.Proof.Gen.MixSIdeal.Launch
public import proofs.«01_k».proof.Proof.Gen.MixSIdeal.Points
public import proofs.«01_k».proof.Proof.Gen.MixSIdeal.Frame
public import proofs.«01_k».proof.Proof.Gen.MixSRefIdeal
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjRefIdeal
public import proofs.«01_k».proof.Proof.Gen.FinalP
public import proofs.«01_k».proof.Proof.Gen.FinalP.Skeleton
public import proofs.«01_k».proof.Proof.Gen.FinalP.Launch
public import proofs.«01_k».proof.Proof.Gen.FinalP.Points
public import proofs.«01_k».proof.Proof.Gen.FinalP.Frame
public import proofs.«01_k».proof.Proof.Gen.FinalPIdeal
public import proofs.«01_k».proof.Proof.Gen.FinalPIdeal.Skeleton
public import proofs.«01_k».proof.Proof.Gen.FinalPIdeal.Launch
public import proofs.«01_k».proof.Proof.Gen.FinalPIdeal.Points
public import proofs.«01_k».proof.Proof.Gen.FinalPIdeal.Frame
public import proofs.«01_k».proof.Proof.Gen.FinalPRefIdeal
public import proofs.«01_k».proof.Proof.Gen.FinalS
public import proofs.«01_k».proof.Proof.Gen.FinalS.Skeleton
public import proofs.«01_k».proof.Proof.Gen.FinalS.Launch
public import proofs.«01_k».proof.Proof.Gen.FinalS.Points
public import proofs.«01_k».proof.Proof.Gen.FinalS.Frame
public import proofs.«01_k».proof.Proof.Gen.FinalSIdeal
public import proofs.«01_k».proof.Proof.Gen.FinalSIdeal.Skeleton
public import proofs.«01_k».proof.Proof.Gen.FinalSIdeal.Launch
public import proofs.«01_k».proof.Proof.Gen.FinalSIdeal.Points
public import proofs.«01_k».proof.Proof.Gen.FinalSIdeal.Frame
public import proofs.«01_k».proof.Proof.Gen.FinalSRefIdeal
public import proofs.«01_k».proof.Proof.Gen.Pre_prompt_pool_finite
public import proofs.«01_k».proof.Proof.Gen.Pre_sample_pool_finite
public import proofs.«01_k».proof.Proof.Gen.MixIdeal.Value
public import proofs.«01_k».proof.Proof.Gen.MixRefIdeal.Run
public import proofs.«01_k».proof.Proof.Gen.MixRefIdeal.Read
public import proofs.«01_k».proof.Proof.Gen.MixSIdeal.Value
public import proofs.«01_k».proof.Proof.Gen.MixSRefIdeal.Run
public import proofs.«01_k».proof.Proof.Gen.MixSRefIdeal.Read
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.OutProjIdeal.Value
public import proofs.«01_k».proof.Proof.Gen.OutProjRefIdeal.Run
public import proofs.«01_k».proof.Proof.Gen.OutProjRefIdeal.Read
public import proofs.«01_k».proof.Proof.Gen.FinalPIdeal.Value
public import proofs.«01_k».proof.Proof.Gen.FinalPRefIdeal.Run
public import proofs.«01_k».proof.Proof.Gen.FinalPRefIdeal.Read
public import proofs.«01_k».proof.Proof.Gen.FinalSIdeal.Value
public import proofs.«01_k».proof.Proof.Gen.FinalSRefIdeal.Run
public import proofs.«01_k».proof.Proof.Gen.FinalSRefIdeal.Read
public import proofs.«01_k».proof.Proof.InProj
public import proofs.«01_k».proof.Proof.OutProj
public import proofs.«01_k».proof.Proof.FinalP
public import proofs.«01_k».proof.Proof.FinalS
public import proofs.«01_k».proof.Proof.Mix
public import proofs.«01_k».proof.Proof.MixS
public import proofs.«01_k».proof.Proof.Gen.Route
public import proofs.«01_k».proof.Proof.Gen.Route.Skeleton
public import proofs.«01_k».proof.Proof.Gen.Route.Launch
public import proofs.«01_k».proof.Proof.Gen.Route.Points
public import proofs.«01_k».proof.Proof.Gen.Route.Frame
public import proofs.«01_k».proof.Proof.Gen.RouteIdeal
public import proofs.«01_k».proof.Proof.Gen.RouteIdeal.Skeleton
public import proofs.«01_k».proof.Proof.Gen.RouteIdeal.Launch
public import proofs.«01_k».proof.Proof.Gen.RouteIdeal.Points
public import proofs.«01_k».proof.Proof.Gen.RouteIdeal.Frame
public import proofs.«01_k».proof.Proof.Gen.RouteRefIdeal
public import proofs.«01_k».proof.Proof.Gen.RouteIdeal.Value
public import proofs.«01_k».proof.Proof.Gen.RouteRefIdeal.Run
public import proofs.«01_k».proof.Proof.Gen.RouteRefIdeal.Read
public import proofs.«01_k».proof.Proof.Gen.Pre_route_finite
public import proofs.«01_k».proof.Proof.Route
public import proofs.«01_k».proof.Proof.RouteFinite
public import Idealize.ShloMosaic.Lib.Claim
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The reference of the mixer on the prompt runs, its arguments end unchanged, and it declares no semaphore. -/
theorem frame_MixRef : Cert.quiescent_MixRefIdeal (hMixRefIdeal := Cert.MixRefIdeal.Gen.facts) := fun m ρ _ =>
  (θ_run _ _ _).mono (fun r h => ⟨fun c => (h c).2.2, sem_eq_zero_of_no_sems (by decide) r.2⟩) (Cert.MixRefIdeal.Value.run m ρ)

/-- The value of the mixer on the prompt: on agreeing arguments whose pooled columns are real numbers, the idealized kernel and the reference end with the same two results. -/
theorem value_Mix : Cert.algebraic_MixIdeal_MixRefIdeal_pre_prompt_pool_finite (hMixIdeal := Cert.MixIdeal.Gen.facts) (hMixRefIdeal := Cert.MixRefIdeal.Gen.facts)
    (hPre_prompt_pool_finite := Cert.Pre_prompt_pool_finite.Gen.facts) := by
  pair_intro
  · run_from Cert.MixIdeal.Gen.run_main m g
  · refine (θ_run _ _ _).mono (fun r h c => ⟨(h c).1.trans ?_, (h c).2.1.trans ?_, (h c).2.2⟩) (Cert.MixRefIdeal.Value.run m' g')
    · have e := Cert.MixIdeal.Final.final9 m c (Cert.MixIdeal.Final.finite m c (hpre c))
      obtain ⟨h0, h1, h2, h3, h4, h5, h6⟩ := hagree c
      unfold Cert.MixIdeal.Final.res Cert.MixIdeal.Final.arg0 Cert.MixIdeal.Final.arg1 Cert.MixIdeal.Final.arg2 Cert.MixIdeal.Final.arg3 Cert.MixIdeal.Final.arg4 Cert.MixIdeal.Final.arg5 Cert.MixIdeal.Final.arg6 at e
      rw [← h0, ← h1, ← h2, ← h3, ← h4, ← h5, ← h6] at e
      exact e.symm
    · have e := Cert.MixIdeal.Final.final10 m c
      obtain ⟨h0, -⟩ := hagree c
      unfold Cert.MixIdeal.Final.arg0 at e
      rw [← h0] at e
      exact e.symm

/-- The reference of the mixer on the samples runs, its arguments end unchanged, and it declares no semaphore. -/
theorem frame_MixSRef : Cert.quiescent_MixSRefIdeal (hMixSRefIdeal := Cert.MixSRefIdeal.Gen.facts) := fun m ρ _ =>
  (θ_run _ _ _).mono (fun r h => ⟨fun c => (h c).2.2.2, sem_eq_zero_of_no_sems (by decide) r.2⟩) (Cert.MixSRefIdeal.Value.run m ρ)

/-- The value of the mixer on the samples: on agreeing arguments whose pooled columns and rows kept from before are real numbers, the idealized kernel and the reference end with the same three results. -/
theorem value_MixS : Cert.algebraic_MixSIdeal_MixSRefIdeal_pre_sample_pool_finite (hMixSIdeal := Cert.MixSIdeal.Gen.facts) (hMixSRefIdeal := Cert.MixSRefIdeal.Gen.facts)
    (hPre_sample_pool_finite := Cert.Pre_sample_pool_finite.Gen.facts) := by
  pair_intro
  · run_from Cert.MixSIdeal.Gen.run_main m g
  · refine (θ_run _ _ _).mono (fun r h c => ⟨(h c).1.trans ?_, (h c).2.1.trans ?_, (h c).2.2.1.trans ?_, (h c).2.2.2⟩) (Cert.MixSRefIdeal.Value.run m' g')
    · have e := Cert.MixSIdeal.Final.final10 m c (Cert.MixSIdeal.Final.finite m c (hpre c))
      obtain ⟨h0, h1, h2, h3, h4, h5, h6, h7⟩ := hagree c
      unfold Cert.MixSIdeal.Final.res Cert.MixSIdeal.Final.arg0 Cert.MixSIdeal.Final.arg1 Cert.MixSIdeal.Final.arg2 Cert.MixSIdeal.Final.arg3 Cert.MixSIdeal.Final.arg4 Cert.MixSIdeal.Final.arg5 Cert.MixSIdeal.Final.arg6 Cert.MixSIdeal.Final.arg7 at e
      rw [← h0, ← h1, ← h2, ← h3, ← h4, ← h5, ← h6, ← h7] at e
      exact e.symm
    · have e := Cert.MixSIdeal.Final.final11 m c
      obtain ⟨h0, h1, -⟩ := hagree c
      unfold Cert.MixSIdeal.Final.arg0 Cert.MixSIdeal.Final.arg1 at e
      rw [← h0, ← h1] at e
      exact e.symm
    · have e := Cert.MixSIdeal.Final.final12 m c
      obtain ⟨h0, h1, h2, h3, h4, h5, h6, h7⟩ := hagree c
      unfold Cert.MixSIdeal.Final.arg0 Cert.MixSIdeal.Final.arg4 Cert.MixSIdeal.Final.arg5 at e
      rw [← h0, ← h4, ← h5] at e
      exact e.symm

/-- The reference of the input projection runs, its arguments end unchanged, and it declares no semaphore. -/
theorem frame_InProjRef : Cert.quiescent_InProjRefIdeal (hInProjRefIdeal := Cert.InProjRefIdeal.Gen.facts) := fun m ρ _ =>
  (θ_run _ _ _).mono (fun r h => ⟨fun c => (h c).2, sem_eq_zero_of_no_sems (by decide) r.2⟩) (Cert.InProjRefIdeal.Value.run m ρ)

/-- The value of the input projection: on agreeing arguments the idealized kernel and the reference end with the same result. -/
theorem value_InProj : Cert.algebraic_InProjIdeal_InProjRefIdeal (hInProjRefIdeal := Cert.InProjRefIdeal.Gen.facts) (hInProjIdeal := Cert.InProjIdeal.Gen.facts) := by
  pair_intro
  · run_from Cert.InProjIdeal.Gen.run_main m g
  · refine (θ_run _ _ _).mono (fun r h c => ⟨(h c).1.trans ?_, (h c).2⟩) (Cert.InProjRefIdeal.Value.run m' g')
    have e := Cert.InProjIdeal.Final.final m c
    obtain ⟨h0, h1, h2⟩ := hagree c
    rw [← h0, ← h1, ← h2] at e
    exact e.symm

/-- The reference of the output projection runs, its arguments end unchanged, and it declares no semaphore. -/
theorem frame_OutProjRef : Cert.quiescent_OutProjRefIdeal (hOutProjRefIdeal := Cert.OutProjRefIdeal.Gen.facts) := fun m ρ _ =>
  (θ_run _ _ _).mono (fun r h => ⟨fun c => (h c).2, sem_eq_zero_of_no_sems (by decide) r.2⟩) (Cert.OutProjRefIdeal.Value.run m ρ)

/-- The value of the output projection: on agreeing arguments the idealized kernel and the reference end with the same result. -/
theorem value_OutProj : Cert.algebraic_OutProjIdeal_OutProjRefIdeal (hOutProjRefIdeal := Cert.OutProjRefIdeal.Gen.facts) (hOutProjIdeal := Cert.OutProjIdeal.Gen.facts) := by
  pair_intro
  · run_from Cert.OutProjIdeal.Gen.run_main m g
  · refine (θ_run _ _ _).mono (fun r h c => ⟨(h c).1.trans ?_, (h c).2⟩) (Cert.OutProjRefIdeal.Value.run m' g')
    have e := Cert.OutProjIdeal.Final.final m c
    obtain ⟨h0, h1, h2, h3⟩ := hagree c
    rw [← h0, ← h1, ← h2, ← h3] at e
    exact e.symm

/-- The reference of the final norm on the prompt's rows runs, its arguments end unchanged, and it declares no semaphore. -/
theorem frame_FinalPRef : Cert.quiescent_FinalPRefIdeal (hFinalPRefIdeal := Cert.FinalPRefIdeal.Gen.facts) := fun m ρ _ =>
  (θ_run _ _ _).mono (fun r h => ⟨fun c => (h c).2, sem_eq_zero_of_no_sems (by decide) r.2⟩) (Cert.FinalPRefIdeal.Value.run m ρ)

/-- The value of the final norm on the prompt's rows: on agreeing arguments the idealized kernel and the reference end with the same result. -/
theorem value_FinalP : Cert.algebraic_FinalPIdeal_FinalPRefIdeal (hFinalPRefIdeal := Cert.FinalPRefIdeal.Gen.facts) (hFinalPIdeal := Cert.FinalPIdeal.Gen.facts) := by
  pair_intro
  · run_from Cert.FinalPIdeal.Gen.run_main m g
  · refine (θ_run _ _ _).mono (fun r h c => ⟨(h c).1.trans ?_, (h c).2⟩) (Cert.FinalPRefIdeal.Value.run m' g')
    have e := Cert.FinalPIdeal.Final.final m c
    obtain ⟨h0, h1⟩ := hagree c
    rw [← h0, ← h1] at e
    exact e.symm

/-- The reference of the final norm on the samples' rows runs, its arguments end unchanged, and it declares no semaphore. -/
theorem frame_FinalSRef : Cert.quiescent_FinalSRefIdeal (hFinalSRefIdeal := Cert.FinalSRefIdeal.Gen.facts) := fun m ρ _ =>
  (θ_run _ _ _).mono (fun r h => ⟨fun c => (h c).2, sem_eq_zero_of_no_sems (by decide) r.2⟩) (Cert.FinalSRefIdeal.Value.run m ρ)

/-- The value of the final norm on the samples' rows: on agreeing arguments the idealized kernel and the reference end with the same result. -/
theorem value_FinalS : Cert.algebraic_FinalSIdeal_FinalSRefIdeal (hFinalSRefIdeal := Cert.FinalSRefIdeal.Gen.facts) (hFinalSIdeal := Cert.FinalSIdeal.Gen.facts) := by
  pair_intro
  · run_from Cert.FinalSIdeal.Gen.run_main m g
  · refine (θ_run _ _ _).mono (fun r h c => ⟨(h c).1.trans ?_, (h c).2⟩) (Cert.FinalSRefIdeal.Value.run m' g')
    have e := Cert.FinalSIdeal.Final.final m c
    obtain ⟨h0, h1⟩ := hagree c
    rw [← h0, ← h1] at e
    exact e.symm

/-- The reference of the router's gates runs, its arguments end unchanged, and it declares no semaphore. -/
theorem frame_RouteRef : Cert.quiescent_RouteRefIdeal (hRouteRefIdeal := Cert.RouteRefIdeal.Gen.facts) := fun m ρ _ =>
  (θ_run _ _ _).mono (fun r h => ⟨fun c => (h c).2, sem_eq_zero_of_no_sems (by decide) r.2⟩) (Cert.RouteRefIdeal.Value.run m ρ)

/-- The value of the router's gates: on agreeing arguments whose gain, weights and biases are real numbers, the idealized kernel and the reference end with the same gates. -/
theorem value_Route : Cert.algebraic_RouteIdeal_RouteRefIdeal_pre_route_finite (hRouteIdeal := Cert.RouteIdeal.Gen.facts) (hRouteRefIdeal := Cert.RouteRefIdeal.Gen.facts)
    (hPre_route_finite := Cert.Pre_route_finite.Gen.facts) := by
  intro m g m' g' hpre hagree
  refine ⟨fun c => (Cert.RouteIdeal.Gen.dats m 0 c).arrAt 7 Cert.RouteIdeal.cfg0.N, ?_, ?_⟩
  · exact (θ_run _ _ _).mono (fun r h c => ⟨Cert.RouteIdeal.Value.post7 m r h c, Cert.RouteIdeal.Value.kept_main_arg0 m r h c, Cert.RouteIdeal.Value.kept_main_arg1 m r h c, Cert.RouteIdeal.Value.kept_main_arg2 m r h c,
      Cert.RouteIdeal.Value.kept_main_arg3 m r h c, Cert.RouteIdeal.Value.kept_main_arg4 m r h c, Cert.RouteIdeal.Value.kept_main_arg5 m r h c⟩)
      (Cert.RouteIdeal.Gen.run_main m g)
  · refine (θ_run _ _ _).mono (fun r h c => ⟨(h c).1.trans ?_, (h c).2⟩) (Cert.RouteRefIdeal.Value.run m' g')
    obtain ⟨f1, f2, f3, f4, f5⟩ := @Cert.Finite.route Cert.Pre_route_finite.Gen.facts _ _ _ _ _ _ (hpre c)
    have e := Cert.RouteIdeal.Final.final m c f1 f2 f3 f4 f5
    obtain ⟨h0, h1, h2, h3, h4, h5⟩ := hagree c
    rw [← h0, ← h1, ← h2, ← h3, ← h4, ← h5] at e
    rw [Cert.RouteRefIdeal.Read.val_main_v67_eq]
    exact e.symm

/-- The rewritings of the router's packed words: its array of words and their blocks as pairs of rows, and the words themselves. -/
theorem words_Route : Cert.preserves_Route_RouteIdeal :=
  ⟨IdealRules.bf16_pair.bufferStatement _ _, IdealRules.bf16_pair.bufferStatement _ _, IdealRules.bf16_pair.statement _ _, IdealRules.bf16_pack.statement _⟩

/-- Every claim. -/
theorem claim : Cert.Claim :=
  ⟨Cert.Mix.Gen.facts, Cert.MixIdeal.Gen.facts, Cert.MixRefIdeal.Gen.facts, Cert.MixS.Gen.facts, Cert.MixSIdeal.Gen.facts, Cert.MixSRefIdeal.Gen.facts, Cert.InProj.Gen.facts, Cert.InProjIdeal.Gen.facts, Cert.InProjRefIdeal.Gen.facts, Cert.OutProj.Gen.facts, Cert.OutProjIdeal.Gen.facts, Cert.OutProjRefIdeal.Gen.facts, Cert.FinalP.Gen.facts, Cert.FinalPIdeal.Gen.facts, Cert.FinalPRefIdeal.Gen.facts, Cert.FinalS.Gen.facts, Cert.FinalSIdeal.Gen.facts, Cert.FinalSRefIdeal.Gen.facts, Cert.Route.Gen.facts, Cert.RouteIdeal.Gen.facts, Cert.RouteRefIdeal.Gen.facts, Cert.Pre_prompt_pool_finite.Gen.facts, Cert.Pre_sample_pool_finite.Gen.facts, Cert.Pre_route_finite.Gen.facts,
    fun m ρ _ => Cert.Mix.Gen.frame m ρ,
    fun m ρ _ => Cert.MixIdeal.Gen.frame m ρ,
    fun m ρ _ => Cert.MixIdeal.Gen.frame m ρ,
    frame_MixRef,
    fun m ρ _ => frame_MixRef m ρ trivial,
    fun m ρ _ => Cert.MixS.Gen.frame m ρ,
    fun m ρ _ => Cert.MixSIdeal.Gen.frame m ρ,
    fun m ρ _ => Cert.MixSIdeal.Gen.frame m ρ,
    frame_MixSRef,
    fun m ρ _ => frame_MixSRef m ρ trivial,
    fun m ρ _ => Cert.InProj.Gen.frame m ρ,
    fun m ρ _ => Cert.InProjIdeal.Gen.frame m ρ,
    frame_InProjRef,
    fun m ρ _ => Cert.OutProj.Gen.frame m ρ,
    fun m ρ _ => Cert.OutProjIdeal.Gen.frame m ρ,
    frame_OutProjRef,
    fun m ρ _ => Cert.FinalP.Gen.frame m ρ,
    fun m ρ _ => Cert.FinalPIdeal.Gen.frame m ρ,
    frame_FinalPRef,
    fun m ρ _ => Cert.FinalS.Gen.frame m ρ,
    fun m ρ _ => Cert.FinalSIdeal.Gen.frame m ρ,
    frame_FinalSRef,
    fun m ρ _ => Cert.Route.Gen.frame m ρ,
    fun m ρ _ => Cert.RouteIdeal.Gen.frame m ρ,
    fun m ρ _ => Cert.RouteIdeal.Gen.frame m ρ,
    frame_RouteRef,
    fun m ρ _ => frame_RouteRef m ρ trivial,
    trivial,
    value_Mix,
    trivial,
    value_MixS,
    trivial,
    value_InProj,
    trivial,
    value_OutProj,
    trivial,
    value_FinalP,
    trivial,
    value_FinalS,
    words_Route,
    value_Route⟩

end Cert.Proof

end
